-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_rows [hPre_finite_rows : Cert.Pre_finite_rows.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_rows.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).1 = (fun _ => 1#1)
    ∧ (Cert.Pre_finite_rows.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.1 = (fun _ => 1#1)
    ∧ (Cert.Pre_finite_rows.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_rows [hPre_finite_rows : Cert.Pre_finite_rows.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_rows.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).1 = (fun _ => 1#1)
    ∧ (Cert.Pre_finite_rows.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.1 = (fun _ => 1#1)
    ∧ (Cert.Pre_finite_rows.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Kernel3Ideal_pre_finite_rows [hKernel3Ideal : Cert.Kernel3Ideal.Facts] [hPre_finite_rows : Cert.Pre_finite_rows.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_rows m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Reference3Ideal_pre_finite_rows [hReference3Ideal : Cert.Reference3Ideal.Facts] [hPre_finite_rows : Cert.Pre_finite_rows.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_rows m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def preserves_Kernel_KernelIdeal : Prop :=
  IdealRules.named_const.Statement Cert.KernelIdeal.κ "qk_scale_log2" .f32 0x3E38AA3B#32 (((Real.log 2)⁻¹ * (Real.sqrt 64)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v23)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v23) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v59) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  True

def algebraic_Kernel3Ideal_Reference3Ideal_pre_finite_rows [hKernel3Ideal : Cert.Kernel3Ideal.Facts] [hReference3Ideal : Cert.Reference3Ideal.Facts] [hPre_finite_rows : Cert.Pre_finite_rows.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_rows m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v31_0)) (v1 : (c : Dev Cert.Kernel3Ideal.nD) → Buf (Elt Ideal) ((c.tc : Thread Cert.Kernel3Ideal.nD Cert.Kernel3Ideal.τ).loc Cert.Kernel3Ideal.main_v31_1)) (v2 : (c : Dev Cert.Kernel3Ideal.nD) → Buf (Elt Ideal) ((c.tc : Thread Cert.Kernel3Ideal.nD Cert.Kernel3Ideal.τ).loc Cert.Kernel3Ideal.main_v31_2)) (v3 : (c : Dev Cert.Kernel3Ideal.nD) → Buf (Elt Ideal) ((c.tc : Thread Cert.Kernel3Ideal.nD Cert.Kernel3Ideal.τ).loc Cert.Kernel3Ideal.main_v31_3)) (v4 : (c : Dev Cert.Kernel3Ideal.nD) → Buf (Elt Ideal) ((c.tc : Thread Cert.Kernel3Ideal.nD Cert.Kernel3Ideal.τ).loc Cert.Kernel3Ideal.main_v31_4)) (v5 : (c : Dev Cert.Kernel3Ideal.nD) → Buf (Elt Ideal) ((c.tc : Thread Cert.Kernel3Ideal.nD Cert.Kernel3Ideal.τ).loc Cert.Kernel3Ideal.main_v31_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v31_0) = v0 c
          ∧ r.2.mem ((c.tc : Thread Cert.Kernel3Ideal.nD Cert.Kernel3Ideal.τ).loc Cert.Kernel3Ideal.main_v31_1) = v1 c
          ∧ r.2.mem ((c.tc : Thread Cert.Kernel3Ideal.nD Cert.Kernel3Ideal.τ).loc Cert.Kernel3Ideal.main_v31_2) = v2 c
          ∧ r.2.mem ((c.tc : Thread Cert.Kernel3Ideal.nD Cert.Kernel3Ideal.τ).loc Cert.Kernel3Ideal.main_v31_3) = v3 c
          ∧ r.2.mem ((c.tc : Thread Cert.Kernel3Ideal.nD Cert.Kernel3Ideal.τ).loc Cert.Kernel3Ideal.main_v31_4) = v4 c
          ∧ r.2.mem ((c.tc : Thread Cert.Kernel3Ideal.nD Cert.Kernel3Ideal.τ).loc Cert.Kernel3Ideal.main_v31_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v166) = v0 c
          ∧ r.2.mem ((c.tc : Thread Cert.Reference3Ideal.nD Cert.Reference3Ideal.τ).loc Cert.Reference3Ideal.main_v171) = v1 c
          ∧ r.2.mem ((c.tc : Thread Cert.Reference3Ideal.nD Cert.Reference3Ideal.τ).loc Cert.Reference3Ideal.main_v169) = v2 c
          ∧ r.2.mem ((c.tc : Thread Cert.Reference3Ideal.nD Cert.Reference3Ideal.τ).loc Cert.Reference3Ideal.main_v172) = v3 c
          ∧ r.2.mem ((c.tc : Thread Cert.Reference3Ideal.nD Cert.Reference3Ideal.τ).loc Cert.Reference3Ideal.main_v174) = v4 c
          ∧ r.2.mem ((c.tc : Thread Cert.Reference3Ideal.nD Cert.Reference3Ideal.τ).loc Cert.Reference3Ideal.main_v181) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts) (hPre_finite_rows : Cert.Pre_finite_rows.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_rows (hKernel3Ideal := hKernel3Ideal) (hPre_finite_rows := hPre_finite_rows)
    ∧ quiescent_Reference3Ideal (hReference3Ideal := hReference3Ideal)
    ∧ quiescent_Reference3Ideal_pre_finite_rows (hReference3Ideal := hReference3Ideal) (hPre_finite_rows := hPre_finite_rows)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_rows (hKernel3Ideal := hKernel3Ideal) (hReference3Ideal := hReference3Ideal) (hPre_finite_rows := hPre_finite_rows)
-- ==== Pre_finite_rows.lean ====
abbrev S2x8192x1024 : Shape := ⟨3, ![2, 8192, 1024]⟩
abbrev S1x1024 : Shape := ⟨2, ![1, 1024]⟩
abbrev S1x1024x3840 : Shape := ⟨3, ![1, 1024, 3840]⟩
abbrev S1x64 : Shape := ⟨2, ![1, 64]⟩
abbrev S1x8x64 : Shape := ⟨3, ![1, 8, 64]⟩
abbrev S8192x16 : Shape := ⟨2, ![8192, 16]⟩
abbrev S_ : Shape := ⟨0, ![]⟩

class Facts : Prop where
  bcast_S_S2x8192x1024 : S_.BroadcastsInDim S2x8192x1024 (![] : Fin 0 → Fin S2x8192x1024.rank)
  bcast_S_S1x1024 : S_.BroadcastsInDim S1x1024 (![] : Fin 0 → Fin S1x1024.rank)
  bcast_S_S1x1024x3840 : S_.BroadcastsInDim S1x1024x3840 (![] : Fin 0 → Fin S1x1024x3840.rank)

variable [Facts]

def fn {F : FTy → Type} [FloatOps F] (main_arg0 : FVec F S2x8192x1024 .f32) (main_arg1 : FVec F S1x1024 .f32) (main_arg2 : FVec F S1x1024x3840 .f32) (main_arg3 : FVec F S1x64 .f32) (main_arg4 : FVec F S1x64 .f32) (main_arg5 : FVec F S1x8x64 .f32) (main_arg6 : FVec F S1x8x64 .f32) (main_arg7 : FVec F S8192x16 .f32) (main_arg8 : FVec F S8192x16 .f32) (main_arg9 : FVec F S8192x16 .f32) (main_arg10 : FVec F S8192x16 .f32) : IVec S2x8192x1024 1 × IVec S1x1024 1 × IVec S1x1024x3840 1 :=
  let main_v0 : FVec F S2x8192x1024 .f32 := Host.absf main_arg0
  let main_cst : FVec F S_ .f32 := constant S_ .f32 0x7F800000#32
  let main_v1 : FVec F S2x8192x1024 .f32 := broadcastInDim S2x8192x1024 ![] bcast_S_S2x8192x1024 main_cst
  let main_v2 : IVec S2x8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x3840 .f32 := Host.absf main_arg2
  let main_cst_1 : FVec F S_ .f32 := constant S_ .f32 0x7F800000#32
  let main_v7 : FVec F S1x1024x3840 .f32 := broadcastInDim S1x1024x3840 ![] bcast_S_S1x1024x3840 main_cst_1
  let main_v8 : IVec S1x1024x3840 1 := cmpf .olt main_v6 main_v7
  (main_v2, main_v5, main_v8)
-- ==== Pre_finite_scores.lean ====
abbrev S2x8192x8x64 : Shape := ⟨4, ![2, 8192, 8, 64]⟩
abbrev S2x8192x2x64 : Shape := ⟨4, ![2, 8192, 2, 64]⟩
abbrev S1x64 : Shape := ⟨2, ![1, 64]⟩
abbrev S_ : Shape := ⟨0, ![]⟩

class Facts : Prop where
  bcast_S_S2x8192x8x64 : S_.BroadcastsInDim S2x8192x8x64 (![] : Fin 0 → Fin S2x8192x8x64.rank)
  bcast_S_S2x8192x2x64 : S_.BroadcastsInDim S2x8192x2x64 (![] : Fin 0 → Fin S2x8192x2x64.rank)
  bcast_S_S1x64 : S_.BroadcastsInDim S1x64 (![] : Fin 0 → Fin S1x64.rank)

variable [Facts]

def fn {F : FTy → Type} [FloatOps F] (main_arg0 : FVec F S2x8192x8x64 .f32) (main_arg1 : FVec F S2x8192x2x64 .f32) (main_arg2 : FVec F S2x8192x2x64 .f32) (main_arg3 : FVec F S1x64 .f32) (main_arg4 : FVec F S1x64 .f32) : IVec S2x8192x8x64 1 × IVec S2x8192x2x64 1 × IVec S1x64 1 × IVec S1x64 1 :=
  let main_v0 : FVec F S2x8192x8x64 .f32 := Host.absf main_arg0
  let main_cst : FVec F S_ .f32 := constant S_ .f32 0x7F800000#32
  let main_v1 : FVec F S2x8192x8x64 .f32 := broadcastInDim S2x8192x8x64 ![] bcast_S_S2x8192x8x64 main_cst
  let main_v2 : IVec S2x8192x8x64 1 := cmpf .olt main_v0 main_v1
  let main_v3 : FVec F S2x8192x2x64 .f32 := Host.absf main_arg1
  let main_cst_0 : FVec F S_ .f32 := constant S_ .f32 0x7F800000#32
  let main_v4 : FVec F S2x8192x2x64 .f32 := broadcastInDim S2x8192x2x64 ![] bcast_S_S2x8192x2x64 main_cst_0
  let main_v5 : IVec S2x8192x2x64 1 := cmpf .olt main_v3 main_v4
  let main_v6 : FVec F S1x64 .f32 := Host.absf main_arg3
  let main_cst_1 : FVec F S_ .f32 := constant S_ .f32 0x7F800000#32
  let main_v7 : FVec F S1x64 .f32 := broadcastInDim S1x64 ![] bcast_S_S1x64 main_cst_1
  let main_v8 : IVec S1x64 1 := cmpf .olt main_v6 main_v7
  let main_v9 : FVec F S1x64 .f32 := Host.absf main_arg4
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  (main_v2, main_v5, main_v8, main_v11)
-- ==== Kernel.lean ====
abbrev S2x8192x8x64 : Shape := ⟨4, ![2, 8192, 8, 64]⟩
abbrev S2x8192x2x64 : Shape := ⟨4, ![2, 8192, 2, 64]⟩
abbrev S1x64 : Shape := ⟨2, ![1, 64]⟩
abbrev S64x256x8x64 : Shape := ⟨4, ![64, 256, 8, 64]⟩
abbrev S64x8x64x256 : Shape := ⟨4, ![64, 8, 64, 256]⟩
abbrev S_ : Shape := ⟨0, ![]⟩
abbrev S64x4x64x256 : Shape := ⟨4, ![64, 4, 64, 256]⟩
abbrev S64x4x128x256 : Shape := ⟨4, ![64, 4, 128, 256]⟩
abbrev S64x8x128x256 : Shape := ⟨4, ![64, 8, 128, 256]⟩
abbrev S2x8192x128 : Shape := ⟨3, ![2, 8192, 128]⟩
abbrev S2x32x256x128 : Shape := ⟨4, ![2, 32, 256, 128]⟩
abbrev S2x32x128x256 : Shape := ⟨4, ![2, 32, 128, 256]⟩
abbrev S64 : Shape := ⟨1, ![64]⟩
abbrev S1 : Shape := ⟨1, ![1]⟩
abbrev S64x512x256 : Shape := ⟨3, ![64, 512, 256]⟩
abbrev S1x8x128x256 : Shape := ⟨4, ![1, 8, 128, 256]⟩
abbrev S1x8192x128 : Shape := ⟨3, ![1, 8192, 128]⟩
abbrev S1x32x128x256 : Shape := ⟨4, ![1, 32, 128, 256]⟩
abbrev S1x512x256 : Shape := ⟨3, ![1, 512, 256]⟩
abbrev S8x256x256 : Shape := ⟨3, ![8, 256, 256]⟩
abbrev S8x1x256 : Shape := ⟨3, ![8, 1, 256]⟩
abbrev S8x8x256 : Shape := ⟨3, ![8, 8, 256]⟩
abbrev S8x64x256 : Shape := ⟨3, ![8, 64, 256]⟩
abbrev S1x1x128x256 : Shape := ⟨4, ![1, 1, 128, 256]⟩
abbrev S128x256 : Shape := ⟨2, ![128, 256]⟩
abbrev S1x256x128 : Shape := ⟨3, ![1, 256, 128]⟩
abbrev S256x128 : Shape := ⟨2, ![256, 128]⟩
abbrev S256x256 : Shape := ⟨2, ![256, 256]⟩
abbrev S1x256x256 : Shape := ⟨3, ![1, 256, 256]⟩
abbrev S64x256 : Shape := ⟨2, ![64, 256]⟩
abbrev S1x8x256 : Shape := ⟨3, ![1, 8, 256]⟩
abbrev S8x256 : Shape := ⟨2, ![8, 256]⟩
abbrev S32x8x256 : Shape := ⟨3, ![32, 8, 256]⟩
abbrev S1x64x256 : Shape := ⟨3, ![1, 64, 256]⟩
abbrev S256 : Shape := ⟨1, ![256]⟩
abbrev S1x256 : Shape := ⟨2, ![1, 256]⟩

abbrev nBuf : Space → Nat
  | .hbm => 32
  | .vmem => 13
  | .smem => 1
  | _ => 0

abbrev bufTy : (tb : Table) → Fin (tcTables nBuf tb) → BufTy
  | .hbm, ⟨0, _⟩ => ⟨S2x8192x8x64, .f32⟩
  | .hbm, ⟨1, _⟩ => ⟨S2x8192x2x64, .f32⟩
  | .hbm, ⟨2, _⟩ => ⟨S2x8192x2x64, .f32⟩
  | .hbm, ⟨3, _⟩ => ⟨S1x64, .f32⟩
  | .hbm, ⟨4, _⟩ => ⟨S1x64, .f32⟩
  | .hbm, ⟨5, _⟩ => ⟨S64x256x8x64, .f32⟩
  | .hbm, ⟨6, _⟩ => ⟨S64x8x64x256, .f32⟩
  | .hbm, ⟨7, _⟩ => ⟨S_, .f32⟩
  | .hbm, ⟨8, _⟩ => ⟨S64x4x64x256, .f32⟩
  | .hbm, ⟨9, _⟩ => ⟨S64x4x64x256, .f32⟩
  | .hbm, ⟨10, _⟩ => ⟨S64x4x128x256, .f32⟩
  | .hbm, ⟨11, _⟩ => ⟨S64x4x64x256, .f32⟩
  | .hbm, ⟨12, _⟩ => ⟨S64x4x128x256, .f32⟩
  | .hbm, ⟨13, _⟩ => ⟨S64x8x128x256, .f32⟩
  | .hbm, ⟨14, _⟩ => ⟨S2x8192x128, .f32⟩
  | .hbm, ⟨15, _⟩ => ⟨S2x8192x128, .bf16⟩
  | .hbm, ⟨16, _⟩ => ⟨S2x32x256x128, .f32⟩
  | .hbm, ⟨17, _⟩ => ⟨S2x32x128x256, .f32⟩
  | .hbm, ⟨18, _⟩ => ⟨S2x32x128x256, .bf16⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S1, .f32⟩
  | .hbm, ⟨31, _⟩ => ⟨S64x512x256, .bf16⟩
  | .local _ .vmem, ⟨0, _⟩ => ⟨S1x8x128x256, .f32⟩
  | .local _ .vmem, ⟨1, _⟩ => ⟨S1x8x128x256, .f32⟩
  | .local _ .vmem, ⟨2, _⟩ => ⟨S1x8192x128, .bf16⟩
  | .local _ .vmem, ⟨3, _⟩ => ⟨S1x8192x128, .bf16⟩
  | .local _ .vmem, ⟨4, _⟩ => ⟨S1x32x128x256, .bf16⟩
  | .local _ .vmem, ⟨5, _⟩ => ⟨S1x32x128x256, .bf16⟩
  | .local _ .vmem, ⟨6, _⟩ => ⟨S1x512x256, .bf16⟩
  | .local _ .vmem, ⟨7, _⟩ => ⟨S1x512x256, .bf16⟩
  | .local _ .vmem, ⟨8, _⟩ => ⟨S8x256x256, .f32⟩
  | .local _ .vmem, ⟨9, _⟩ => ⟨S8x256x256, .f32⟩
  | .local _ .vmem, ⟨10, _⟩ => ⟨S8x1x256, .f32⟩
  | .local _ .vmem, ⟨11, _⟩ => ⟨S8x8x256, .f32⟩
  | .local _ .vmem, ⟨12, _⟩ => ⟨S8x64x256, .f32⟩
  | .local _ .smem, ⟨0, _⟩ => ⟨S1, .f32⟩
  | _, _ => ⟨S2x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 32], ![false, false]⟩

def k0_mult1 : BitVec 32 :=
  let c0_i32 : BitVec 32 := 0#32
  c0_i32
def k0_mult2 : BitVec 32 :=
  let c16_i32 : BitVec 32 := 16#32
  let c0_i32_74 : BitVec 32 := 0#32
  let v85 : BitVec 32 := Scalar.muli c16_i32 c0_i32_74
  let c0_i32_75 : BitVec 32 := 0#32
  let v86 : BitVec 32 := Scalar.addi v85 c0_i32_75
  let c1_i32 : BitVec 32 := 1#32
  let v87 : BitVec 32 := Scalar.addi v86 c1_i32
  let c256_i32 : BitVec 32 := 256#32
  let v88 : BitVec 32 := Scalar.muli v87 c256_i32
  v88
def k0_off1 (c0_i32_75 : BitVec 32) : Fin 3 → Nat :=
  let c0_76 : Index := 0#32
  let c16_i32 : BitVec 32 := 16#32
  let c0_i32_74 : BitVec 32 := 0#32
  let v85 : BitVec 32 := Scalar.muli c16_i32 c0_i32_74
  let v86 : BitVec 32 := Scalar.addi v85 c0_i32_75
  let c1_i32 : BitVec 32 := 1#32
  let v87 : BitVec 32 := Scalar.addi v86 c1_i32
  let c256_i32 : BitVec 32 := 256#32
  let v88 : BitVec 32 := Scalar.muli v87 c256_i32
  let v89 : BitVec 32 := v88
  let v90 : Index := Scalar.indexCast v89
  let c0_77 : Index := 0#32
  ![0, v90.toNat, 0]
def k0_off2 (c0_i32_75 : BitVec 32) : Fin 4 → Nat :=
  let c0_78 : Index := 0#32
  let c16_i32 : BitVec 32 := 16#32
  let c0_i32_74 : BitVec 32 := 0#32
  let v85 : BitVec 32 := Scalar.muli c16_i32 c0_i32_74
  let v86 : BitVec 32 := Scalar.addi v85 c0_i32_75
  let v93 : Index := Scalar.indexCast v86
  let c0_79 : Index := 0#32
  let c0_80 : Index := 0#32
  ![0, v93.toNat, 0, 0]
def k0_mult3 : BitVec 32 :=
  let c16_i32 : BitVec 32 := 16#32
  let c0_i32_74 : BitVec 32 := 0#32
  let v85 : BitVec 32 := Scalar.muli c16_i32 c0_i32_74
  let c1_i32_249 : BitVec 32 := 1#32
  let v304 : BitVec 32 := Scalar.addi v85 c1_i32_249
  let c1_i32_250 : BitVec 32 := 1#32
  let v305 : BitVec 32 := Scalar.addi v304 c1_i32_250
  let c256_i32_251 : BitVec 32 := 256#32
  let v306 : BitVec 32 := Scalar.muli v305 c256_i32_251
  v306
def k0_mult4 : BitVec 32 :=
  let c16_i32 : BitVec 32 := 16#32
  let c0_i32_74 : BitVec 32 := 0#32
  let v85 : BitVec 32 := Scalar.muli c16_i32 c0_i32_74
  let c2_i32 : BitVec 32 := 2#32
  let v522 : BitVec 32 := Scalar.addi v85 c2_i32
  let c1_i32_425 : BitVec 32 := 1#32
  let v523 : BitVec 32 := Scalar.addi v522 c1_i32_425
  let c256_i32_426 : BitVec 32 := 256#32
  let v524 : BitVec 32 := Scalar.muli v523 c256_i32_426
  v524
def k0_mult5 : BitVec 32 :=
  let c16_i32 : BitVec 32 := 16#32
  let c0_i32_74 : BitVec 32 := 0#32
  let v85 : BitVec 32 := Scalar.muli c16_i32 c0_i32_74
  let c3_i32 : BitVec 32 := 3#32
  let v740 : BitVec 32 := Scalar.addi v85 c3_i32
  let c1_i32_600 : BitVec 32 := 1#32
  let v741 : BitVec 32 := Scalar.addi v740 c1_i32_600
  let c256_i32_601 : BitVec 32 := 256#32
  let v742 : BitVec 32 := Scalar.muli v741 c256_i32_601
  v742
def k0_mult6 : BitVec 32 :=
  let c16_i32 : BitVec 32 := 16#32
  let c0_i32_74 : BitVec 32 := 0#32
  let v85 : BitVec 32 := Scalar.muli c16_i32 c0_i32_74
  let c4_i32 : BitVec 32 := 4#32
  let v958 : BitVec 32 := Scalar.addi v85 c4_i32
  let c1_i32_775 : BitVec 32 := 1#32
  let v959 : BitVec 32 := Scalar.addi v958 c1_i32_775
  let c256_i32_776 : BitVec 32 := 256#32
  let v960 : BitVec 32 := Scalar.muli v959 c256_i32_776
  v960
def k0_mult7 : BitVec 32 :=
  let c16_i32 : BitVec 32 := 16#32
  let c0_i32_74 : BitVec 32 := 0#32
  let v85 : BitVec 32 := Scalar.muli c16_i32 c0_i32_74
  let c5_i32 : BitVec 32 := 5#32
  let v1176 : BitVec 32 := Scalar.addi v85 c5_i32
  let c1_i32_950 : BitVec 32 := 1#32
  let v1177 : BitVec 32 := Scalar.addi v1176 c1_i32_950
  let c256_i32_951 : BitVec 32 := 256#32
  let v1178 : BitVec 32 := Scalar.muli v1177 c256_i32_951
  v1178
def k0_mult8 : BitVec 32 :=
  let c16_i32 : BitVec 32 := 16#32
  let c0_i32_74 : BitVec 32 := 0#32
  let v85 : BitVec 32 := Scalar.muli c16_i32 c0_i32_74
  let c6_i32 : BitVec 32 := 6#32
  let v1394 : BitVec 32 := Scalar.addi v85 c6_i32
  let c1_i32_1125 : BitVec 32 := 1#32
  let v1395 : BitVec 32 := Scalar.addi v1394 c1_i32_1125
  let c256_i32_1126 : BitVec 32 := 256#32
  let v1396 : BitVec 32 := Scalar.muli v1395 c256_i32_1126
  v1396
def k0_mult9 : BitVec 32 :=
  let c16_i32 : BitVec 32 := 16#32
  let c0_i32_74 : BitVec 32 := 0#32
  let v85 : BitVec 32 := Scalar.muli c16_i32 c0_i32_74
  let c7_i32 : BitVec 32 := 7#32
  let v1612 : BitVec 32 := Scalar.addi v85 c7_i32
  let c1_i32_1300 : BitVec 32 := 1#32
  let v1613 : BitVec 32 := Scalar.addi v1612 c1_i32_1300
  let c256_i32_1301 : BitVec 32 := 256#32
  let v1614 : BitVec 32 := Scalar.muli v1613 c256_i32_1301
  v1614
def k0_mult10 : BitVec 32 :=
  let c16_i32 : BitVec 32 := 16#32
  let c0_i32_74 : BitVec 32 := 0#32
  let v85 : BitVec 32 := Scalar.muli c16_i32 c0_i32_74
  let c8_i32 : BitVec 32 := 8#32
  let v1830 : BitVec 32 := Scalar.addi v85 c8_i32
  let c1_i32_1475 : BitVec 32 := 1#32
  let v1831 : BitVec 32 := Scalar.addi v1830 c1_i32_1475
  let c256_i32_1476 : BitVec 32 := 256#32
  let v1832 : BitVec 32 := Scalar.muli v1831 c256_i32_1476
  v1832
def k0_mult11 : BitVec 32 :=
  let c16_i32 : BitVec 32 := 16#32
  let c0_i32_74 : BitVec 32 := 0#32
  let v85 : BitVec 32 := Scalar.muli c16_i32 c0_i32_74
  let c9_i32 : BitVec 32 := 9#32
  let v2048 : BitVec 32 := Scalar.addi v85 c9_i32
  let c1_i32_1650 : BitVec 32 := 1#32
  let v2049 : BitVec 32 := Scalar.addi v2048 c1_i32_1650
  let c256_i32_1651 : BitVec 32 := 256#32
  let v2050 : BitVec 32 := Scalar.muli v2049 c256_i32_1651
  v2050
def k0_mult12 : BitVec 32 :=
  let c16_i32 : BitVec 32 := 16#32
  let c0_i32_74 : BitVec 32 := 0#32
  let v85 : BitVec 32 := Scalar.muli c16_i32 c0_i32_74
  let c10_i32 : BitVec 32 := 10#32
  let v2266 : BitVec 32 := Scalar.addi v85 c10_i32
  let c1_i32_1825 : BitVec 32 := 1#32
  let v2267 : BitVec 32 := Scalar.addi v2266 c1_i32_1825
  let c256_i32_1826 : BitVec 32 := 256#32
  let v2268 : BitVec 32 := Scalar.muli v2267 c256_i32_1826
  v2268
def k0_mult13 : BitVec 32 :=
  let c16_i32 : BitVec 32 := 16#32
  let c0_i32_74 : BitVec 32 := 0#32
  let v85 : BitVec 32 := Scalar.muli c16_i32 c0_i32_74
  let c11_i32 : BitVec 32 := 11#32
  let v2484 : BitVec 32 := Scalar.addi v85 c11_i32
  let c1_i32_2000 : BitVec 32 := 1#32
  let v2485 : BitVec 32 := Scalar.addi v2484 c1_i32_2000
  let c256_i32_2001 : BitVec 32 := 256#32
  let v2486 : BitVec 32 := Scalar.muli v2485 c256_i32_2001
  v2486
def k0_mult14 : BitVec 32 :=
  let c16_i32 : BitVec 32 := 16#32
  let c0_i32_74 : BitVec 32 := 0#32
  let v85 : BitVec 32 := Scalar.muli c16_i32 c0_i32_74
  let c12_i32 : BitVec 32 := 12#32
  let v2702 : BitVec 32 := Scalar.addi v85 c12_i32
  let c1_i32_2175 : BitVec 32 := 1#32
  let v2703 : BitVec 32 := Scalar.addi v2702 c1_i32_2175
  let c256_i32_2176 : BitVec 32 := 256#32
  let v2704 : BitVec 32 := Scalar.muli v2703 c256_i32_2176
  v2704
def k0_mult15 : BitVec 32 :=
  let c16_i32 : BitVec 32 := 16#32
  let c0_i32_74 : BitVec 32 := 0#32
  let v85 : BitVec 32 := Scalar.muli c16_i32 c0_i32_74
  let c13_i32 : BitVec 32 := 13#32
  let v2920 : BitVec 32 := Scalar.addi v85 c13_i32
  let c1_i32_2350 : BitVec 32 := 1#32
  let v2921 : BitVec 32 := Scalar.addi v2920 c1_i32_2350
  let c256_i32_2351 : BitVec 32 := 256#32
  let v2922 : BitVec 32 := Scalar.muli v2921 c256_i32_2351
  v2922
def k0_mult16 : BitVec 32 :=
  let c16_i32 : BitVec 32 := 16#32
  let c0_i32_74 : BitVec 32 := 0#32
  let v85 : BitVec 32 := Scalar.muli c16_i32 c0_i32_74
  let c14_i32 : BitVec 32 := 14#32
  let v3138 : BitVec 32 := Scalar.addi v85 c14_i32
  let c1_i32_2525 : BitVec 32 := 1#32
  let v3139 : BitVec 32 := Scalar.addi v3138 c1_i32_2525
  let c256_i32_2526 : BitVec 32 := 256#32
  let v3140 : BitVec 32 := Scalar.muli v3139 c256_i32_2526
  v3140
def k0_mult17 : BitVec 32 :=
  let c16_i32 : BitVec 32 := 16#32
  let c0_i32_74 : BitVec 32 := 0#32
  let v85 : BitVec 32 := Scalar.muli c16_i32 c0_i32_74
  let c15_i32 : BitVec 32 := 15#32
  let v3356 : BitVec 32 := Scalar.addi v85 c15_i32
  let c1_i32_2700 : BitVec 32 := 1#32
  let v3357 : BitVec 32 := Scalar.addi v3356 c1_i32_2700
  let c256_i32_2701 : BitVec 32 := 256#32
  let v3358 : BitVec 32 := Scalar.muli v3357 c256_i32_2701
  v3358
def k0_mult18 : BitVec 32 :=
  let c4352_i32 : BitVec 32 := 4352#32
  c4352_i32
def k0_mult19 : BitVec 32 :=
  let c4608_i32 : BitVec 32 := 4608#32
  c4608_i32
def k0_mult20 : BitVec 32 :=
  let c4864_i32 : BitVec 32 := 4864#32
  c4864_i32
def k0_mult21 : BitVec 32 :=
  let c5120_i32 : BitVec 32 := 5120#32
  c5120_i32
def k0_mult22 : BitVec 32 :=
  let c5376_i32 : BitVec 32 := 5376#32
  c5376_i32
def k0_mult23 : BitVec 32 :=
  let c5632_i32 : BitVec 32 := 5632#32
  c5632_i32
def k0_mult24 : BitVec 32 :=
  let c5888_i32 : BitVec 32 := 5888#32
  c5888_i32
def k0_mult25 : BitVec 32 :=
  let c6144_i32 : BitVec 32 := 6144#32
  c6144_i32
def k0_mult26 : BitVec 32 :=
  let c6400_i32 : BitVec 32 := 6400#32
  c6400_i32
def k0_mult27 : BitVec 32 :=
  let c6656_i32 : BitVec 32 := 6656#32
  c6656_i32
def k0_mult28 : BitVec 32 :=
  let c6912_i32 : BitVec 32 := 6912#32
  c6912_i32
def k0_mult29 : BitVec 32 :=
  let c7168_i32 : BitVec 32 := 7168#32
  c7168_i32
def k0_mult30 : BitVec 32 :=
  let c7424_i32 : BitVec 32 := 7424#32
  c7424_i32
def k0_mult31 : BitVec 32 :=
  let c7680_i32 : BitVec 32 := 7680#32
  c7680_i32
def k0_mult32 : BitVec 32 :=
  let c7936_i32 : BitVec 32 := 7936#32
  c7936_i32
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x8x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x32x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "qk_scale_log2" => some (((Real.log 2)⁻¹ * (Real.sqrt 64)⁻¹ : ℝ) : EReal)
  | _ => none
-- ==== ReferenceIdeal.lean ====
abbrev S2x8192x8x64 : Shape := ⟨4, ![2, 8192, 8, 64]⟩
abbrev S2x8192x2x64 : Shape := ⟨4, ![2, 8192, 2, 64]⟩
abbrev S1x64 : Shape := ⟨2, ![1, 64]⟩
abbrev S_ : Shape := ⟨0, ![]⟩
abbrev S2x8192x2x4x64 : Shape := ⟨5, ![2, 8192, 2, 4, 64]⟩
abbrev S2x2x8192x8192x4 : Shape := ⟨5, ![2, 2, 8192, 8192, 4]⟩
abbrev S2x2x4x8192x8192 : Shape := ⟨5, ![2, 2, 4, 8192, 8192]⟩
abbrev S2x2x4x8192 : Shape := ⟨4, ![2, 2, 4, 8192]⟩
abbrev S2x2x4x8192x1 : Shape := ⟨5, ![2, 2, 4, 8192, 1]⟩
abbrev S2x2x64x4x8192 : Shape := ⟨5, ![2, 2, 64, 4, 8192]⟩
abbrev S2x8192x512 : Shape := ⟨3, ![2, 8192, 512]⟩
abbrev S64x256x512 : Shape := ⟨3, ![64, 256, 512]⟩
abbrev S64x512x256 : Shape := ⟨3, ![64, 512, 256]⟩

abbrev nBuf : Space → Nat
  | .hbm => 31
  | .vmem => 0
  | .smem => 0
  | _ => 0

abbrev bufTy : (tb : Table) → Fin (tcTables nBuf tb) → BufTy
  | .hbm, ⟨0, _⟩ => ⟨S2x8192x8x64, .f32⟩
  | .hbm, ⟨1, _⟩ => ⟨S2x8192x2x64, .f32⟩
  | .hbm, ⟨2, _⟩ => ⟨S2x8192x2x64, .f32⟩
  | .hbm, ⟨3, _⟩ => ⟨S1x64, .f32⟩
  | .hbm, ⟨4, _⟩ => ⟨S1x64, .f32⟩
  | .hbm, ⟨5, _⟩ => ⟨S_, .f32⟩
  | .hbm, ⟨6, _⟩ => ⟨S2x8192x8x64, .f32⟩
  | .hbm, ⟨7, _⟩ => ⟨S2x8192x8x64, .f32⟩
  | .hbm, ⟨8, _⟩ => ⟨S2x8192x2x4x64, .f32⟩
  | .hbm, ⟨9, _⟩ => ⟨S2x2x8192x8192x4, .f32⟩
  | .hbm, ⟨10, _⟩ => ⟨S2x2x4x8192x8192, .f32⟩
  | .hbm, ⟨11, _⟩ => ⟨S_, .f32⟩
  | .hbm, ⟨12, _⟩ => ⟨S2x2x4x8192, .f32⟩
  | .hbm, ⟨13, _⟩ => ⟨S_, .f32⟩
  | .hbm, ⟨14, _⟩ => ⟨S2x2x4x8192, .f32⟩
  | .hbm, ⟨15, _⟩ => ⟨S2x2x4x8192, .f32⟩
  | .hbm, ⟨16, _⟩ => ⟨S2x2x4x8192x1, .f32⟩
  | .hbm, ⟨17, _⟩ => ⟨S2x2x4x8192x8192, .f32⟩
  | .hbm, ⟨18, _⟩ => ⟨S2x2x4x8192x8192, .f32⟩
  | .hbm, ⟨19, _⟩ => ⟨S2x2x4x8192x8192, .f32⟩
  | .hbm, ⟨20, _⟩ => ⟨S_, .f32⟩
  | .hbm, ⟨21, _⟩ => ⟨S2x2x4x8192, .f32⟩
  | .hbm, ⟨22, _⟩ => ⟨S2x2x4x8192x1, .f32⟩
  | .hbm, ⟨23, _⟩ => ⟨S2x2x4x8192x8192, .f32⟩
  | .hbm, ⟨24, _⟩ => ⟨S2x2x4x8192x8192, .f32⟩
  | .hbm, ⟨25, _⟩ => ⟨S2x2x64x4x8192, .f32⟩
  | .hbm, ⟨26, _⟩ => ⟨S2x8192x2x4x64, .f32⟩
  | .hbm, ⟨27, _⟩ => ⟨S2x8192x512, .f32⟩
  | .hbm, ⟨28, _⟩ => ⟨S64x256x512, .f32⟩
  | .hbm, ⟨29, _⟩ => ⟨S64x512x256, .f32⟩
  | .hbm, ⟨30, _⟩ => ⟨S64x512x256, .bf16⟩
  | _, _ => ⟨S2x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel2.lean ====
abbrev S2x8192x1024 : Shape := ⟨3, ![2, 8192, 1024]⟩
abbrev S2x8192x512 : Shape := ⟨3, ![2, 8192, 512]⟩
abbrev S2x8192x2048 : Shape := ⟨3, ![2, 8192, 2048]⟩
abbrev S1x8x128x128 : Shape := ⟨4, ![1, 8, 128, 128]⟩
abbrev S1x8x128 : Shape := ⟨3, ![1, 8, 128]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S64x256x512 : Shape := ⟨3, ![64, 256, 512]⟩
abbrev S64x512x256 : Shape := ⟨3, ![64, 512, 256]⟩
abbrev S8x128 : Shape := ⟨2, ![8, 128]⟩
abbrev S128x8 : Shape := ⟨2, ![128, 8]⟩
abbrev S128x8x64 : Shape := ⟨3, ![128, 8, 64]⟩
abbrev S128x512 : Shape := ⟨2, ![128, 512]⟩
abbrev S8x128x128 : Shape := ⟨3, ![8, 128, 128]⟩
abbrev S4x2x128x128 : Shape := ⟨4, ![4, 2, 128, 128]⟩
abbrev S4x128x2x128 : Shape := ⟨4, ![4, 128, 2, 128]⟩
abbrev S4x128x256 : Shape := ⟨3, ![4, 128, 256]⟩
abbrev S16384x1024 : Shape := ⟨2, ![16384, 1024]⟩
abbrev S16384x512 : Shape := ⟨2, ![16384, 512]⟩
abbrev S16384x2048 : Shape := ⟨2, ![16384, 2048]⟩
abbrev S256x1024 : Shape := ⟨2, ![256, 1024]⟩
abbrev S1x512x256 : Shape := ⟨3, ![1, 512, 256]⟩
abbrev S256x512 : Shape := ⟨2, ![256, 512]⟩
abbrev S256x2048 : Shape := ⟨2, ![256, 2048]⟩
abbrev S256x2816 : Shape := ⟨2, ![256, 2816]⟩
abbrev S128x128 : Shape := ⟨2, ![128, 128]⟩
abbrev S256x128 : Shape := ⟨2, ![256, 128]⟩
abbrev S1x128x256 : Shape := ⟨3, ![1, 128, 256]⟩
abbrev S128x256 : Shape := ⟨2, ![128, 256]⟩
abbrev S512x256 : Shape := ⟨2, ![512, 256]⟩
abbrev S512x1024 : Shape := ⟨2, ![512, 1024]⟩
abbrev S1024x1024 : Shape := ⟨2, ![1024, 1024]⟩
abbrev S256 : Shape := ⟨1, ![256]⟩
abbrev S256x1 : Shape := ⟨2, ![256, 1]⟩
abbrev S1x1024x768 : Shape := ⟨3, ![1, 1024, 768]⟩
abbrev S1024x768 : Shape := ⟨2, ![1024, 768]⟩
abbrev S256x768 : Shape := ⟨2, ![256, 768]⟩
abbrev S1x1024x512 : Shape := ⟨3, ![1, 1024, 512]⟩
abbrev S1024x512 : Shape := ⟨2, ![1024, 512]⟩
abbrev S2816x1024 : Shape := ⟨2, ![2816, 1024]⟩

abbrev nBuf : Space → Nat
  | .hbm => 38
  | .vmem => 25
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S2x8192x512, .f32⟩
  | .hbm, ⟨4, _⟩ => ⟨S2x8192x2048, .f32⟩
  | .hbm, ⟨5, _⟩ => ⟨S1x8x128x128, .f32⟩
  | .hbm, ⟨6, _⟩ => ⟨S1x8x128, .f32⟩
  | .hbm, ⟨7, _⟩ => ⟨S1x512x1024, .f32⟩
  | .hbm, ⟨8, _⟩ => ⟨S1x512x1024, .f32⟩
  | .hbm, ⟨9, _⟩ => ⟨S1x1024x1024, .f32⟩
  | .hbm, ⟨10, _⟩ => ⟨S1x1024, .f32⟩
  | .hbm, ⟨11, _⟩ => ⟨S1x1024x5632, .f32⟩
  | .hbm, ⟨12, _⟩ => ⟨S1x2816x1024, .f32⟩
  | .hbm, ⟨13, _⟩ => ⟨S1024, .f32⟩
  | .hbm, ⟨14, _⟩ => ⟨S64x256x512, .f32⟩
  | .hbm, ⟨15, _⟩ => ⟨S64x512x256, .f32⟩
  | .hbm, ⟨16, _⟩ => ⟨S64x512x256, .bf16⟩
  | .hbm, ⟨17, _⟩ => ⟨S1x512x1024, .bf16⟩
  | .hbm, ⟨18, _⟩ => ⟨S1x512x1024, .bf16⟩
  | .hbm, ⟨19, _⟩ => ⟨S1x1024x1024, .bf16⟩
  | .hbm, ⟨20, _⟩ => ⟨S1x1024x5632, .bf16⟩
  | .hbm, ⟨21, _⟩ => ⟨S1x2816x1024, .bf16⟩
  | .hbm, ⟨22, _⟩ => ⟨S8x128, .f32⟩
  | .hbm, ⟨23, _⟩ => ⟨S128x8, .f32⟩
  | .hbm, ⟨24, _⟩ => ⟨S128x8x64, .f32⟩
  | .hbm, ⟨25, _⟩ => ⟨S128x512, .f32⟩
  | .hbm, ⟨26, _⟩ => ⟨S8x128x128, .f32⟩
  | .hbm, ⟨27, _⟩ => ⟨S4x2x128x128, .f32⟩
  | .hbm, ⟨28, _⟩ => ⟨S4x128x2x128, .f32⟩
  | .hbm, ⟨29, _⟩ => ⟨S4x128x256, .f32⟩
  | .hbm, ⟨30, _⟩ => ⟨S4x128x256, .bf16⟩
  | .hbm, ⟨31, _⟩ => ⟨S16384x1024, .f32⟩
  | .hbm, ⟨32, _⟩ => ⟨S16384x512, .f32⟩
  | .hbm, ⟨33, _⟩ => ⟨S16384x512, .f32⟩
  | .hbm, ⟨34, _⟩ => ⟨S16384x512, .bf16⟩
  | .hbm, ⟨35, _⟩ => ⟨S16384x2048, .f32⟩
  | .hbm, ⟨36, _⟩ => ⟨S1x1024, .f32⟩
  | .hbm, ⟨37, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x512x256, .bf16⟩
  | .local _ .vmem, ⟨3, _⟩ => ⟨S1x512x256, .bf16⟩
  | .local _ .vmem, ⟨4, _⟩ => ⟨S256x512, .f32⟩
  | .local _ .vmem, ⟨5, _⟩ => ⟨S256x512, .f32⟩
  | .local _ .vmem, ⟨6, _⟩ => ⟨S256x512, .bf16⟩
  | .local _ .vmem, ⟨7, _⟩ => ⟨S256x512, .bf16⟩
  | .local _ .vmem, ⟨8, _⟩ => ⟨S256x2048, .f32⟩
  | .local _ .vmem, ⟨9, _⟩ => ⟨S256x2048, .f32⟩
  | .local _ .vmem, ⟨10, _⟩ => ⟨S4x128x256, .bf16⟩
  | .local _ .vmem, ⟨11, _⟩ => ⟨S128x512, .f32⟩
  | .local _ .vmem, ⟨12, _⟩ => ⟨S1x512x1024, .bf16⟩
  | .local _ .vmem, ⟨13, _⟩ => ⟨S1x512x1024, .bf16⟩
  | .local _ .vmem, ⟨14, _⟩ => ⟨S1x1024x1024, .bf16⟩
  | .local _ .vmem, ⟨15, _⟩ => ⟨S1x1024, .f32⟩
  | .local _ .vmem, ⟨16, _⟩ => ⟨S1x1024x5632, .bf16⟩
  | .local _ .vmem, ⟨17, _⟩ => ⟨S1x2816x1024, .bf16⟩
  | .local _ .vmem, ⟨18, _⟩ => ⟨S1x1024, .f32⟩
  | .local _ .vmem, ⟨19, _⟩ => ⟨S256x1024, .f32⟩
  | .local _ .vmem, ⟨20, _⟩ => ⟨S256x1024, .f32⟩
  | .local _ .vmem, ⟨21, _⟩ => ⟨S256x512, .bf16⟩
  | .local _ .vmem, ⟨22, _⟩ => ⟨S256x2816, .bf16⟩
  | .local _ .vmem, ⟨23, _⟩ => ⟨S256x1024, .f32⟩
  | .local _ .vmem, ⟨24, _⟩ => ⟨S256x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![65], ![false]⟩

def k0_cond1 (i : grid0.Coords) : BitVec 1 :=
  let arg0 : BitVec 32 := BitVec.ofNat 32 (i 0).val
  let c0_i32_0 : BitVec 32 := 0#32
  let v3 : BitVec 1 := Scalar.cmpi .eq arg0 c0_i32_0
  let v4 : BitVec 32 := Scalar.extui v3
  let c0_i32_1 : BitVec 32 := 0#32
  let v5 : BitVec 1 := Scalar.cmpi .ne v4 c0_i32_1
  v5

def k0_cond2 (i : grid0.Coords) : BitVec 1 :=
  let arg0 : BitVec 32 := BitVec.ofNat 32 (i 0).val
  let c0_i32 : BitVec 32 := 0#32
  let v0 : BitVec 1 := Scalar.cmpi .sgt arg0 c0_i32
  let c64_i32 : BitVec 32 := 64#32
  let v1 : BitVec 1 := Scalar.cmpi .slt arg0 c64_i32
  let v2 : BitVec 1 := Scalar.andi v0 v1
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let c0_i32_6 : BitVec 32 := 0#32
  let v16 : BitVec 1 := Scalar.cmpi .eq v15 c0_i32_6
  let v17 : BitVec 1 := Scalar.andi v2 v16
  let v18 : BitVec 32 := Scalar.extui v17
  let c0_i32_7 : BitVec 32 := 0#32
  let v19 : BitVec 1 := Scalar.cmpi .ne v18 c0_i32_7
  v19

def k0_cond3 (i : grid0.Coords) : BitVec 1 :=
  let arg0 : BitVec 32 := BitVec.ofNat 32 (i 0).val
  let c0_i32 : BitVec 32 := 0#32
  let v0 : BitVec 1 := Scalar.cmpi .sgt arg0 c0_i32
  let c64_i32 : BitVec 32 := 64#32
  let v1 : BitVec 1 := Scalar.cmpi .slt arg0 c64_i32
  let v2 : BitVec 1 := Scalar.andi v0 v1
  let c2_i32_8 : BitVec 32 := 2#32
  let c0_i32_9 : BitVec 32 := 0#32
  let v20 : BitVec 1 := Scalar.cmpi .eq c2_i32_8 c0_i32_9
  let c1_i32_10 : BitVec 32 := 1#32
  let v21 : BitVec 32 := Scalar.select v20 c1_i32_10 c2_i32_8
  let v22 : BitVec 32 := Scalar.remsi arg0 v21
  let c0_i32_12 : BitVec 32 := 0#32
  let v24 : BitVec 1 := Scalar.cmpi .slt v22 c0_i32_12
  let c0_i32_13 : BitVec 32 := 0#32
  let v25 : BitVec 1 := Scalar.cmpi .slt v21 c0_i32_13
  let v26 : BitVec 1 := Scalar.xori v24 v25
  let c0_i32_11 : BitVec 32 := 0#32
  let v23 : BitVec 1 := Scalar.cmpi .ne v22 c0_i32_11
  let v27 : BitVec 1 := Scalar.andi v26 v23
  let v28 : BitVec 32 := Scalar.addi v22 v21
  let v29 : BitVec 32 := Scalar.select v27 v28 v22
  let c1_i32_14 : BitVec 32 := 1#32
  let v30 : BitVec 1 := Scalar.cmpi .eq v29 c1_i32_14
  let v31 : BitVec 1 := Scalar.andi v2 v30
  let v32 : BitVec 32 := Scalar.extui v31
  let c0_i32_15 : BitVec 32 := 0#32
  let v33 : BitVec 1 := Scalar.cmpi .ne v32 c0_i32_15
  v33

def k0_cond4 (i : grid0.Coords) : BitVec 1 :=
  let arg0 : BitVec 32 := BitVec.ofNat 32 (i 0).val
  let c64_i32_16 : BitVec 32 := 64#32
  let v34 : BitVec 1 := Scalar.cmpi .eq arg0 c64_i32_16
  let v35 : BitVec 32 := Scalar.extui v34
  let c0_i32_17 : BitVec 32 := 0#32
  let v36 : BitVec 1 := Scalar.cmpi .ne v35 c0_i32_17
  v36

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024x5632 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference2Ideal.lean ====
abbrev S2x8192x1024 : Shape := ⟨3, ![2, 8192, 1024]⟩
abbrev S2x8192x512 : Shape := ⟨3, ![2, 8192, 512]⟩
abbrev S2x8192x2048 : Shape := ⟨3, ![2, 8192, 2048]⟩
abbrev S1x8x128x128 : Shape := ⟨4, ![1, 8, 128, 128]⟩
abbrev S1x8x128 : Shape := ⟨3, ![1, 8, 128]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S2x64x128x8x64 : Shape := ⟨5, ![2, 64, 128, 8, 64]⟩
abbrev S8x128x128 : Shape := ⟨3, ![8, 128, 128]⟩
abbrev S8x2x64x64x128 : Shape := ⟨5, ![8, 2, 64, 64, 128]⟩
abbrev S8x128 : Shape := ⟨2, ![8, 128]⟩
abbrev S128x8 : Shape := ⟨2, ![128, 8]⟩
abbrev S1x1x128x8x1 : Shape := ⟨5, ![1, 1, 128, 8, 1]⟩
abbrev S512x1024 : Shape := ⟨2, ![512, 1024]⟩
abbrev S1024x1024 : Shape := ⟨2, ![1024, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x5632 : Shape := ⟨2, ![1024, 5632]⟩
abbrev S2x8192x5632 : Shape := ⟨3, ![2, 8192, 5632]⟩
abbrev S2x8192x2816 : Shape := ⟨3, ![2, 8192, 2816]⟩
abbrev S2816x1024 : Shape := ⟨2, ![2816, 1024]⟩
abbrev S16384x1024 : Shape := ⟨2, ![16384, 1024]⟩

abbrev nBuf : Space → Nat
  | .hbm => 88
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S2x8192x512, .f32⟩
  | .hbm, ⟨4, _⟩ => ⟨S2x8192x2048, .f32⟩
  | .hbm, ⟨5, _⟩ => ⟨S1x8x128x128, .f32⟩
  | .hbm, ⟨6, _⟩ => ⟨S1x8x128, .f32⟩
  | .hbm, ⟨7, _⟩ => ⟨S1x512x1024, .f32⟩
  | .hbm, ⟨8, _⟩ => ⟨S1x512x1024, .f32⟩
  | .hbm, ⟨9, _⟩ => ⟨S1x1024x1024, .f32⟩
  | .hbm, ⟨10, _⟩ => ⟨S1x1024, .f32⟩
  | .hbm, ⟨11, _⟩ => ⟨S1x1024x5632, .f32⟩
  | .hbm, ⟨12, _⟩ => ⟨S1x2816x1024, .f32⟩
  | .hbm, ⟨13, _⟩ => ⟨S1024, .f32⟩
  | .hbm, ⟨14, _⟩ => ⟨S2x64x128x8x64, .f32⟩
  | .hbm, ⟨15, _⟩ => ⟨S8x128x128, .f32⟩
  | .hbm, ⟨16, _⟩ => ⟨S8x2x64x64x128, .f32⟩
  | .hbm, ⟨17, _⟩ => ⟨S2x64x128x8x64, .f32⟩
  | .hbm, ⟨18, _⟩ => ⟨S8x128, .f32⟩
  | .hbm, ⟨19, _⟩ => ⟨S128x8, .f32⟩
  | .hbm, ⟨20, _⟩ => ⟨S1x1x128x8x1, .f32⟩
  | .hbm, ⟨21, _⟩ => ⟨S2x64x128x8x64, .f32⟩
  | .hbm, ⟨22, _⟩ => ⟨S2x64x128x8x64, .f32⟩
  | .hbm, ⟨23, _⟩ => ⟨S2x8192x512, .f32⟩
  | .hbm, ⟨24, _⟩ => ⟨S2x8192x512, .f32⟩
  | .hbm, ⟨25, _⟩ => ⟨S2x8192x1024, .f32⟩
  | .hbm, ⟨26, _⟩ => ⟨S2x8192x1024, .f32⟩
  | .hbm, ⟨27, _⟩ => ⟨S512x1024, .f32⟩
  | .hbm, ⟨28, _⟩ => ⟨S2x8192x1024, .f32⟩
  | .hbm, ⟨29, _⟩ => ⟨S2x8192x1024, .f32⟩
  | .hbm, ⟨30, _⟩ => ⟨S512x1024, .f32⟩
  | .hbm, ⟨31, _⟩ => ⟨S2x8192x1024, .f32⟩
  | .hbm, ⟨32, _⟩ => ⟨S2x8192x1024, .f32⟩
  | .hbm, ⟨33, _⟩ => ⟨S2x8192x1024, .f32⟩
  | .hbm, ⟨34, _⟩ => ⟨S1024x1024, .f32⟩
  | .hbm, ⟨35, _⟩ => ⟨S2x8192x1024, .f32⟩
  | .hbm, ⟨36, _⟩ => ⟨S2x8192x1024, .f32⟩
  | .hbm, ⟨37, _⟩ => ⟨S1024, .f32⟩
  | .hbm, ⟨38, _⟩ => ⟨S2x8192x1024, .f32⟩
  | .hbm, ⟨39, _⟩ => ⟨S_, .f32⟩
  | .hbm, ⟨40, _⟩ => ⟨S2x8192, .f32⟩
  | .hbm, ⟨41, _⟩ => ⟨S2x8192x1, .f32⟩
  | .hbm, ⟨42, _⟩ => ⟨S_, .f32⟩
  | .hbm, ⟨43, _⟩ => ⟨S2x8192x1, .f32⟩
  | .hbm, ⟨44, _⟩ => ⟨S2x8192x1, .f32⟩
  | .hbm, ⟨45, _⟩ => ⟨S_, .f32⟩
  | .hbm, ⟨46, _⟩ => ⟨S2x8192x1, .f32⟩
  | .hbm, ⟨47, _⟩ => ⟨S2x8192x1, .f32⟩
  | .hbm, ⟨48, _⟩ => ⟨S2x8192x1, .f32⟩
  | .hbm, ⟨49, _⟩ => ⟨S2x8192x1024, .f32⟩
  | .hbm, ⟨50, _⟩ => ⟨S2x8192x1024, .f32⟩
  | .hbm, ⟨51, _⟩ => ⟨S1x1x1024, .f32⟩
  | .hbm, ⟨52, _⟩ => ⟨S2x8192x1024, .f32⟩
  | .hbm, ⟨53, _⟩ => ⟨S2x8192x1024, .f32⟩
  | .hbm, ⟨54, _⟩ => ⟨S1024x5632, .f32⟩
  | .hbm, ⟨55, _⟩ => ⟨S2x8192x5632, .f32⟩
  | .hbm, ⟨56, _⟩ => ⟨S2x8192x2816, .f32⟩
  | .hbm, ⟨57, _⟩ => ⟨S2x8192x2816, .f32⟩
  | .hbm, ⟨58, _⟩ => ⟨S2x8192x2816, .f32⟩
  | .hbm, ⟨59, _⟩ => ⟨S2x8192x2816, .f32⟩
  | .hbm, ⟨60, _⟩ => ⟨S_, .f32⟩
  | .hbm, ⟨61, _⟩ => ⟨S2x8192x2816, .f32⟩
  | .hbm, ⟨62, _⟩ => ⟨S2x8192x2816, .f32⟩
  | .hbm, ⟨63, _⟩ => ⟨S_, .f32⟩
  | .hbm, ⟨64, _⟩ => ⟨S2x8192x2816, .f32⟩
  | .hbm, ⟨65, _⟩ => ⟨S2x8192x2816, .f32⟩
  | .hbm, ⟨66, _⟩ => ⟨S2x8192x2816, .f32⟩
  | .hbm, ⟨67, _⟩ => ⟨S2x8192x2816, .f32⟩
  | .hbm, ⟨68, _⟩ => ⟨S2816x1024, .f32⟩
  | .hbm, ⟨69, _⟩ => ⟨S2x8192x1024, .f32⟩
  | .hbm, ⟨70, _⟩ => ⟨S2x8192x1024, .f32⟩
  | .hbm, ⟨71, _⟩ => ⟨S2x8192x1024, .f32⟩
  | .hbm, ⟨72, _⟩ => ⟨S_, .f32⟩
  | .hbm, ⟨73, _⟩ => ⟨S2x8192, .f32⟩
  | .hbm, ⟨74, _⟩ => ⟨S2x8192x1, .f32⟩
  | .hbm, ⟨75, _⟩ => ⟨S_, .f32⟩
  | .hbm, ⟨76, _⟩ => ⟨S2x8192x1, .f32⟩
  | .hbm, ⟨77, _⟩ => ⟨S2x8192x1, .f32⟩
  | .hbm, ⟨78, _⟩ => ⟨S_, .f32⟩
  | .hbm, ⟨79, _⟩ => ⟨S2x8192x1, .f32⟩
  | .hbm, ⟨80, _⟩ => ⟨S2x8192x1, .f32⟩
  | .hbm, ⟨81, _⟩ => ⟨S2x8192x1, .f32⟩
  | .hbm, ⟨82, _⟩ => ⟨S2x8192x1024, .f32⟩
  | .hbm, ⟨83, _⟩ => ⟨S2x8192x1024, .f32⟩
  | .hbm, ⟨84, _⟩ => ⟨S1x1x1024, .f32⟩
  | .hbm, ⟨85, _⟩ => ⟨S2x8192x1024, .f32⟩
  | .hbm, ⟨86, _⟩ => ⟨S2x8192x1024, .f32⟩
  | .hbm, ⟨87, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst : Ref sig .tc := ⟨.hbm, 39, rfl⟩
abbrev main_v25 : Ref sig .tc := ⟨.hbm, 40, rfl⟩
abbrev main_v26 : Ref sig .tc := ⟨.hbm, 41, rfl⟩
abbrev main_cst_0 : Ref sig .tc := ⟨.hbm, 42, rfl⟩
abbrev main_v27 : Ref sig .tc := ⟨.hbm, 43, rfl⟩
abbrev main_v28 : Ref sig .tc := ⟨.hbm, 44, rfl⟩
abbrev main_cst_1 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_call0_v5 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_2 : Ref sig .tc := ⟨.hbm, 72, rfl⟩
abbrev main_v47 : Ref sig .tc := ⟨.hbm, 73, rfl⟩
abbrev main_v48 : Ref sig .tc := ⟨.hbm, 74, rfl⟩
abbrev main_cst_3 : Ref sig .tc := ⟨.hbm, 75, rfl⟩
abbrev main_v49 : Ref sig .tc := ⟨.hbm, 76, rfl⟩
abbrev main_v50 : Ref sig .tc := ⟨.hbm, 77, rfl⟩
abbrev main_cst_4 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩

abbrev nD : Nat := 1
abbrev τ : Topo := Topo.v7x

variable {F : FTy → Type} [FloatOps F]
-- ==== Kernel3.lean ====
abbrev S2x8192x1024 : Shape := ⟨3, ![2, 8192, 1024]⟩
abbrev S1x1024 : Shape := ⟨2, ![1, 1024]⟩
abbrev S1x1024x3840 : Shape := ⟨3, ![1, 1024, 3840]⟩
abbrev S1x64 : Shape := ⟨2, ![1, 64]⟩
abbrev S1x8x64 : Shape := ⟨3, ![1, 8, 64]⟩
abbrev S8192x16 : Shape := ⟨2, ![8192, 16]⟩
abbrev S256x128 : Shape := ⟨2, ![256, 128]⟩
abbrev S1024x3840 : Shape := ⟨2, ![1024, 3840]⟩
abbrev S1024x512 : Shape := ⟨2, ![1024, 512]⟩
abbrev S1024x2x4x64 : Shape := ⟨4, ![1024, 2, 4, 64]⟩
abbrev S1024x4x2x64 : Shape := ⟨4, ![1024, 4, 2, 64]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S64 : Shape := ⟨1, ![64]⟩
abbrev S2x64 : Shape := ⟨2, ![2, 64]⟩
abbrev S128 : Shape := ⟨1, ![128]⟩
abbrev S1x128 : Shape := ⟨2, ![1, 128]⟩
abbrev S8x64 : Shape := ⟨2, ![8, 64]⟩
abbrev S1x512 : Shape := ⟨2, ![1, 512]⟩
abbrev S16384x1024 : Shape := ⟨2, ![16384, 1024]⟩
abbrev S64x8x128x256 : Shape := ⟨4, ![64, 8, 128, 256]⟩
abbrev S16384x128 : Shape := ⟨2, ![16384, 128]⟩
abbrev S64x128x256 : Shape := ⟨3, ![64, 128, 256]⟩
abbrev S16384x512 : Shape := ⟨2, ![16384, 512]⟩
abbrev S16384x2048 : Shape := ⟨2, ![16384, 2048]⟩
abbrev S256x1024 : Shape := ⟨2, ![256, 1024]⟩
abbrev S1x8x128x256 : Shape := ⟨4, ![1, 8, 128, 256]⟩
abbrev S1x128x256 : Shape := ⟨3, ![1, 128, 256]⟩
abbrev S256x512 : Shape := ⟨2, ![256, 512]⟩
abbrev S256x2048 : Shape := ⟨2, ![256, 2048]⟩
abbrev S256x3840 : Shape := ⟨2, ![256, 3840]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S1024x1024 : Shape := ⟨2, ![1024, 1024]⟩
abbrev S128x256 : Shape := ⟨2, ![128, 256]⟩
abbrev S1x1x128x256 : Shape := ⟨4, ![1, 1, 128, 256]⟩

abbrev nBuf : Space → Nat
  | .hbm => 49
  | .vmem => 28
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x3840, .f32⟩
  | .hbm, ⟨3, _⟩ => ⟨S1x64, .f32⟩
  | .hbm, ⟨4, _⟩ => ⟨S1x64, .f32⟩
  | .hbm, ⟨5, _⟩ => ⟨S1x8x64, .f32⟩
  | .hbm, ⟨6, _⟩ => ⟨S1x8x64, .f32⟩
  | .hbm, ⟨7, _⟩ => ⟨S8192x16, .f32⟩
  | .hbm, ⟨8, _⟩ => ⟨S8192x16, .f32⟩
  | .hbm, ⟨9, _⟩ => ⟨S8192x16, .f32⟩
  | .hbm, ⟨10, _⟩ => ⟨S8192x16, .f32⟩
  | .hbm, ⟨11, _⟩ => ⟨S256x128, .bf16⟩
  | .hbm, ⟨12, _⟩ => ⟨S1024x3840, .f32⟩
  | .hbm, ⟨13, _⟩ => ⟨S1024x3840, .bf16⟩
  | .hbm, ⟨14, _⟩ => ⟨S1024x512, .bf16⟩
  | .hbm, ⟨15, _⟩ => ⟨S1024x2x4x64, .bf16⟩
  | .hbm, ⟨16, _⟩ => ⟨S1024x4x2x64, .bf16⟩
  | .hbm, ⟨17, _⟩ => ⟨S1024x512, .bf16⟩
  | .hbm, ⟨18, _⟩ => ⟨S8192x64, .f32⟩
  | .hbm, ⟨19, _⟩ => ⟨S1x8192x1x64, .f32⟩
  | .hbm, ⟨20, _⟩ => ⟨S1x8192x2x64, .f32⟩
  | .hbm, ⟨21, _⟩ => ⟨S8192x128, .f32⟩
  | .hbm, ⟨22, _⟩ => ⟨S8192x16, .f32⟩
  | .hbm, ⟨23, _⟩ => ⟨S8192x16, .f32⟩
  | .hbm, ⟨24, _⟩ => ⟨S8192x64, .f32⟩
  | .hbm, ⟨25, _⟩ => ⟨S1x8192x1x64, .f32⟩
  | .hbm, ⟨26, _⟩ => ⟨S1x8192x2x64, .f32⟩
  | .hbm, ⟨27, _⟩ => ⟨S8192x128, .f32⟩
  | .hbm, ⟨28, _⟩ => ⟨S64, .f32⟩
  | .hbm, ⟨29, _⟩ => ⟨S1x64, .f32⟩
  | .hbm, ⟨30, _⟩ => ⟨S2x64, .f32⟩
  | .hbm, ⟨31, _⟩ => ⟨S128, .f32⟩
  | .hbm, ⟨32, _⟩ => ⟨S1x128, .f32⟩
  | .hbm, ⟨33, _⟩ => ⟨S64, .f32⟩
  | .hbm, ⟨34, _⟩ => ⟨S1x64, .f32⟩
  | .hbm, ⟨35, _⟩ => ⟨S2x64, .f32⟩
  | .hbm, ⟨36, _⟩ => ⟨S128, .f32⟩
  | .hbm, ⟨37, _⟩ => ⟨S1x128, .f32⟩
  | .hbm, ⟨38, _⟩ => ⟨S8x64, .f32⟩
  | .hbm, ⟨39, _⟩ => ⟨S1x512, .f32⟩
  | .hbm, ⟨40, _⟩ => ⟨S8x64, .f32⟩
  | .hbm, ⟨41, _⟩ => ⟨S1x512, .f32⟩
  | .hbm, ⟨42, _⟩ => ⟨S16384x1024, .f32⟩
  | .hbm, ⟨43, _⟩ => ⟨S64x8x128x256, .f32⟩
  | .hbm, ⟨44, _⟩ => ⟨S16384x128, .bf16⟩
  | .hbm, ⟨45, _⟩ => ⟨S64x128x256, .bf16⟩
  | .hbm, ⟨46, _⟩ => ⟨S16384x512, .f32⟩
  | .hbm, ⟨47, _⟩ => ⟨S16384x512, .bf16⟩
  | .hbm, ⟨48, _⟩ => ⟨S16384x2048, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x512, .bf16⟩
  | .local _ .vmem, ⟨4, _⟩ => ⟨S1024x3840, .bf16⟩
  | .local _ .vmem, ⟨5, _⟩ => ⟨S256x128, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S1x128, .f32⟩
  | .local _ .vmem, ⟨11, _⟩ => ⟨S1x128, .f32⟩
  | .local _ .vmem, ⟨12, _⟩ => ⟨S1x512, .f32⟩
  | .local _ .vmem, ⟨13, _⟩ => ⟨S1x512, .f32⟩
  | .local _ .vmem, ⟨14, _⟩ => ⟨S1x8x128x256, .f32⟩
  | .local _ .vmem, ⟨15, _⟩ => ⟨S1x8x128x256, .f32⟩
  | .local _ .vmem, ⟨16, _⟩ => ⟨S256x128, .bf16⟩
  | .local _ .vmem, ⟨17, _⟩ => ⟨S256x128, .bf16⟩
  | .local _ .vmem, ⟨18, _⟩ => ⟨S1x128x256, .bf16⟩
  | .local _ .vmem, ⟨19, _⟩ => ⟨S1x128x256, .bf16⟩
  | .local _ .vmem, ⟨20, _⟩ => ⟨S256x512, .f32⟩
  | .local _ .vmem, ⟨21, _⟩ => ⟨S256x512, .f32⟩
  | .local _ .vmem, ⟨22, _⟩ => ⟨S256x512, .bf16⟩
  | .local _ .vmem, ⟨23, _⟩ => ⟨S256x512, .bf16⟩
  | .local _ .vmem, ⟨24, _⟩ => ⟨S256x2048, .f32⟩
  | .local _ .vmem, ⟨25, _⟩ => ⟨S256x2048, .f32⟩
  | .local _ .vmem, ⟨26, _⟩ => ⟨S256x3840, .f32⟩
  | .local _ .vmem, ⟨27, _⟩ => ⟨S256x3840, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31_0 : Ref sig .tc := ⟨.hbm, 43, rfl⟩
abbrev main_v31_1 : Ref sig .tc := ⟨.hbm, 44, rfl⟩
abbrev main_v31_2 : Ref sig .tc := ⟨.hbm, 45, rfl⟩
abbrev main_v31_3 : Ref sig .tc := ⟨.hbm, 46, rfl⟩
abbrev main_v31_4 : Ref sig .tc := ⟨.hbm, 47, rfl⟩
abbrev main_v31_5 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let c0_i32_0 : BitVec 32 := 0#32
  let v2 : BitVec 1 := Scalar.cmpi .eq c32_i32 c0_i32_0
  let c1_i32_1 : BitVec 32 := 1#32
  let v3 : BitVec 32 := Scalar.select v2 c1_i32_1 c32_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![v11.toNat, c0_i32_5.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let c0_i32_0 : BitVec 32 := 0#32
  let v2 : BitVec 1 := Scalar.cmpi .eq c32_i32 c0_i32_0
  let c1_i32_1 : BitVec 32 := 1#32
  let v3 : BitVec 32 := Scalar.select v2 c1_i32_1 c32_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![v11.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_13 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_14 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_15 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_16 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3840 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x8x128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference3Ideal.lean ====
abbrev S2x8192x1024 : Shape := ⟨3, ![2, 8192, 1024]⟩
abbrev S1x1024 : Shape := ⟨2, ![1, 1024]⟩
abbrev S1x1024x3840 : Shape := ⟨3, ![1, 1024, 3840]⟩
abbrev S1x64 : Shape := ⟨2, ![1, 64]⟩
abbrev S1x8x64 : Shape := ⟨3, ![1, 8, 64]⟩
abbrev S8192x16 : Shape := ⟨2, ![8192, 16]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x3840 : Shape := ⟨2, ![1024, 3840]⟩
abbrev S2x8192x3840 : Shape := ⟨3, ![2, 8192, 3840]⟩
abbrev S2x8192x512 : Shape := ⟨3, ![2, 8192, 512]⟩
abbrev S2x8192x128 : Shape := ⟨3, ![2, 8192, 128]⟩
abbrev S2x8192x2048 : Shape := ⟨3, ![2, 8192, 2048]⟩
abbrev S2x8192x8x64 : Shape := ⟨4, ![2, 8192, 8, 64]⟩
abbrev S64 : Shape := ⟨1, ![64]⟩
abbrev S2x8192x8 : Shape := ⟨3, ![2, 8192, 8]⟩
abbrev S2x8192x8x1 : Shape := ⟨4, ![2, 8192, 8, 1]⟩
abbrev S1x1x1x64 : Shape := ⟨4, ![1, 1, 1, 64]⟩
abbrev S2x8192x2x64 : Shape := ⟨4, ![2, 8192, 2, 64]⟩
abbrev S2x8192x2 : Shape := ⟨3, ![2, 8192, 2]⟩
abbrev S2x8192x2x1 : Shape := ⟨4, ![2, 8192, 2, 1]⟩
abbrev S2x8192x8x32 : Shape := ⟨4, ![2, 8192, 8, 32]⟩
abbrev S1x8192x1x16 : Shape := ⟨4, ![1, 8192, 1, 16]⟩
abbrev S2x8192x8x16 : Shape := ⟨4, ![2, 8192, 8, 16]⟩
abbrev S2x8192x2x32 : Shape := ⟨4, ![2, 8192, 2, 32]⟩
abbrev S2x8192x2x16 : Shape := ⟨4, ![2, 8192, 2, 16]⟩
abbrev S8x64 : Shape := ⟨2, ![8, 64]⟩
abbrev S1x1x8x64 : Shape := ⟨4, ![1, 1, 8, 64]⟩
abbrev S2x8192x4x64 : Shape := ⟨4, ![2, 8192, 4, 64]⟩
abbrev S2x8192x4x128 : Shape := ⟨4, ![2, 8192, 4, 128]⟩
abbrev S2x8192x8x128 : Shape := ⟨4, ![2, 8192, 8, 128]⟩
abbrev S64x256x8x128 : Shape := ⟨4, ![64, 256, 8, 128]⟩
abbrev S64x8x128x256 : Shape := ⟨4, ![64, 8, 128, 256]⟩
abbrev S64x256x128 : Shape := ⟨3, ![64, 256, 128]⟩
abbrev S64x128x256 : Shape := ⟨3, ![64, 128, 256]⟩
abbrev S16384x128 : Shape := ⟨2, ![16384, 128]⟩
abbrev S16384x512 : Shape := ⟨2, ![16384, 512]⟩
abbrev S16384x2048 : Shape := ⟨2, ![16384, 2048]⟩

abbrev nBuf : Space → Nat
  | .hbm => 214
  | .vmem => 0
  | .smem => 0
  | _ => 0

abbrev hbmTy0_0 (i : Nat) : BufTy := match i % 128 with
  | 0 => ⟨S2x8192x1024, .f32⟩
  | 1 => ⟨S1x1024, .f32⟩
  | 2 => ⟨S1x1024x3840, .f32⟩
  | 3 => ⟨S1x64, .f32⟩
  | 4 => ⟨S1x64, .f32⟩
  | 5 => ⟨S1x8x64, .f32⟩
  | 6 => ⟨S1x8x64, .f32⟩
  | 7 => ⟨S8192x16, .f32⟩
  | 8 => ⟨S8192x16, .f32⟩
  | 9 => ⟨S8192x16, .f32⟩
  | 10 => ⟨S8192x16, .f32⟩
  | 11 => ⟨S1024, .f32⟩
  | 12 => ⟨S2x8192x1024, .f32⟩
  | 13 => ⟨S_, .f32⟩
  | 14 => ⟨S2x8192, .f32⟩
  | 15 => ⟨S2x8192x1, .f32⟩
  | 16 => ⟨S_, .f32⟩
  | 17 => ⟨S2x8192x1, .f32⟩
  | 18 => ⟨S2x8192x1, .f32⟩
  | 19 => ⟨S_, .f32⟩
  | 20 => ⟨S2x8192x1, .f32⟩
  | 21 => ⟨S2x8192x1, .f32⟩
  | 22 => ⟨S2x8192x1, .f32⟩
  | 23 => ⟨S2x8192x1024, .f32⟩
  | 24 => ⟨S2x8192x1024, .f32⟩
  | 25 => ⟨S1x1x1024, .f32⟩
  | 26 => ⟨S2x8192x1024, .f32⟩
  | 27 => ⟨S2x8192x1024, .f32⟩
  | 28 => ⟨S1024x3840, .f32⟩
  | 29 => ⟨S2x8192x3840, .f32⟩
  | 30 => ⟨S2x8192x512, .f32⟩
  | 31 => ⟨S2x8192x128, .f32⟩
  | 32 => ⟨S2x8192x128, .f32⟩
  | 33 => ⟨S2x8192x1024, .f32⟩
  | 34 => ⟨S2x8192x2048, .f32⟩
  | 35 => ⟨S2x8192x8x64, .f32⟩
  | 36 => ⟨S64, .f32⟩
  | 37 => ⟨S2x8192x8x64, .f32⟩
  | 38 => ⟨S_, .f32⟩
  | 39 => ⟨S2x8192x8, .f32⟩
  | 40 => ⟨S2x8192x8x1, .f32⟩
  | 41 => ⟨S_, .f32⟩
  | 42 => ⟨S2x8192x8x1, .f32⟩
  | 43 => ⟨S2x8192x8x1, .f32⟩
  | 44 => ⟨S_, .f32⟩
  | 45 => ⟨S2x8192x8x1, .f32⟩
  | 46 => ⟨S2x8192x8x1, .f32⟩
  | 47 => ⟨S2x8192x8x1, .f32⟩
  | 48 => ⟨S2x8192x8x64, .f32⟩
  | 49 => ⟨S2x8192x8x64, .f32⟩
  | 50 => ⟨S1x1x1x64, .f32⟩
  | 51 => ⟨S2x8192x8x64, .f32⟩
  | 52 => ⟨S2x8192x8x64, .f32⟩
  | 53 => ⟨S2x8192x2x64, .f32⟩
  | 54 => ⟨S64, .f32⟩
  | 55 => ⟨S2x8192x2x64, .f32⟩
  | 56 => ⟨S_, .f32⟩
  | 57 => ⟨S2x8192x2, .f32⟩
  | 58 => ⟨S2x8192x2x1, .f32⟩
  | 59 => ⟨S_, .f32⟩
  | 60 => ⟨S2x8192x2x1, .f32⟩
  | 61 => ⟨S2x8192x2x1, .f32⟩
  | 62 => ⟨S_, .f32⟩
  | 63 => ⟨S2x8192x2x1, .f32⟩
  | 64 => ⟨S2x8192x2x1, .f32⟩
  | 65 => ⟨S2x8192x2x1, .f32⟩
  | 66 => ⟨S2x8192x2x64, .f32⟩
  | 67 => ⟨S2x8192x2x64, .f32⟩
  | 68 => ⟨S1x1x1x64, .f32⟩
  | 69 => ⟨S2x8192x2x64, .f32⟩
  | 70 => ⟨S2x8192x2x64, .f32⟩
  | 71 => ⟨S2x8192x8x32, .f32⟩
  | 72 => ⟨S1x8192x1x16, .f32⟩
  | 73 => ⟨S1x8192x1x16, .f32⟩
  | 74 => ⟨S2x8192x8x16, .f32⟩
  | 75 => ⟨S2x8192x8x16, .f32⟩
  | 76 => ⟨S2x8192x8x16, .f32⟩
  | 77 => ⟨S2x8192x8x16, .f32⟩
  | 78 => ⟨S2x8192x8x16, .f32⟩
  | 79 => ⟨S2x8192x8x16, .f32⟩
  | 80 => ⟨S2x8192x8x16, .f32⟩
  | 81 => ⟨S2x8192x8x16, .f32⟩
  | 82 => ⟨S2x8192x8x16, .f32⟩
  | 83 => ⟨S2x8192x8x16, .f32⟩
  | 84 => ⟨S2x8192x8x16, .f32⟩
  | 85 => ⟨S2x8192x8x16, .f32⟩
  | 86 => ⟨S2x8192x8x32, .f32⟩
  | 87 => ⟨S2x8192x8x32, .f32⟩
  | 88 => ⟨S1x8192x1x16, .f32⟩
  | 89 => ⟨S1x8192x1x16, .f32⟩
  | 90 => ⟨S2x8192x8x16, .f32⟩
  | 91 => ⟨S2x8192x8x16, .f32⟩
  | 92 => ⟨S2x8192x8x16, .f32⟩
  | 93 => ⟨S2x8192x8x16, .f32⟩
  | 94 => ⟨S2x8192x8x16, .f32⟩
  | 95 => ⟨S2x8192x8x16, .f32⟩
  | 96 => ⟨S2x8192x8x16, .f32⟩
  | 97 => ⟨S2x8192x8x16, .f32⟩
  | 98 => ⟨S2x8192x8x16, .f32⟩
  | 99 => ⟨S2x8192x8x16, .f32⟩
  | 100 => ⟨S2x8192x8x16, .f32⟩
  | 101 => ⟨S2x8192x8x16, .f32⟩
  | 102 => ⟨S2x8192x8x32, .f32⟩
  | 103 => ⟨S2x8192x8x64, .f32⟩
  | 104 => ⟨S2x8192x2x32, .f32⟩
  | 105 => ⟨S1x8192x1x16, .f32⟩
  | 106 => ⟨S1x8192x1x16, .f32⟩
  | 107 => ⟨S2x8192x2x16, .f32⟩
  | 108 => ⟨S2x8192x2x16, .f32⟩
  | 109 => ⟨S2x8192x2x16, .f32⟩
  | 110 => ⟨S2x8192x2x16, .f32⟩
  | 111 => ⟨S2x8192x2x16, .f32⟩
  | 112 => ⟨S2x8192x2x16, .f32⟩
  | 113 => ⟨S2x8192x2x16, .f32⟩
  | 114 => ⟨S2x8192x2x16, .f32⟩
  | 115 => ⟨S2x8192x2x16, .f32⟩
  | 116 => ⟨S2x8192x2x16, .f32⟩
  | 117 => ⟨S2x8192x2x16, .f32⟩
  | 118 => ⟨S2x8192x2x16, .f32⟩
  | 119 => ⟨S2x8192x2x32, .f32⟩
  | 120 => ⟨S2x8192x2x32, .f32⟩
  | 121 => ⟨S1x8192x1x16, .f32⟩
  | 122 => ⟨S1x8192x1x16, .f32⟩
  | 123 => ⟨S2x8192x2x16, .f32⟩
  | 124 => ⟨S2x8192x2x16, .f32⟩
  | 125 => ⟨S2x8192x2x16, .f32⟩
  | 126 => ⟨S2x8192x2x16, .f32⟩
  | 127 => ⟨S2x8192x2x16, .f32⟩
  | _ => ⟨S2x8192x1024, .f32⟩

abbrev hbmTy0_1 (i : Nat) : BufTy := match i % 128 with
  | 0 => ⟨S2x8192x2x16, .f32⟩
  | 1 => ⟨S2x8192x2x16, .f32⟩
  | 2 => ⟨S2x8192x2x16, .f32⟩
  | 3 => ⟨S2x8192x2x16, .f32⟩
  | 4 => ⟨S2x8192x2x16, .f32⟩
  | 5 => ⟨S2x8192x2x16, .f32⟩
  | 6 => ⟨S2x8192x2x16, .f32⟩
  | 7 => ⟨S2x8192x2x32, .f32⟩
  | 8 => ⟨S2x8192x2x64, .f32⟩
  | 9 => ⟨S2x8192x1024, .f32⟩
  | 10 => ⟨S2x8192x1024, .f32⟩
  | 11 => ⟨S_, .f32⟩
  | 12 => ⟨S2x8192x1024, .f32⟩
  | 13 => ⟨S2x8192x1024, .f32⟩
  | 14 => ⟨S2x8192x1024, .f32⟩
  | 15 => ⟨S_, .f32⟩
  | 16 => ⟨S2x8192x1024, .f32⟩
  | 17 => ⟨S2x8192x1024, .f32⟩
  | 18 => ⟨S2x8192x1024, .f32⟩
  | 19 => ⟨S_, .f32⟩
  | 20 => ⟨S2x8192x1024, .f32⟩
  | 21 => ⟨S2x8192x1024, .f32⟩
  | 22 => ⟨S_, .f32⟩
  | 23 => ⟨S2x8192x1024, .f32⟩
  | 24 => ⟨S2x8192x1024, .f32⟩
  | 25 => ⟨S2x8192x1024, .f32⟩
  | 26 => ⟨S2x8192x512, .f32⟩
  | 27 => ⟨S2x8192x512, .f32⟩
  | 28 => ⟨S2x8192x8x64, .f32⟩
  | 29 => ⟨S8x64, .f32⟩
  | 30 => ⟨S8x64, .f32⟩
  | 31 => ⟨S_, .f32⟩
  | 32 => ⟨S2x8192x8, .f32⟩
  | 33 => ⟨S2x8192x8x1, .f32⟩
  | 34 => ⟨S_, .f32⟩
  | 35 => ⟨S2x8192x8x1, .f32⟩
  | 36 => ⟨S2x8192x8x1, .f32⟩
  | 37 => ⟨S2x8192x8x64, .f32⟩
  | 38 => ⟨S2x8192x8x64, .f32⟩
  | 39 => ⟨S2x8192x8x64, .f32⟩
  | 40 => ⟨S_, .f32⟩
  | 41 => ⟨S2x8192x8, .f32⟩
  | 42 => ⟨S2x8192x8x1, .f32⟩
  | 43 => ⟨S_, .f32⟩
  | 44 => ⟨S2x8192x8x1, .f32⟩
  | 45 => ⟨S2x8192x8x1, .f32⟩
  | 46 => ⟨S2x8192x8x64, .f32⟩
  | 47 => ⟨S2x8192x8x64, .f32⟩
  | 48 => ⟨S_, .f32⟩
  | 49 => ⟨S2x8192x8x1, .f32⟩
  | 50 => ⟨S2x8192x8x1, .f32⟩
  | 51 => ⟨S2x8192x8x1, .f32⟩
  | 52 => ⟨S2x8192x8x64, .f32⟩
  | 53 => ⟨S2x8192x8x64, .f32⟩
  | 54 => ⟨S1x1x8x64, .f32⟩
  | 55 => ⟨S2x8192x8x64, .f32⟩
  | 56 => ⟨S2x8192x8x64, .f32⟩
  | 57 => ⟨S1x1x8x64, .f32⟩
  | 58 => ⟨S2x8192x8x64, .f32⟩
  | 59 => ⟨S2x8192x8x64, .f32⟩
  | 60 => ⟨S_, .f32⟩
  | 61 => ⟨S2x8192x4x64, .f32⟩
  | 62 => ⟨S2x8192x4x64, .f32⟩
  | 63 => ⟨S2x8192x4x128, .f32⟩
  | 64 => ⟨S2x8192x4x64, .f32⟩
  | 65 => ⟨S2x8192x4x128, .f32⟩
  | 66 => ⟨S2x8192x8x128, .f32⟩
  | 67 => ⟨S64x256x8x128, .f32⟩
  | 68 => ⟨S64x8x128x256, .f32⟩
  | 69 => ⟨S64x256x128, .f32⟩
  | 70 => ⟨S64x128x256, .f32⟩
  | 71 => ⟨S64x128x256, .bf16⟩
  | 72 => ⟨S16384x128, .f32⟩
  | 73 => ⟨S16384x128, .bf16⟩
  | 74 => ⟨S16384x512, .f32⟩
  | 75 => ⟨S16384x512, .f32⟩
  | 76 => ⟨S16384x512, .bf16⟩
  | 77 => ⟨S2x8192x2048, .f32⟩
  | 78 => ⟨S2x8192x2048, .f32⟩
  | 79 => ⟨S_, .f32⟩
  | 80 => ⟨S2x8192x2048, .f32⟩
  | 81 => ⟨S2x8192x2048, .f32⟩
  | 82 => ⟨S_, .f32⟩
  | 83 => ⟨S2x8192x2048, .f32⟩
  | 84 => ⟨S2x8192x2048, .f32⟩
  | 85 => ⟨S16384x2048, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_cst_8 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_cst_9 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_cst_10 : Ref sig .tc := ⟨.hbm, 147, rfl⟩
abbrev main_v125 : Ref sig .tc := ⟨.hbm, 148, rfl⟩
abbrev main_v126 : Ref sig .tc := ⟨.hbm, 149, rfl⟩
abbrev main_cst_11 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_cst_12 : Ref sig .tc := ⟨.hbm, 159, rfl⟩
abbrev main_v135 : Ref sig .tc := ⟨.hbm, 160, rfl⟩
abbrev main_v136 : Ref sig .tc := ⟨.hbm, 161, rfl⟩
abbrev main_cst_13 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_cst_14 : Ref sig .tc := ⟨.hbm, 168, rfl⟩
abbrev main_v142 : Ref sig .tc := ⟨.hbm, 169, rfl⟩
abbrev main_v143 : Ref sig .tc := ⟨.hbm, 170, rfl⟩
abbrev main_cst_15 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_cst_16 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_cst_17 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_v176 : Ref sig .tc := ⟨.hbm, 206, rfl⟩
abbrev main_cst_18 : Ref sig .tc := ⟨.hbm, 207, rfl⟩
abbrev main_v177 : Ref sig .tc := ⟨.hbm, 208, rfl⟩
abbrev main_v178 : Ref sig .tc := ⟨.hbm, 209, rfl⟩
abbrev main_cst_19 : Ref sig .tc := ⟨.hbm, 210, rfl⟩
abbrev main_v179 : Ref sig .tc := ⟨.hbm, 211, rfl⟩
abbrev main_v180 : Ref sig .tc := ⟨.hbm, 212, rfl⟩
abbrev main_v181 : Ref sig .tc := ⟨.hbm, 213, rfl⟩

abbrev nD : Nat := 1
abbrev τ : Topo := Topo.v7x

variable {F : FTy → Type} [FloatOps F]
-- ==== Proof.Chain.lean ====
/- The attention kernel's body as a recursion over (chunk, head): the pieces its run leaves, step by step. -/
module

public import proofs.«01_k».proof.Proof.Gen.KernelIdeal.Frame

@[expose] public section

noncomputable section

namespace Cert.Attn

open Cert.KernelIdeal Cert.KernelIdeal.Gen Idealize.ShloMosaic Idealize.ShloMosaic.TcCoe Idealize.SL.Sem

variable {F : FTy → Type} [FloatOps F] [Named F]

/-! ## The planes the body loads and stores -/

abbrev rS (h : ℕ) : Rect S8x256x256 :=
  Rect.unit (s := S8x256x256) ![h % 8, 0, 0] S1x256x256.size (by intro a; fin_cases a <;> simp <;> omega)

abbrev rL (h : ℕ) : Rect S8x8x256 :=
  Rect.unit (s := S8x8x256) ![h % 8, 0, 0] S1x8x256.size (by intro a; fin_cases a <;> simp <;> omega)

abbrev rA (h : ℕ) : Rect S8x64x256 :=
  Rect.unit (s := S8x64x256) ![h % 8, 0, 0] S1x64x256.size (by intro a; fin_cases a <;> simp <;> omega)

abbrev rQ (h : ℕ) : Rect S1x8x128x256 :=
  Rect.unit (s := S1x8x128x256) ![0, h % 8, 0, 0] S1x1x128x256.size (by intro a; fin_cases a <;> simp <;> omega)

abbrev rK (c : ℕ) : Rect S1x8192x128 :=
  Rect.unit (s := S1x8192x128) ![0, 256 * (c % 32), 0] S1x256x128.size (by intro a; fin_cases a <;> simp <;> omega)

abbrev rV (c : ℕ) : Rect S1x32x128x256 :=
  Rect.unit (s := S1x32x128x256) ![0, c % 32, 0, 0] S1x1x128x256.size (by intro a; fin_cases a <;> simp <;> omega)

theorem sliceV (h : ℕ) : S128x256.Slices ![64 * (h % 8 / 4), 0] S64x256 := by
  have : h % 8 / 4 = 0 ∨ h % 8 / 4 = 1 := by omega
  rcases this with h | h <;> rw [h] <;> decide

/-- What the body reads: the views its inputs and scratch buffers are seen through, and the input blocks. -/
structure Env (F : FTy → Type) [FloatOps F] where
  arg2 : Memref sig .tc .smem S1 .f32
  harg2 : arg2.IsWhole
  arg3 : Memref sig .tc .vmem S1x8x128x256 .f32
  harg3 : arg3.IsWhole
  arg4 : Memref sig .tc .vmem S1x8192x128 .bf16
  harg4 : arg4.IsWhole
  arg5 : Memref sig .tc .vmem S1x32x128x256 .bf16
  harg5 : arg5.IsWhole
  arg7 : Memref sig .tc .vmem S8x256x256 .f32
  arg8 : Memref sig .tc .vmem S8x256x256 .f32
  arg10 : Memref sig .tc .vmem S8x8x256 .f32
  arg11 : Memref sig .tc .vmem S8x64x256 .f32
  x0 : Vec F S1 .f32
  x1 : Vec F S1x8x128x256 .f32
  x2 : Vec F S1x8192x128 .bf16
  x3 : Vec F S1x32x128x256 .bf16

/-! ## One head of one chunk -/

def qh (E : Env F) (h : ℕ) : FVec F S128x256 .bf16 :=
  k0_pay2 (View.readAt (Elt F) E.arg3.view (rQ h).toLoadRect (E.harg3.unread E.x1))

def kc (E : Env F) (c : ℕ) : FVec F S256x128 .bf16 :=
  shapeCast S256x128 (View.readAt (Elt F) E.arg4.view (rK c).toLoadRect (E.harg4.unread E.x2)) shapeCasts_S1x256x128_S256x128

def vh (E : Env F) (c h : ℕ) : FVec F S64x256 .bf16 :=
  extractStridedSlice S64x256 ![64 * (h % 8 / 4), 0]
    (shapeCast S128x256 (View.readAt (Elt F) E.arg5.view (rV c).toLoadRect (E.harg5.unread E.x3)) shapeCasts_S1x1x128x256_S128x256)
    (sliceV h)

def sh (E : Env F) : FVec F S256x256 .f32 :=
  broadcast S256x256 (View.readAt (Elt F) E.arg2.view (Rect.unit ![0] S1.size inb_S1_S1_0).toLoadRect (E.harg2.unread E.x0)
    (Shape.Idx.first (by decide)))

/-- The scores of chunk `c` for head `h`, as stored. -/
def sc (E : Env F) (c h : ℕ) : FVec F S1x256x256 .f32 :=
  shapeCast S1x256x256
    (matmul dot_S256x128_S128x256_S256x256_1_0_0_1_n_n none (kc E c) (qh E h) (constant S256x256 .f32 0x00000000#32))
    shapeCasts_S256x256_S1x256x256

/-- The weights from a stored score plane. -/
def wt (E : Env F) (s : FVec F S1x256x256 .f32) : FVec F S256x256 .f32 :=
  exp2 (subf (shapeCast S256x256 s shapeCasts_S1x256x256_S256x256) (sh E))

/-- The denominators' next plane from the one loaded. -/
def lNext (l : FVec F S1x8x256 .f32) (e : FVec F S256x256 .f32) : FVec F S1x8x256 .f32 :=
  shapeCast S1x8x256
    (addf (shapeCast S8x256 l shapeCasts_S1x8x256_S8x256)
      (multiReduction .add [0] S8x256 (shapeCast S32x8x256 e shapeCasts_S256x256_S32x8x256) 0x00000000#32
        reduces_S32x8x256_S8x256 (.inl rfl) rfl))
    shapeCasts_S8x256_S1x8x256

/-- The numerators' next plane from the one loaded. -/
def aNext (a : FVec F S1x64x256 .f32) (v : FVec F S64x256 .bf16) (e : FVec F S256x256 .f32) : FVec F S1x64x256 .f32 :=
  shapeCast S1x64x256
    (addf (shapeCast S64x256 a shapeCasts_S1x64x256_S64x256)
      (matmul dot_S64x256_S256x256_S64x256_1_0_0_1_n_n none v (truncf .bf16 e bitsLt_bf16_f32)
        (constant S64x256 .f32 0x00000000#32)))
    shapeCasts_S64x256_S1x64x256

/-! ## The buffers' pieces -/

/-- A chunk's eight score planes, newest first. -/
def rows (E : Env F) (c : ℕ) : List (View.Piece (Elt F) S8x256x256 .f32) :=
  [⟨rS 7, sc E c 7⟩, ⟨rS 6, sc E c 6⟩, ⟨rS 5, sc E c 5⟩, ⟨rS 4, sc E c 4⟩,
    ⟨rS 3, sc E c 3⟩, ⟨rS 2, sc E c 2⟩, ⟨rS 1, sc E c 1⟩, ⟨rS 0, sc E c 0⟩]

/-- The pieces of the score buffer chunk `c` uses, once its scores are stored: the even chunks use one, the odd the other. -/
def SL (E : Env F) : ℕ → List (View.Piece (Elt F) S8x256x256 .f32)
  | 0 => rows E 0
  | 1 => rows E 1
  | c + 2 => rows E (c + 2) ++ SL E c

/-- The score plane loaded at step `n`, the step of head `n % 8` of chunk `n / 8`, from its buffer's pieces `S`. -/
def sAt (E : Env F) (S : List (View.Piece (Elt F) S8x256x256 .f32)) (n : ℕ) : FVec F S1x256x256 .f32 :=
  match n / 8 % 2 with
  | 0 => E.arg7.view.readCov S (rS n).toLoadRect
  | _ => E.arg8.view.readCov S (rS n).toLoadRect

/-- Step `n` on the denominators' pieces. -/
def st3 (E : Env F) (S : List (View.Piece (Elt F) S8x256x256 .f32)) (n : ℕ) (L : List (View.Piece (Elt F) S8x8x256 .f32)) :
    List (View.Piece (Elt F) S8x8x256 .f32) :=
  ⟨rL n, lNext (E.arg10.view.readCov L (rL n).toLoadRect) (wt E (sAt E S n))⟩ :: L

/-- Step `n` on the numerators' pieces. -/
def st4 (E : Env F) (S : List (View.Piece (Elt F) S8x256x256 .f32)) (n : ℕ) (L : List (View.Piece (Elt F) S8x64x256 .f32)) :
    List (View.Piece (Elt F) S8x64x256 .f32) :=
  ⟨rA n, aNext (E.arg11.view.readCov L (rA n).toLoadRect) (vh E (n / 8) n) (wt E (sAt E S n))⟩ :: L

/-- The denominators' pieces after `n` steps. -/
def L3 (E : Env F) : ℕ → List (View.Piece (Elt F) S8x8x256 .f32)
  | 0 => [⟨Rect.unit ![0, 0, 0] S8x8x256.size inb_S8x8x256_S8x8x256_0_0_0, k0_pay13⟩]
  | n + 1 => st3 E (SL E (n / 8)) n (L3 E n)

/-- The numerators' pieces after `n` steps. -/
def L4 (E : Env F) : ℕ → List (View.Piece (Elt F) S8x64x256 .f32)
  | 0 => [⟨Rect.unit ![0, 0, 0] S8x64x256.size inb_S8x64x256_S8x64x256_0_0_0, k0_pay12⟩]
  | n + 1 => st4 E (SL E (n / 8)) n (L4 E n)

/-- A chunk's eight steps. -/
def blk3 (E : Env F) (S : List (View.Piece (Elt F) S8x256x256 .f32)) (c : ℕ) (L : List (View.Piece (Elt F) S8x8x256 .f32)) :
    List (View.Piece (Elt F) S8x8x256 .f32) :=
  st3 E S (8 * c + 7) (st3 E S (8 * c + 6) (st3 E S (8 * c + 5) (st3 E S (8 * c + 4)
    (st3 E S (8 * c + 3) (st3 E S (8 * c + 2) (st3 E S (8 * c + 1) (st3 E S (8 * c) L)))))))

def blk4 (E : Env F) (S : List (View.Piece (Elt F) S8x256x256 .f32)) (c : ℕ) (L : List (View.Piece (Elt F) S8x64x256 .f32)) :
    List (View.Piece (Elt F) S8x64x256 .f32) :=
  st4 E S (8 * c + 7) (st4 E S (8 * c + 6) (st4 E S (8 * c + 5) (st4 E S (8 * c + 4)
    (st4 E S (8 * c + 3) (st4 E S (8 * c + 2) (st4 E S (8 * c + 1) (st4 E S (8 * c) L)))))))

theorem blk3_L3 (E : Env F) (c : ℕ) : blk3 E (SL E c) c (L3 E (8 * c)) = L3 E (8 * (c + 1)) := by
  have h (j : ℕ) (hj : j < 8) : (8 * c + j) / 8 = c := by omega
  rw [show 8 * (c + 1) = 8 * c + 7 + 1 by ring]
  simp only [L3, blk3, h _ (show 1 < 8 by decide), h _ (show 2 < 8 by decide), h _ (show 3 < 8 by decide),
    h _ (show 4 < 8 by decide), h _ (show 5 < 8 by decide), h _ (show 6 < 8 by decide), h _ (show 7 < 8 by decide),
    show 8 * c / 8 = c by omega]

theorem blk4_L4 (E : Env F) (c : ℕ) : blk4 E (SL E c) c (L4 E (8 * c)) = L4 E (8 * (c + 1)) := by
  have h (j : ℕ) (hj : j < 8) : (8 * c + j) / 8 = c := by omega
  rw [show 8 * (c + 1) = 8 * c + 7 + 1 by ring]
  simp only [L4, blk4, h _ (show 1 < 8 by decide), h _ (show 2 < 8 by decide), h _ (show 3 < 8 by decide),
    h _ (show 4 < 8 by decide), h _ (show 5 < 8 by decide), h _ (show 6 < 8 by decide), h _ (show 7 < 8 by decide),
    show 8 * c / 8 = c by omega]

/-- Head `h`'s output plane, from the buffers' pieces after the last step. -/
def oh (E : Env F) (L3' : List (View.Piece (Elt F) S8x8x256 .f32)) (L4' : List (View.Piece (Elt F) S8x64x256 .f32)) (h : ℕ) :
    FVec F S1x64x256 .bf16 :=
  k0_pay1 (shapeCast S64x256 (E.arg11.view.readCov L4' (rA h).toLoadRect) shapeCasts_S1x64x256_S64x256)
    (shapeCast S8x256 (E.arg10.view.readCov L3' (rL h).toLoadRect) shapeCasts_S1x8x256_S8x256)

abbrev rO (h : ℕ) : Rect S1x512x256 :=
  Rect.unit (s := S1x512x256) ![0, 64 * (h % 8), 0] S1x64x256.size (by intro a; fin_cases a <;> simp <;> omega)

/-- The output's pieces. -/
def outL (E : Env F) (L3' : List (View.Piece (Elt F) S8x8x256 .f32)) (L4' : List (View.Piece (Elt F) S8x64x256 .f32)) :
    List (View.Piece (Elt F) S1x512x256 .bf16) :=
  [⟨rO 7, oh E L3' L4' 7⟩, ⟨rO 6, oh E L3' L4' 6⟩, ⟨rO 5, oh E L3' L4' 5⟩, ⟨rO 4, oh E L3' L4' 4⟩,
    ⟨rO 3, oh E L3' L4' 3⟩, ⟨rO 2, oh E L3' L4' 2⟩, ⟨rO 1, oh E L3' L4' 1⟩, ⟨rO 0, oh E L3' L4' 0⟩]

/-! ## The run's own pieces, chunk by chunk -/

section
variable (d : Dev nD) (E : Env F)
open kernelRun0_A.sl

/-- The score buffer's pieces in the run at chunk `c`. -/
def runS : ℕ → List (View.Piece (Elt F) S8x256x256 .f32)
  | 0 => HS0_8 d E.arg3 E.harg3 E.arg4 E.harg4 E.x1 E.x2
  | 1 => HS1_8 d E.arg3 E.harg3 E.arg4 E.harg4 E.x1 E.x2
  | 2 => HS0_16 d E.arg3 E.harg3 E.arg4 E.harg4 E.x1 E.x2
  | 3 => HS1_16 d E.arg3 E.harg3 E.arg4 E.harg4 E.x1 E.x2
  | 4 => HS0_24 d E.arg3 E.harg3 E.arg4 E.harg4 E.x1 E.x2
  | 5 => HS1_24 d E.arg3 E.harg3 E.arg4 E.harg4 E.x1 E.x2
  | 6 => HS0_32 d E.arg3 E.harg3 E.arg4 E.harg4 E.x1 E.x2
  | 7 => HS1_32 d E.arg3 E.harg3 E.arg4 E.harg4 E.x1 E.x2
  | 8 => HS0_40 d E.arg3 E.harg3 E.arg4 E.harg4 E.x1 E.x2
  | 9 => HS1_40 d E.arg3 E.harg3 E.arg4 E.harg4 E.x1 E.x2
  | 10 => HS0_48 d E.arg3 E.harg3 E.arg4 E.harg4 E.x1 E.x2
  | 11 => HS1_48 d E.arg3 E.harg3 E.arg4 E.harg4 E.x1 E.x2
  | 12 => HS0_56 d E.arg3 E.harg3 E.arg4 E.harg4 E.x1 E.x2
  | 13 => HS1_56 d E.arg3 E.harg3 E.arg4 E.harg4 E.x1 E.x2
  | 14 => HS0_64 d E.arg3 E.harg3 E.arg4 E.harg4 E.x1 E.x2
  | 15 => HS1_64 d E.arg3 E.harg3 E.arg4 E.harg4 E.x1 E.x2
  | 16 => HS0_72 d E.arg3 E.harg3 E.arg4 E.harg4 E.x1 E.x2
  | 17 => HS1_72 d E.arg3 E.harg3 E.arg4 E.harg4 E.x1 E.x2
  | 18 => HS0_80 d E.arg3 E.harg3 E.arg4 E.harg4 E.x1 E.x2
  | 19 => HS1_80 d E.arg3 E.harg3 E.arg4 E.harg4 E.x1 E.x2
  | 20 => HS0_88 d E.arg3 E.harg3 E.arg4 E.harg4 E.x1 E.x2
  | 21 => HS1_88 d E.arg3 E.harg3 E.arg4 E.harg4 E.x1 E.x2
  | 22 => HS0_96 d E.arg3 E.harg3 E.arg4 E.harg4 E.x1 E.x2
  | 23 => HS1_96 d E.arg3 E.harg3 E.arg4 E.harg4 E.x1 E.x2
  | 24 => HS0_104 d E.arg3 E.harg3 E.arg4 E.harg4 E.x1 E.x2
  | 25 => HS1_104 d E.arg3 E.harg3 E.arg4 E.harg4 E.x1 E.x2
  | 26 => HS0_112 d E.arg3 E.harg3 E.arg4 E.harg4 E.x1 E.x2
  | 27 => HS1_112 d E.arg3 E.harg3 E.arg4 E.harg4 E.x1 E.x2
  | 28 => HS0_120 d E.arg3 E.harg3 E.arg4 E.harg4 E.x1 E.x2
  | 29 => HS1_120 d E.arg3 E.harg3 E.arg4 E.harg4 E.x1 E.x2
  | 30 => HS0_128 d E.arg3 E.harg3 E.arg4 E.harg4 E.x1 E.x2
  | 31 => HS1_128 d E.arg3 E.harg3 E.arg4 E.harg4 E.x1 E.x2
  | _ => []

/-- The denominators' pieces in the run before chunk `c`. -/
def run3 : ℕ → List (View.Piece (Elt F) S8x8x256 .f32)
  | 0 => HS3_1
  | 1 => HS3_9 d E.arg2 E.harg2 E.arg3 E.harg3 E.arg4 E.harg4 E.arg7 E.arg10 E.x0 E.x1 E.x2
  | 2 => HS3_17 d E.arg2 E.harg2 E.arg3 E.harg3 E.arg4 E.harg4 E.arg7 E.arg8 E.arg10 E.x0 E.x1 E.x2
  | 3 => HS3_25 d E.arg2 E.harg2 E.arg3 E.harg3 E.arg4 E.harg4 E.arg7 E.arg8 E.arg10 E.x0 E.x1 E.x2
  | 4 => HS3_33 d E.arg2 E.harg2 E.arg3 E.harg3 E.arg4 E.harg4 E.arg7 E.arg8 E.arg10 E.x0 E.x1 E.x2
  | 5 => HS3_41 d E.arg2 E.harg2 E.arg3 E.harg3 E.arg4 E.harg4 E.arg7 E.arg8 E.arg10 E.x0 E.x1 E.x2
  | 6 => HS3_49 d E.arg2 E.harg2 E.arg3 E.harg3 E.arg4 E.harg4 E.arg7 E.arg8 E.arg10 E.x0 E.x1 E.x2
  | 7 => HS3_57 d E.arg2 E.harg2 E.arg3 E.harg3 E.arg4 E.harg4 E.arg7 E.arg8 E.arg10 E.x0 E.x1 E.x2
  | 8 => HS3_65 d E.arg2 E.harg2 E.arg3 E.harg3 E.arg4 E.harg4 E.arg7 E.arg8 E.arg10 E.x0 E.x1 E.x2
  | 9 => HS3_73 d E.arg2 E.harg2 E.arg3 E.harg3 E.arg4 E.harg4 E.arg7 E.arg8 E.arg10 E.x0 E.x1 E.x2
  | 10 => HS3_81 d E.arg2 E.harg2 E.arg3 E.harg3 E.arg4 E.harg4 E.arg7 E.arg8 E.arg10 E.x0 E.x1 E.x2
  | 11 => HS3_89 d E.arg2 E.harg2 E.arg3 E.harg3 E.arg4 E.harg4 E.arg7 E.arg8 E.arg10 E.x0 E.x1 E.x2
  | 12 => HS3_97 d E.arg2 E.harg2 E.arg3 E.harg3 E.arg4 E.harg4 E.arg7 E.arg8 E.arg10 E.x0 E.x1 E.x2
  | 13 => HS3_105 d E.arg2 E.harg2 E.arg3 E.harg3 E.arg4 E.harg4 E.arg7 E.arg8 E.arg10 E.x0 E.x1 E.x2
  | 14 => HS3_113 d E.arg2 E.harg2 E.arg3 E.harg3 E.arg4 E.harg4 E.arg7 E.arg8 E.arg10 E.x0 E.x1 E.x2
  | 15 => HS3_121 d E.arg2 E.harg2 E.arg3 E.harg3 E.arg4 E.harg4 E.arg7 E.arg8 E.arg10 E.x0 E.x1 E.x2
  | 16 => HS3_129 d E.arg2 E.harg2 E.arg3 E.harg3 E.arg4 E.harg4 E.arg7 E.arg8 E.arg10 E.x0 E.x1 E.x2
  | 17 => HS3_137 d E.arg2 E.harg2 E.arg3 E.harg3 E.arg4 E.harg4 E.arg7 E.arg8 E.arg10 E.x0 E.x1 E.x2
  | 18 => HS3_145 d E.arg2 E.harg2 E.arg3 E.harg3 E.arg4 E.harg4 E.arg7 E.arg8 E.arg10 E.x0 E.x1 E.x2
  | 19 => HS3_153 d E.arg2 E.harg2 E.arg3 E.harg3 E.arg4 E.harg4 E.arg7 E.arg8 E.arg10 E.x0 E.x1 E.x2
  | 20 => HS3_161 d E.arg2 E.harg2 E.arg3 E.harg3 E.arg4 E.harg4 E.arg7 E.arg8 E.arg10 E.x0 E.x1 E.x2
  | 21 => HS3_169 d E.arg2 E.harg2 E.arg3 E.harg3 E.arg4 E.harg4 E.arg7 E.arg8 E.arg10 E.x0 E.x1 E.x2
  | 22 => HS3_177 d E.arg2 E.harg2 E.arg3 E.harg3 E.arg4 E.harg4 E.arg7 E.arg8 E.arg10 E.x0 E.x1 E.x2
  | 23 => HS3_185 d E.arg2 E.harg2 E.arg3 E.harg3 E.arg4 E.harg4 E.arg7 E.arg8 E.arg10 E.x0 E.x1 E.x2
  | 24 => HS3_193 d E.arg2 E.harg2 E.arg3 E.harg3 E.arg4 E.harg4 E.arg7 E.arg8 E.arg10 E.x0 E.x1 E.x2
  | 25 => HS3_201 d E.arg2 E.harg2 E.arg3 E.harg3 E.arg4 E.harg4 E.arg7 E.arg8 E.arg10 E.x0 E.x1 E.x2
  | 26 => HS3_209 d E.arg2 E.harg2 E.arg3 E.harg3 E.arg4 E.harg4 E.arg7 E.arg8 E.arg10 E.x0 E.x1 E.x2
  | 27 => HS3_217 d E.arg2 E.harg2 E.arg3 E.harg3 E.arg4 E.harg4 E.arg7 E.arg8 E.arg10 E.x0 E.x1 E.x2
  | 28 => HS3_225 d E.arg2 E.harg2 E.arg3 E.harg3 E.arg4 E.harg4 E.arg7 E.arg8 E.arg10 E.x0 E.x1 E.x2
  | 29 => HS3_233 d E.arg2 E.harg2 E.arg3 E.harg3 E.arg4 E.harg4 E.arg7 E.arg8 E.arg10 E.x0 E.x1 E.x2
  | 30 => HS3_241 d E.arg2 E.harg2 E.arg3 E.harg3 E.arg4 E.harg4 E.arg7 E.arg8 E.arg10 E.x0 E.x1 E.x2
  | 31 => HS3_249 d E.arg2 E.harg2 E.arg3 E.harg3 E.arg4 E.harg4 E.arg7 E.arg8 E.arg10 E.x0 E.x1 E.x2
  | 32 => HS3_257 d E.arg2 E.harg2 E.arg3 E.harg3 E.arg4 E.harg4 E.arg7 E.arg8 E.arg10 E.x0 E.x1 E.x2
  | _ => []

/-- The numerators' pieces in the run before chunk `c`. -/
def run4 : ℕ → List (View.Piece (Elt F) S8x64x256 .f32)
  | 0 => HS4_1
  | 1 => HS4_9 d E.arg2 E.harg2 E.arg3 E.harg3 E.arg4 E.harg4 E.arg5 E.harg5 E.arg7 E.arg11 E.x0 E.x1 E.x2 E.x3
  | 2 => HS4_17 d E.arg2 E.harg2 E.arg3 E.harg3 E.arg4 E.harg4 E.arg5 E.harg5 E.arg7 E.arg8 E.arg11 E.x0 E.x1 E.x2 E.x3
  | 3 => HS4_25 d E.arg2 E.harg2 E.arg3 E.harg3 E.arg4 E.harg4 E.arg5 E.harg5 E.arg7 E.arg8 E.arg11 E.x0 E.x1 E.x2 E.x3
  | 4 => HS4_33 d E.arg2 E.harg2 E.arg3 E.harg3 E.arg4 E.harg4 E.arg5 E.harg5 E.arg7 E.arg8 E.arg11 E.x0 E.x1 E.x2 E.x3
  | 5 => HS4_41 d E.arg2 E.harg2 E.arg3 E.harg3 E.arg4 E.harg4 E.arg5 E.harg5 E.arg7 E.arg8 E.arg11 E.x0 E.x1 E.x2 E.x3
  | 6 => HS4_49 d E.arg2 E.harg2 E.arg3 E.harg3 E.arg4 E.harg4 E.arg5 E.harg5 E.arg7 E.arg8 E.arg11 E.x0 E.x1 E.x2 E.x3
  | 7 => HS4_57 d E.arg2 E.harg2 E.arg3 E.harg3 E.arg4 E.harg4 E.arg5 E.harg5 E.arg7 E.arg8 E.arg11 E.x0 E.x1 E.x2 E.x3
  | 8 => HS4_65 d E.arg2 E.harg2 E.arg3 E.harg3 E.arg4 E.harg4 E.arg5 E.harg5 E.arg7 E.arg8 E.arg11 E.x0 E.x1 E.x2 E.x3
  | 9 => HS4_73 d E.arg2 E.harg2 E.arg3 E.harg3 E.arg4 E.harg4 E.arg5 E.harg5 E.arg7 E.arg8 E.arg11 E.x0 E.x1 E.x2 E.x3
  | 10 => HS4_81 d E.arg2 E.harg2 E.arg3 E.harg3 E.arg4 E.harg4 E.arg5 E.harg5 E.arg7 E.arg8 E.arg11 E.x0 E.x1 E.x2 E.x3
  | 11 => HS4_89 d E.arg2 E.harg2 E.arg3 E.harg3 E.arg4 E.harg4 E.arg5 E.harg5 E.arg7 E.arg8 E.arg11 E.x0 E.x1 E.x2 E.x3
  | 12 => HS4_97 d E.arg2 E.harg2 E.arg3 E.harg3 E.arg4 E.harg4 E.arg5 E.harg5 E.arg7 E.arg8 E.arg11 E.x0 E.x1 E.x2 E.x3
  | 13 => HS4_105 d E.arg2 E.harg2 E.arg3 E.harg3 E.arg4 E.harg4 E.arg5 E.harg5 E.arg7 E.arg8 E.arg11 E.x0 E.x1 E.x2 E.x3
  | 14 => HS4_113 d E.arg2 E.harg2 E.arg3 E.harg3 E.arg4 E.harg4 E.arg5 E.harg5 E.arg7 E.arg8 E.arg11 E.x0 E.x1 E.x2 E.x3
  | 15 => HS4_121 d E.arg2 E.harg2 E.arg3 E.harg3 E.arg4 E.harg4 E.arg5 E.harg5 E.arg7 E.arg8 E.arg11 E.x0 E.x1 E.x2 E.x3
  | 16 => HS4_129 d E.arg2 E.harg2 E.arg3 E.harg3 E.arg4 E.harg4 E.arg5 E.harg5 E.arg7 E.arg8 E.arg11 E.x0 E.x1 E.x2 E.x3
  | 17 => HS4_137 d E.arg2 E.harg2 E.arg3 E.harg3 E.arg4 E.harg4 E.arg5 E.harg5 E.arg7 E.arg8 E.arg11 E.x0 E.x1 E.x2 E.x3
  | 18 => HS4_145 d E.arg2 E.harg2 E.arg3 E.harg3 E.arg4 E.harg4 E.arg5 E.harg5 E.arg7 E.arg8 E.arg11 E.x0 E.x1 E.x2 E.x3
  | 19 => HS4_153 d E.arg2 E.harg2 E.arg3 E.harg3 E.arg4 E.harg4 E.arg5 E.harg5 E.arg7 E.arg8 E.arg11 E.x0 E.x1 E.x2 E.x3
  | 20 => HS4_161 d E.arg2 E.harg2 E.arg3 E.harg3 E.arg4 E.harg4 E.arg5 E.harg5 E.arg7 E.arg8 E.arg11 E.x0 E.x1 E.x2 E.x3
  | 21 => HS4_169 d E.arg2 E.harg2 E.arg3 E.harg3 E.arg4 E.harg4 E.arg5 E.harg5 E.arg7 E.arg8 E.arg11 E.x0 E.x1 E.x2 E.x3
  | 22 => HS4_177 d E.arg2 E.harg2 E.arg3 E.harg3 E.arg4 E.harg4 E.arg5 E.harg5 E.arg7 E.arg8 E.arg11 E.x0 E.x1 E.x2 E.x3
  | 23 => HS4_185 d E.arg2 E.harg2 E.arg3 E.harg3 E.arg4 E.harg4 E.arg5 E.harg5 E.arg7 E.arg8 E.arg11 E.x0 E.x1 E.x2 E.x3
  | 24 => HS4_193 d E.arg2 E.harg2 E.arg3 E.harg3 E.arg4 E.harg4 E.arg5 E.harg5 E.arg7 E.arg8 E.arg11 E.x0 E.x1 E.x2 E.x3
  | 25 => HS4_201 d E.arg2 E.harg2 E.arg3 E.harg3 E.arg4 E.harg4 E.arg5 E.harg5 E.arg7 E.arg8 E.arg11 E.x0 E.x1 E.x2 E.x3
  | 26 => HS4_209 d E.arg2 E.harg2 E.arg3 E.harg3 E.arg4 E.harg4 E.arg5 E.harg5 E.arg7 E.arg8 E.arg11 E.x0 E.x1 E.x2 E.x3
  | 27 => HS4_217 d E.arg2 E.harg2 E.arg3 E.harg3 E.arg4 E.harg4 E.arg5 E.harg5 E.arg7 E.arg8 E.arg11 E.x0 E.x1 E.x2 E.x3
  | 28 => HS4_225 d E.arg2 E.harg2 E.arg3 E.harg3 E.arg4 E.harg4 E.arg5 E.harg5 E.arg7 E.arg8 E.arg11 E.x0 E.x1 E.x2 E.x3
  | 29 => HS4_233 d E.arg2 E.harg2 E.arg3 E.harg3 E.arg4 E.harg4 E.arg5 E.harg5 E.arg7 E.arg8 E.arg11 E.x0 E.x1 E.x2 E.x3
  | 30 => HS4_241 d E.arg2 E.harg2 E.arg3 E.harg3 E.arg4 E.harg4 E.arg5 E.harg5 E.arg7 E.arg8 E.arg11 E.x0 E.x1 E.x2 E.x3
  | 31 => HS4_249 d E.arg2 E.harg2 E.arg3 E.harg3 E.arg4 E.harg4 E.arg5 E.harg5 E.arg7 E.arg8 E.arg11 E.x0 E.x1 E.x2 E.x3
  | 32 => HS4_257 d E.arg2 E.harg2 E.arg3 E.harg3 E.arg4 E.harg4 E.arg5 E.harg5 E.arg7 E.arg8 E.arg11 E.x0 E.x1 E.x2 E.x3
  | _ => []

set_option maxRecDepth 8000

theorem runS_zero : runS d E 0 = rows E 0 := rfl
theorem runS_one : runS d E 1 = rows E 1 := rfl

theorem runS_step (c : Fin 30) : runS d E (c + 2) = rows E (c + 2) ++ runS d E c := by
  fin_cases c <;> rfl

theorem run3_zero : run3 d E 0 = L3 E 0 := rfl
theorem run4_zero : run4 d E 0 = L4 E 0 := rfl

set_option maxHeartbeats 4000000 in
theorem run3_step (c : Fin 32) : run3 d E (c + 1) = blk3 E (runS d E c) c (run3 d E c) := by
  fin_cases c <;> rfl

set_option maxHeartbeats 4000000 in
theorem run4_step (c : Fin 32) : run4 d E (c + 1) = blk4 E (runS d E c) c (run4 d E c) := by
  fin_cases c <;> rfl

theorem runS_eq : ∀ c : ℕ, c < 32 → runS d E c = SL E c
  | 0, _ => runS_zero d E
  | 1, _ => runS_one d E
  | c + 2, h => by
    rw [runS_step d E ⟨c, by omega⟩, runS_eq c (by omega)]
    rfl

theorem run3_eq : ∀ c : ℕ, c ≤ 32 → run3 d E c = L3 E (8 * c)
  | 0, _ => run3_zero d E
  | c + 1, h => by
    rw [run3_step d E ⟨c, by omega⟩, run3_eq c (by omega), runS_eq d E c (by omega), blk3_L3]

theorem run4_eq : ∀ c : ℕ, c ≤ 32 → run4 d E c = L4 E (8 * c)
  | 0, _ => run4_zero d E
  | c + 1, h => by
    rw [run4_step d E ⟨c, by omega⟩, run4_eq c (by omega), runS_eq d E c (by omega), blk4_L4]

set_option maxHeartbeats 4000000 in
theorem run_out (i : grid0.Coords) (arg6 : Memref sig .tc .vmem S1x512x256 .bf16) (harg6 : arg6.IsWhole)
    (harg7 : E.arg7.IsWhole) (harg8 : E.arg8.IsWhole) (arg9 : Memref sig .tc .vmem S8x1x256 .f32) (harg9 : arg9.IsWhole)
    (harg10 : E.arg10.IsWhole) (harg11 : E.arg11.IsWhole) :
    (kernelRun0_A d i E.arg2 E.harg2 E.arg3 E.harg3 E.arg4 E.harg4 E.arg5 E.harg5 arg6 harg6 E.arg7 harg7 E.arg8 harg8
      arg9 harg9 E.arg10 harg10 E.arg11 harg11 E.x0 E.x1 E.x2 E.x3).1 = outL E (run3 d E 32) (run4 d E 32) := rfl

/-- The output's pieces in the run are the recursion's. -/
theorem run_out_eq (i : grid0.Coords) (arg6 : Memref sig .tc .vmem S1x512x256 .bf16) (harg6 : arg6.IsWhole)
    (harg7 : E.arg7.IsWhole) (harg8 : E.arg8.IsWhole) (arg9 : Memref sig .tc .vmem S8x1x256 .f32) (harg9 : arg9.IsWhole)
    (harg10 : E.arg10.IsWhole) (harg11 : E.arg11.IsWhole) :
    (kernelRun0_A d i E.arg2 E.harg2 E.arg3 E.harg3 E.arg4 E.harg4 E.arg5 E.harg5 arg6 harg6 E.arg7 harg7 E.arg8 harg8
      arg9 harg9 E.arg10 harg10 E.arg11 harg11 E.x0 E.x1 E.x2 E.x3).1 = outL E (L3 E 256) (L4 E 256) := by
  rw [run_out, run3_eq d E 32 le_rfl, run4_eq d E 32 le_rfl]

end

end Cert.Attn

end
-- ==== Proof.Sem.lean ====
/- The attention kernel's recursion at the ideal interpretation, read at an index. -/
module

public import proofs.«01_k».proof.Proof.Chain
public import Idealize.ShloMosaic.Lib.Pipeline.ValueKit
public import Idealize.ShloMosaic.Lib.Pipeline.ReadBack

@[expose] public section

set_option maxRecDepth 16384

noncomputable section

namespace Cert.Attn

open Cert.KernelIdeal Cert.KernelIdeal.Gen Idealize.ShloMosaic Idealize.ShloMosaic.TcCoe Idealize.SL.Sem

abbrev scale : EReal := (((Real.log 2)⁻¹ * (Real.sqrt 64)⁻¹ : ℝ) : EReal)

variable (E : Env Ideal)

def h8 (h : ℕ) : Fin 8 := ⟨h % 8, Nat.mod_lt _ (by decide)⟩
def c32 (c : ℕ) : Fin 32 := ⟨c % 32, Nat.mod_lt _ (by decide)⟩

theorem qh_at (h : ℕ) (d : Fin 128) (t : Fin 256) :
    qh E h (ix2 d t) = E.x1 (ix4 0 (h8 h) d t) * scale := by
  unfold qh
  rw [View.readAt_eq_ld, Memref.IsWhole.read_unread]
  pointwise [k0_pay2]
  rw [IdealRules.named_const.ideal_named_scalar _ _ _ _ rfl]
  rfl

theorem castK_at (y : Vec Ideal S1x256x128 .bf16) (i : Fin 256) (d : Fin 128) :
    shapeCast S256x128 y shapeCasts_S1x256x128_S256x128 (ix2 i d) = y (ix3 0 i d) := by
  pointwise

theorem castV_at (y : Vec Ideal S1x1x128x256 .bf16) (p : ℕ) (hp : p + 64 ≤ 128) (hs : S128x256.Slices ![p, 0] S64x256)
    (d : Fin 64) (i : Fin 256) :
    extractStridedSlice S64x256 ![p, 0] (shapeCast S128x256 y shapeCasts_S1x1x128x256_S128x256) hs (ix2 d i)
      = y (ix4 0 0 ⟨p + d.val, by omega⟩ i) := by
  pointwise

theorem kc_at (c : ℕ) (i : Fin 256) (d : Fin 128) :
    kc E c (ix2 i d) = E.x2 (ix3 0 ⟨256 * (c % 32) + i, by omega⟩ d) := by
  unfold kc
  rw [View.readAt_eq_ld, Memref.IsWhole.read_unread]
  rw [castK_at]
  refine congrArg E.x2 (funext fun a => Fin.ext ?_)
  fin_cases a <;> simp [LoadRect.idx]

theorem vh_at (c h : ℕ) (d : Fin 64) (i : Fin 256) :
    vh E c h (ix2 d i) = E.x3 (ix4 0 (c32 c) ⟨64 * (h % 8 / 4) + d, by omega⟩ i) := by
  unfold vh
  rw [View.readAt_eq_ld, Memref.IsWhole.read_unread]
  refine (castV_at _ _ (by omega) _ _ _).trans (congrArg E.x3 (funext fun a => Fin.ext ?_))
  fin_cases a <;> simp [LoadRect.idx, c32]

theorem sh_at (i : Fin 256) (t : Fin 256) :
    sh E (ix2 i t) = E.x0 (ix1 0) := by
  unfold sh
  rw [View.readAt_eq_ld, Memref.IsWhole.read_unread]
  pointwise

theorem sc_at (c h : ℕ) (i : Fin 256) (t : Fin 256) :
    sc E c h (ix3 0 i t) = ∑ d, kc E c (ix2 i d) * qh E h (ix2 d t) := by
  pointwise [sc]

theorem wt_at (s : FVec Ideal S1x256x256 .f32) (i : Fin 256) (t : Fin 256) :
    wt E s (ix2 i t) = Ideal.exp2 (s (ix3 0 i t) - sh E (ix2 i t)) := by
  pointwise [wt]
  rfl

theorem lNext_at (l : FVec Ideal S1x8x256 .f32) (e : FVec Ideal S256x256 .f32) (a : Fin 8) (t : Fin 256) :
    lNext l e (ix3 0 a t) = l (ix3 0 a t) + ∑ r : Fin 32, e (ix2 ⟨r * 8 + a, by omega⟩ t) := by
  pointwise [lNext]

theorem aNext_at (l : FVec Ideal S1x64x256 .f32) (v : FVec Ideal S64x256 .bf16) (e : FVec Ideal S256x256 .f32) (a : Fin 64) (t : Fin 256) :
    aNext l v e (ix3 0 a t) = l (ix3 0 a t) + ∑ i : Fin 256, v (ix2 a i) * e (ix2 i t) := by
  pointwise [aNext]

theorem pay1_at (x : FVec Ideal S64x256 .f32) (l : FVec Ideal S8x256 .f32) (d : Fin 64) (t : Fin 256) :
    k0_pay1 x l (ix3 0 d t) = Ideal.div (x (ix2 d t)) (∑ a : Fin 8, l (ix2 a t)) := by
  pointwise [k0_pay1]

/-! ## The buffers at an index -/

theorem rS_emb (h : ℕ) (i j : Fin 256) : (rS h).emb (ix3 0 i j) = ix3 (h8 h) i j := by
  change (rS h).idx _ = _
  refine funext fun a => Fin.ext ?_
  fin_cases a <;> simp [LoadRect.idx, h8]

theorem rL_emb (h : ℕ) (i : Fin 8) (j : Fin 256) : (rL h).emb (ix3 0 i j) = ix3 (h8 h) i j := by
  change (rL h).idx _ = _
  refine funext fun a => Fin.ext ?_
  fin_cases a <;> simp [LoadRect.idx, h8]

theorem rA_emb (h : ℕ) (i : Fin 64) (j : Fin 256) : (rA h).emb (ix3 0 i j) = ix3 (h8 h) i j := by
  change (rA h).idx _ = _
  refine funext fun a => Fin.ext ?_
  fin_cases a <;> simp [LoadRect.idx, h8]

theorem rS_not_mem (n : ℕ) (h : Fin 8) (i j : Fin 256) (hne : n % 8 ≠ h) : ix3 h i j ∉ (rS n).set := by
  intro hm
  have := (LoadRect.mem_set _).mp hm 0
  simp at this
  omega

theorem rL_not_mem (n : ℕ) (h : Fin 8) (i : Fin 8) (j : Fin 256) (hne : n % 8 ≠ h) : ix3 h i j ∉ (rL n).set := by
  intro hm
  have := (LoadRect.mem_set _).mp hm 0
  simp at this
  omega

theorem rA_not_mem (n : ℕ) (h : Fin 8) (i : Fin 64) (j : Fin 256) (hne : n % 8 ≠ h) : ix3 h i j ∉ (rA n).set := by
  intro hm
  have := (LoadRect.mem_set _).mp hm 0
  simp at this
  omega

/-- The score of key `i` of chunk `c` against query `t` of head `h`. -/
def scv (c : Fin 32) (h : Fin 8) (i t : Fin 256) : EReal :=
  ∑ d : Fin 128, E.x2 (ix3 0 ⟨256 * c + i, by omega⟩ d) * (E.x1 (ix4 0 h d t) * scale)

/-- … and its weight. -/
def w (c : Fin 32) (h : Fin 8) (i t : Fin 256) : EReal := Ideal.exp2 (scv E c h i t - E.x0 (ix1 0))

theorem sc_val (c h : ℕ) (i t : Fin 256) : sc E c h (ix3 0 i t) = scv E (c32 c) (h8 h) i t := by
  rw [sc_at]
  refine Finset.sum_congr rfl fun d _ => ?_
  rw [kc_at, qh_at]
  rfl

theorem rows_eq (c : ℕ) : rows E c = [7, 6, 5, 4, 3, 2, 1, 0].map fun h => ⟨rS h, sc E c h⟩ := rfl

theorem canon_rows (c : ℕ) (L : List (View.Piece (Elt Ideal) S8x256x256 .f32)) (h : Fin 8) (i t : Fin 256) :
    View.canon (rows E c ++ L) (ix3 h i t) = scv E (c32 c) h i t := by
  have hmem : h.val ∈ [7, 6, 5, 4, 3, 2, 1, 0] := by revert h; decide
  refine (View.canon_append_of_pieces (fun y => scv E (c32 c) (y 0) (y 1) (y 2)) L (rows E c) ?_ _
    ⟨⟨rS h.val, sc E c h.val⟩, ?_, ?_⟩)
  · rw [rows_eq]
    intro p hp x
    obtain ⟨h, -, rfl⟩ := List.mem_map.mp hp
    obtain ⟨z, i, t, rfl⟩ : ∃ z i t, x = ix3 z i t := ⟨x 0, x 1, x 2, by funext a; fin_cases a <;> rfl⟩
    obtain rfl : z = 0 := Subsingleton.elim _ _
    rw [rS_emb]
    exact sc_val E c h i t
  · rw [rows_eq]
    exact List.mem_map.mpr ⟨h.val, hmem, rfl⟩
  · have hm := LoadRect.idx_mem (rS h.val).toLoadRect (ix3 0 i t)
    have he := rS_emb h.val i t
    change (rS h.val).idx _ = _ at he
    rw [he] at hm
    rwa [show h8 h.val = h from Fin.ext (Nat.mod_eq_of_lt h.isLt)] at hm

theorem canon_SL : ∀ (c : ℕ) (h : Fin 8) (i t : Fin 256), View.canon (SL E c) (ix3 h i t) = scv E (c32 c) h i t
  | 0, h, i, t => by
    have := canon_rows E 0 [] h i t
    rwa [List.append_nil] at this
  | 1, h, i, t => by
    have := canon_rows E 1 [] h i t
    rwa [List.append_nil] at this
  | c + 2, h, i, t => canon_rows E (c + 2) _ h i t

theorem wt_val (n : ℕ) (i t : Fin 256) :
    wt E (sAt E (SL E (n / 8)) n) (ix2 i t) = w E (c32 (n / 8)) (h8 n) i t := by
  have key (v : Memref sig .tc .vmem S8x256x256 .f32) :
      v.view.readCov (SL E (n / 8)) (rS n).toLoadRect (ix3 0 i t) = scv E (c32 (n / 8)) (h8 n) i t := by
    rw [View.readCov_eq_canon']
    refine Eq.trans (congrArg (View.canon _) ?_) (canon_SL E (n / 8) (h8 n) i t)
    exact rS_emb n i t
  rw [wt_at, sh_at]
  unfold sAt w
  generalize n / 8 % 2 = k
  cases k
  · change Ideal.exp2 ((E.arg7.view.readCov (SL E (n / 8)) (rS n).toLoadRect : FVec Ideal S1x256x256 .f32) (ix3 0 i t) - E.x0 (ix1 0)) = _
    rw [key]
  · change Ideal.exp2 ((E.arg8.view.readCov (SL E (n / 8)) (rS n).toLoadRect : FVec Ideal S1x256x256 .f32) (ix3 0 i t) - E.x0 (ix1 0)) = _
    rw [key]

theorem canon_L3 : ∀ (n : ℕ) (h : Fin 8) (a : Fin 8) (t : Fin 256), View.canon (L3 E n) (ix3 h a t)
    = ∑ c ∈ Finset.range ((n + 7 - h) / 8), ∑ r : Fin 32, w E (c32 c) h ⟨r * 8 + a, by omega⟩ t
  | 0, h, a, t => by
    rw [show (0 + 7 - h.val) / 8 = 0 by omega, Finset.sum_range_zero]
    unfold L3
    rw [View.canon_cons_unit_lit _ _ _ (by decide)]
    pointwise [k0_pay13]
  | n + 1, h, a, t => by
    by_cases hn : n % 8 = h
    · have hh : h8 n = h := Fin.ext hn
      have he : ix3 h a t = (rL n).emb (ix3 0 a t) := by rw [rL_emb, hh]
      rw [show L3 E (n + 1) = ⟨rL n, lNext (E.arg10.view.readCov (L3 E n) (rL n).toLoadRect) (wt E (sAt E (SL E (n / 8)) n))⟩ :: L3 E n from rfl]
      rw [he, View.canon_cons_emb, lNext_at, View.readCov_eq_canon']
      change View.canon (L3 E n) ((rL n).emb (ix3 0 a t)) + _ = _
      rw [← he, canon_L3 n h a t, show (n + 1 + 7 - h.val) / 8 = n / 8 + 1 by omega, show (n + 7 - h.val) / 8 = n / 8 by omega,
        Finset.sum_range_succ]
      simp only [wt_val, hh]
    · rw [show L3 E (n + 1) = ⟨rL n, lNext (E.arg10.view.readCov (L3 E n) (rL n).toLoadRect) (wt E (sAt E (SL E (n / 8)) n))⟩ :: L3 E n from rfl]
      refine (View.canon_cons_of_not_mem ⟨rL n, _⟩ _ (rL_not_mem n h a t hn)).trans ?_
      rw [canon_L3 n h a t, show (n + 1 + 7 - h.val) / 8 = (n + 7 - h.val) / 8 by omega]

theorem canon_L4 : ∀ (n : ℕ) (h : Fin 8) (d : Fin 64) (t : Fin 256), View.canon (L4 E n) (ix3 h d t)
    = ∑ c ∈ Finset.range ((n + 7 - h) / 8), ∑ i : Fin 256, E.x3 (ix4 0 (c32 c) ⟨64 * (h / 4) + d, by omega⟩ i) * w E (c32 c) h i t
  | 0, h, a, t => by
    rw [show (0 + 7 - h.val) / 8 = 0 by omega, Finset.sum_range_zero]
    unfold L4
    rw [View.canon_cons_unit_lit _ _ _ (by decide)]
    pointwise [k0_pay12]
  | n + 1, h, a, t => by
    by_cases hn : n % 8 = h
    · have hh : h8 n = h := Fin.ext hn
      have he : ix3 h a t = (rA n).emb (ix3 0 a t) := by rw [rA_emb, hh]
      rw [show L4 E (n + 1) = ⟨rA n, aNext (E.arg11.view.readCov (L4 E n) (rA n).toLoadRect) (vh E (n / 8) n) (wt E (sAt E (SL E (n / 8)) n))⟩ :: L4 E n from rfl]
      rw [he, View.canon_cons_emb, aNext_at, View.readCov_eq_canon']
      change View.canon (L4 E n) ((rA n).emb (ix3 0 a t)) + _ = _
      rw [← he, canon_L4 n h a t, show (n + 1 + 7 - h.val) / 8 = n / 8 + 1 by omega, show (n + 7 - h.val) / 8 = n / 8 by omega,
        Finset.sum_range_succ]
      simp only [wt_val, vh_at, hh, hn]
    · rw [show L4 E (n + 1) = ⟨rA n, aNext (E.arg11.view.readCov (L4 E n) (rA n).toLoadRect) (vh E (n / 8) n) (wt E (sAt E (SL E (n / 8)) n))⟩ :: L4 E n from rfl]
      refine (View.canon_cons_of_not_mem ⟨rA n, _⟩ _ (rA_not_mem n h a t hn)).trans ?_
      rw [canon_L4 n h a t, show (n + 1 + 7 - h.val) / 8 = (n + 7 - h.val) / 8 by omega]

/-- What one head's query `t` gets in coordinate `d`: the weighted values over the weights. -/
def outv (h : Fin 8) (d : Fin 64) (t : Fin 256) : EReal :=
  Ideal.div (∑ c ∈ Finset.range 32, ∑ i : Fin 256, E.x3 (ix4 0 (c32 c) ⟨64 * (h / 4) + d, by omega⟩ i) * w E (c32 c) h i t)
    (∑ a : Fin 8, ∑ c ∈ Finset.range 32, ∑ r : Fin 32, w E (c32 c) h ⟨r * 8 + a, by omega⟩ t)

theorem oh_val (h : ℕ) (d : Fin 64) (t : Fin 256) : oh E (L3 E 256) (L4 E 256) h (ix3 0 d t) = outv E (h8 h) d t := by
  have h3 (a : Fin 8) : E.arg10.view.readCov (L3 E 256) (rL h).toLoadRect (ix3 0 a t)
      = ∑ c ∈ Finset.range 32, ∑ r : Fin 32, w E (c32 c) (h8 h) ⟨r * 8 + a, by omega⟩ t := by
    rw [View.readCov_eq_canon']
    change View.canon (L3 E 256) ((rL h).emb (ix3 0 a t)) = _
    rw [rL_emb, canon_L3, show (256 + 7 - (h8 h).val) / 8 = 32 by omega]
  have h4 : E.arg11.view.readCov (L4 E 256) (rA h).toLoadRect (ix3 0 d t)
      = ∑ c ∈ Finset.range 32, ∑ i : Fin 256, E.x3 (ix4 0 (c32 c) ⟨64 * ((h8 h).val / 4) + d, by omega⟩ i) * w E (c32 c) (h8 h) i t := by
    rw [View.readCov_eq_canon']
    change View.canon (L4 E 256) ((rA h).emb (ix3 0 d t)) = _
    rw [rA_emb, canon_L4, show (256 + 7 - (h8 h).val) / 8 = 32 by omega]
  have c4 (x : FVec Ideal S1x64x256 .f32) : shapeCast S64x256 x shapeCasts_S1x64x256_S64x256 (ix2 d t) = x (ix3 0 d t) := by
    pointwise
  have c3 (x : FVec Ideal S1x8x256 .f32) (a : Fin 8) : shapeCast S8x256 x shapeCasts_S1x8x256_S8x256 (ix2 a t) = x (ix3 0 a t) := by
    pointwise
  unfold oh
  rw [pay1_at]
  simp only [c3, c4]
  rw [h4]
  simp only [h3]
  rfl

theorem rO_emb (h : Fin 8) (d : Fin 64) (t : Fin 256) : (rO h.val).emb (ix3 0 d t) = ix3 0 ⟨64 * h + d, by omega⟩ t := by
  change (rO h.val).idx _ = _
  refine funext fun a => Fin.ext ?_
  fin_cases a <;> simp [LoadRect.idx] <;> omega

theorem outL_eq (L3' : List (View.Piece (Elt Ideal) S8x8x256 .f32)) (L4' : List (View.Piece (Elt Ideal) S8x64x256 .f32)) :
    outL E L3' L4' = [7, 6, 5, 4, 3, 2, 1, 0].map fun h => ⟨rO h, oh E L3' L4' h⟩ := rfl

/-- The output block after the body, at an index. -/
theorem out_at (h : Fin 8) (d : Fin 64) (t : Fin 256) :
    View.canon (outL E (L3 E 256) (L4 E 256)) (ix3 0 ⟨64 * h + d, by omega⟩ t) = outv E h d t := by
  have hmem : h.val ∈ [7, 6, 5, 4, 3, 2, 1, 0] := by revert h; decide
  have e8 (h : Fin 8) : h8 h.val = h := Fin.ext (Nat.mod_eq_of_lt h.isLt)
  rw [← List.append_nil (outL E _ _)]
  refine (View.canon_append_of_pieces
    (fun y => outv E (h8 ((y 1).val / 64)) ⟨(y 1).val % 64, Nat.mod_lt _ (by decide)⟩ (y 2)) [] _ ?_ _
    ⟨⟨rO h.val, oh E (L3 E 256) (L4 E 256) h.val⟩, ?_, ?_⟩).trans ?_
  · rw [outL_eq]
    intro p hp x
    obtain ⟨h, hm, rfl⟩ := List.mem_map.mp hp
    obtain ⟨h, rfl⟩ : ∃ h' : Fin 8, h'.val = h := ⟨⟨h, by simp at hm; omega⟩, rfl⟩
    obtain ⟨z, i, t, rfl⟩ : ∃ z i t, x = ix3 z i t := ⟨x 0, x 1, x 2, by funext a; fin_cases a <;> rfl⟩
    obtain rfl : z = 0 := Subsingleton.elim _ _
    rw [rO_emb]
    refine (oh_val E h.val i t).trans ?_
    have hi : i.val < 64 := i.isLt
    have a1 : (64 * h.val + i.val) / 64 = h.val := by omega
    have a2 : (64 * h.val + i.val) % 64 = i.val := by omega
    change outv E _ _ _ = outv E (h8 ((64 * h.val + i.val) / 64)) ⟨(64 * h.val + i.val) % 64, _⟩ t
    simp only [a1, a2]
  · rw [outL_eq]
    exact List.mem_map.mpr ⟨h.val, hmem, rfl⟩
  · have hm := LoadRect.idx_mem (rO h.val).toLoadRect (ix3 0 d t)
    have he := rO_emb h d t
    change (rO h.val).idx _ = _ at he
    rwa [he] at hm
  · have a1 : (64 * h.val + d.val) / 64 = h.val := by omega
    have a2 : (64 * h.val + d.val) % 64 = d.val := by omega
    change outv E (h8 ((64 * h.val + d.val) / 64)) ⟨(64 * h.val + d.val) % 64, _⟩ t = _
    simp only [a1, a2, e8]

end Cert.Attn

end
-- ==== Proof.HostVal.lean ====
/- The arrays the host prepares for the attention kernel, read at an index. -/
module

public import proofs.«01_k».proof.Proof.Gen.KernelIdeal.Value
public import Idealize.ShloMosaic.Lib.Pipeline.ValueKit

@[expose] public section

set_option maxRecDepth 16384

noncomputable section

namespace Cert.Attn

open Idealize.ShloMosaic Idealize.ShloMosaic.TcCoe Cert.KernelIdeal Cert.KernelIdeal.Gen

variable (m : (ℓ : Loc nD τ sig) → Buf (Elt Ideal) ℓ)

theorem k_at (c : Dev nD) (b : Fin 2) (j : Fin 8192) (l : Fin 128) :
    (V m c main_v9 (ix3 b j l) : EReal) = m ((c : Thread nD τ).loc main_arg1) (ix4 b j ⟨l.val / 64, by omega⟩ ⟨l.val % 64, by omega⟩) := by
  entry_read
  pointwise

theorem v_at (c : Dev nD) (b : Fin 2) (n : Fin 32) (l : Fin 128) (r : Fin 256) :
    (V m c main_v12 (ix4 b n l r) : EReal)
      = m ((c : Thread nD τ).loc main_arg2) (ix4 b ⟨256 * n.val + r.val, by omega⟩ ⟨l.val / 64, by omega⟩ ⟨l.val % 64, by omega⟩) := by
  entry_read
  pointwise
  refine congrArg (m (c, Proc.tc.devRef main_arg2)) (funext fun a => Fin.ext ?_)
  fin_cases a <;> simp [ix4] <;> omega

/-- The queries, transposed, each head padded with zeros in the half of the lanes that holds the other head's keys. -/
def QT (x : FVec Ideal S2x8192x8x64 .f32) : FVec Ideal S64x8x128x256 .f32 :=
  concatenate S64x8x128x256 1
    [⟨S64x4x128x256, concatenate S64x4x128x256 2
        [⟨S64x4x64x256, extractStridedSlice S64x4x64x256 ![0, 0, 0, 0]
            (transpose S64x8x64x256 [0, 2, 3, 1] (shapeCast S64x256x8x64 x shapeCasts_S2x8192x8x64_S64x256x8x64)
              transposes_S64x256x8x64_S64x8x64x256_0_2_3_1) slices_S64x8x64x256_S64x4x64x256_0_0_0_0⟩,
         ⟨S64x4x64x256, broadcastInDim S64x4x64x256 ![] bcast_S_S64x4x64x256 (constant S_ .f32 0x00000000#32)⟩]
        concatenates_S64x4x64x256_S64x4x64x256_S64x4x128x256_d2⟩,
     ⟨S64x4x128x256, concatenate S64x4x128x256 2
        [⟨S64x4x64x256, broadcastInDim S64x4x64x256 ![] bcast_S_S64x4x64x256 (constant S_ .f32 0x00000000#32)⟩,
         ⟨S64x4x64x256, extractStridedSlice S64x4x64x256 ![0, 4, 0, 0]
            (transpose S64x8x64x256 [0, 2, 3, 1] (shapeCast S64x256x8x64 x shapeCasts_S2x8192x8x64_S64x256x8x64)
              transposes_S64x256x8x64_S64x8x64x256_0_2_3_1) slices_S64x8x64x256_S64x4x64x256_0_4_0_0⟩]
        concatenates_S64x4x64x256_S64x4x64x256_S64x4x128x256_d2⟩]
    concatenates_S64x4x128x256_S64x4x128x256_S64x8x128x256_d1

theorem qt_eq (c : Dev nD) : V m c main_v7 = QT (m ((c : Thread nD τ).loc main_arg0)) := by
  entry_read
  rfl

theorem QT_at (x : FVec Ideal S2x8192x8x64 .f32) (b : Fin 2) (i : Fin 32) (h : Fin 8) (l : Fin 128) (t : Fin 256) :
    QT x (ix4 ⟨32 * b.val + i.val, by omega⟩ h l t)
      = if h.val / 4 = l.val / 64 then (x (ix4 b ⟨256 * i.val + t.val, by omega⟩ h ⟨l.val % 64, by omega⟩) : EReal) else (0 : EReal) := by
  unfold QT
  pointwise
  have hb := b.isLt; have hi := i.isLt; have hh := h.isLt; have hl := l.isLt
  have hr : (32 * b.val + i.val) % 32 * 256 + t.val = 256 * i.val + t.val := by omega
  by_cases h4 : h.val < 4 <;> by_cases h64 : l.val < 64
  · have hq : h.val / 4 = l.val / 64 := by omega
    refine (dif_pos h4).trans ((dif_pos h64).trans (Eq.trans ?_ (if_pos hq).symm))
    refine congrArg x (funext fun a => Fin.ext ?_)
    fin_cases a
    · rfl
    · exact hr
    · rfl
    · exact (show l.val = l.val % 64 by omega)
  · have hq : ¬ h.val / 4 = l.val / 64 := by omega
    exact (dif_pos h4).trans ((dif_neg h64).trans (if_neg hq).symm)
  · have hq : ¬ h.val / 4 = l.val / 64 := by omega
    exact (dif_neg h4).trans ((dif_pos h64).trans (if_neg hq).symm)
  · have hq : h.val / 4 = l.val / 64 := by omega
    refine (dif_neg h4).trans ((dif_neg h64).trans (Eq.trans ?_ (if_pos hq).symm))
    refine congrArg x (funext fun a => Fin.ext ?_)
    fin_cases a
    · rfl
    · exact hr
    · exact (show 4 + (h.val - 4) = h.val by omega)
    · exact (show l.val - 64 = l.val % 64 by omega)

theorem q_at (c : Dev nD) (b : Fin 2) (i : Fin 32) (h : Fin 8) (l : Fin 128) (t : Fin 256) :
    (V m c main_v7 (ix4 ⟨32 * b.val + i.val, by omega⟩ h l t) : EReal)
      = if h.val / 4 = l.val / 64 then (m ((c : Thread nD τ).loc main_arg0) (ix4 b ⟨256 * i.val + t.val, by omega⟩ h ⟨l.val % 64, by omega⟩) : EReal) else (0 : EReal) := by
  rw [qt_eq]
  exact QT_at _ b i h l t

/-- The greatest magnitude of a norm's weights. -/
def top (x : FVec Ideal S1x64 .f32) : EReal :=
  Finset.univ.fold max (Ideal.ofBits .f32 0xFF800000#32) fun j : Fin 64 => FloatOps.absf (x (ix2 0 j))

theorem shift_at (c : Dev nD) :
    (V m c main_v21 (ix1 0) : EReal)
      = Ideal.ofBits .f32 0x413B8CE4#32 * top (m ((c : Thread nD τ).loc main_arg3)) * top (m ((c : Thread nD τ).loc main_arg4)) := by
  entry_read
  pointwise
  rfl

end Cert.Attn

end
-- ==== Proof.KernelVal.lean ====
/- The kernel's result array at the ideal interpretation, read at an index of a grid point's block. -/
module

public import proofs.«01_k».proof.Proof.Sem
public import proofs.«01_k».proof.Proof.HostVal

@[expose] public section

set_option maxRecDepth 16384

noncomputable section

namespace Cert.Attn

open Idealize.ShloMosaic Idealize.ShloMosaic.TcCoe Cert.KernelIdeal Cert.KernelIdeal.Gen Cert.KernelIdeal.Value

variable (m : (ℓ : Loc nD τ sig) → Buf (Elt Ideal) ℓ)

/-- The buffers and input blocks of a grid point. -/
def envAt (c : Dev nD) (t : Fin cfg0.N) : Env Ideal where
  arg2 := ms0_0 t
  harg2 := hs0_0 t
  arg3 := ms0_1 t
  harg3 := hs0_1 t
  arg4 := ms0_2 t
  harg4 := hs0_2 t
  arg5 := ms0_3 t
  harg5 := hs0_3 t
  arg7 := scM0_0
  arg8 := scM0_1
  arg10 := scM0_3
  arg11 := scM0_4
  x0 := iblk m c 0 t
  x1 := iblk m c 1 t
  x2 := iblk m c 2 t
  x3 := iblk m c 3 t

theorem out_env (c : Dev nD) (t : Fin cfg0.N) :
    outsAt0 m c t = View.canon (outL (envAt m c t) (L3 (envAt m c t) 256) (L4 (envAt m c t) 256)) := by
  unfold outsAt0 out0_A_4
  refine (congrArg (fun L => VO0_4.read (Elt Ideal) (VO0_4.writes (Elt Ideal) VO0_4.junk L))
    (run_out_eq c (envAt m c t) (grid0.coords t) (ms0_4 t) (hs0_4 t) (Memref.isWhole_whole _) (Memref.isWhole_whole _)
      scM0_2 (Memref.isWhole_whole _) (Memref.isWhole_whole _) (Memref.isWhole_whole _))).trans ?_
  exact View.read_writes_junk_eq_canon _ _

theorem idxs : ∀ t : Fin cfg0.N, win0_0.index t = ![0] ∧ win0_1.index t = ![t.val, 0, 0, 0] ∧ win0_2.index t = ![t.val / 32, 0, 0]
    ∧ win0_3.index t = ![t.val / 32, 0, 0, 0] ∧ win0_4.index t = ![t.val, 0, 0] :=
  (by decide +kernel : ∀ t : Fin grid0.N, _)

theorem x1_at (c : Dev nD) (t : Fin cfg0.N) (h : Fin 8) (l : Fin 128) (p : Fin 256) :
    ((envAt m c t).x1 (ix4 0 h l p) : EReal) = V m c main_v7 (ix4 ⟨t.val, t.isLt⟩ h l p) := by
  show iblk m c 1 t (ix4 0 h l p) = _
  blk_ext [iblk, idxs t]

theorem x2_at (c : Dev nD) (t : Fin cfg0.N) (j : Fin 8192) (l : Fin 128) :
    ((envAt m c t).x2 (ix3 0 j l) : EReal) = V m c main_v9 (ix3 ⟨t.val / 32, by have := t.isLt; have : cfg0.N = 64 := rfl; omega⟩ j l) := by
  show iblk m c 2 t (ix3 0 j l) = _
  blk_ext [iblk, idxs t]

theorem x3_at (c : Dev nD) (t : Fin cfg0.N) (n : Fin 32) (l : Fin 128) (r : Fin 256) :
    ((envAt m c t).x3 (ix4 0 n l r) : EReal) = V m c main_v12 (ix4 ⟨t.val / 32, by have := t.isLt; have : cfg0.N = 64 := rfl; omega⟩ n l r) := by
  show iblk m c 3 t (ix4 0 n l r) = _
  blk_ext [iblk, idxs t]

theorem x0_at (c : Dev nD) (t : Fin cfg0.N) : ((envAt m c t).x0 (ix1 0) : EReal) = V m c main_v21 (ix1 0) := by
  show iblk m c 0 t (ix1 0) = _
  blk_ext [iblk, idxs t]

theorem arr_at (c : Dev nD) (t : Fin cfg0.N) (h : Fin 8) (d : Fin 64) (p : Fin 256) :
    ((dats m 0 c).arrAt 4 cfg0.N (ix3 ⟨t.val, t.isLt⟩ ⟨64 * h.val + d.val, by omega⟩ p) : EReal) = outv (envAt m c t) h d p := by
  have hb := congrFun (blocks4 m c t ((by decide +kernel : ∀ t : Fin grid0.N, (cfg0.win 4).flush t = true) t)) (ix3 0 ⟨64 * h.val + d.val, by omega⟩ p)
  rw [flushed4, out_env] at hb
  rw [← out_at]
  refine Eq.trans ?_ (hb.trans ?_)
  · blk_ext [idxs t]
  · rfl

end Cert.Attn

end
-- ==== Proof.Softmax.lean ====
/- The softmax identity: weights `2^(s / log 2 - σ)` divided after the weighted sum, against weights `e^(s - M)` divided before it. -/
module

public import Idealize.ShloMosaic.Lib.Pipeline.ValueKit

@[expose] public section

noncomputable section

namespace Cert.Attn

open Idealize.ShloMosaic

/-- A finite sum of reals, as an extended real. -/
theorem coe_sum' {ι : Type} (S : Finset ι) (f : ι → ℝ) : ((∑ j ∈ S, f j : ℝ) : EReal) = ∑ j ∈ S, (f j : EReal) := by
  classical
  induction S using Finset.induction_on with
  | empty => simp
  | insert a S ha ih => rw [Finset.sum_insert ha, Finset.sum_insert ha, EReal.coe_add, ih]

/-- A nonnegative real factor distributes over a finite sum of extended reals. -/
theorem sum_mul_coe {ι : Type} (S : Finset ι) (f : ι → EReal) {c : ℝ} (hc : 0 ≤ c) :
    (∑ j ∈ S, f j) * (c : EReal) = ∑ j ∈ S, f j * (c : EReal) := by
  classical
  induction S using Finset.induction_on with
  | empty => simp
  | insert a S ha ih =>
    rw [Finset.sum_insert ha, Finset.sum_insert ha,
      EReal.right_distrib_of_nonneg_of_ne_top (EReal.coe_nonneg.2 hc) (EReal.coe_ne_top c), ih]

/-- `2^(s / log 2 - σ) = e^(s - σ log 2)`. -/
theorem exp2_score (s σ : ℝ) :
    Ideal.exp2 (((s * (Real.log 2)⁻¹ : ℝ) : EReal) - (σ : EReal)) = ((Real.exp (s - σ * Real.log 2) : ℝ) : EReal) := by
  have h2 : Real.log 2 ≠ 0 := (Real.log_pos one_lt_two).ne'
  rw [← EReal.coe_sub, Ideal.exp2_coe]
  congr 1
  rw [Real.rpow_eq_pow, Real.rpow_def_of_pos two_pos]
  congr 1
  field_simp

theorem softmax_eq {ι : Type} [Fintype ι] [Nonempty ι] (v : ι → EReal) (s : ι → ℝ) (σ M : ℝ) :
    Ideal.div (∑ j, v j * Ideal.exp2 (((s j * (Real.log 2)⁻¹ : ℝ) : EReal) - (σ : EReal)))
        (∑ j, Ideal.exp2 (((s j * (Real.log 2)⁻¹ : ℝ) : EReal) - (σ : EReal)))
      = ∑ j, v j * Ideal.div (Ideal.exp ((s j : EReal) - (M : EReal))) (∑ j', Ideal.exp ((s j' : EReal) - (M : EReal))) := by
  have e : ∀ j, Ideal.exp ((s j : EReal) - (M : EReal)) = ((Real.exp (s j - M) : ℝ) : EReal) := fun j => by
    rw [← EReal.coe_sub, Ideal.exp_coe]
  simp only [exp2_score, e, ← coe_sum']
  have hA : 0 < ∑ j, Real.exp (s j - σ * Real.log 2) := Finset.sum_pos (fun j _ => Real.exp_pos _) Finset.univ_nonempty
  have hB : 0 < ∑ j, Real.exp (s j - M) := Finset.sum_pos (fun j _ => Real.exp_pos _) Finset.univ_nonempty
  rw [Ideal.div_coe hA.ne', sum_mul_coe _ _ (one_div_pos.2 hA).le]
  refine Finset.sum_congr rfl fun j _ => ?_
  rw [Ideal.div_coe hB.ne', mul_assoc, ← EReal.coe_mul, ← EReal.coe_mul]
  congr 2
  have hK : ∀ k, Real.exp (s k - M) = Real.exp (σ * Real.log 2 - M) * Real.exp (s k - σ * Real.log 2) := fun k => by
    rw [← Real.exp_add]; congr 1; ring
  simp only [hK, ← Finset.mul_sum]
  have := (Real.exp_pos (σ * Real.log 2 - M)).ne'
  have := hA.ne'
  field_simp

/-- The greatest of finitely many reals (at least one) is a real. -/
theorem fold_max_real {ι : Type} (S : Finset ι) (hS : S.Nonempty) (f : ι → ℝ) :
    ∃ M : ℝ, S.fold max (⊥ : EReal) (fun j => (f j : EReal)) = (M : EReal) := by
  classical
  induction hS using Finset.Nonempty.cons_induction with
  | singleton a => exact ⟨f a, by simp⟩
  | cons a S ha hS ih =>
    obtain ⟨M, hM⟩ := ih
    exact ⟨max (f a) M, by rw [Finset.fold_cons, hM]; exact (EReal.coe_strictMono.monotone.map_max).symm⟩

end Cert.Attn

end
-- ==== Proof.Finite.lean ====
/- What the precondition says at the ideal interpretation, and the constants the two programs take. -/
module

public import proofs.«01_k».proof.Defs
public import proofs.«01_k».proof.Proof.HostVal
public import proofs.«01_k».proof.Proof.Softmax

@[expose] public section

noncomputable section

namespace Cert.Attn

open Idealize.ShloMosaic Idealize.ShloMosaic.TcCoe Cert.KernelIdeal Cert.KernelIdeal.Gen

theorem const_eighth : Ideal.ofBits .f32 0x3E000000#32 = (((1 : ℝ) / 8 : ℝ) : EReal) := by
  simp [Ideal.ofBits, Ideal.ieee, -EReal.coe_mul]; norm_num

theorem const_bot : Ideal.ofBits .f32 0xFF800000#32 = (⊥ : EReal) := by
  simp [Ideal.ofBits, Ideal.ieee]

theorem const_top : Ideal.ofBits .f32 0x7F800000#32 = (⊤ : EReal) := by
  simp [Ideal.ofBits, Ideal.ieee]

theorem const_bound : ∃ r : ℝ, Ideal.ofBits .f32 0x413B8CE4#32 = (r : EReal) := by
  simp [Ideal.ofBits, Ideal.ieee, -EReal.coe_mul]

instance preFacts : Cert.Pre_finite_scores.Facts where
  bcast_S_S2x8192x8x64 := by decide
  bcast_S_S2x8192x2x64 := by decide
  bcast_S_S1x64 := by decide

theorem real_of_abs_lt {x : EReal} (h : Ideal.cmp .olt (max x (-x)) (⊤ : EReal) = 1#1) : ∃ r : ℝ, x = (r : EReal) := by
  induction x using EReal.rec with
  | bot => simp [Ideal.cmp] at h
  | top => simp [Ideal.cmp] at h
  | coe r => exact ⟨r, rfl⟩

variable (m : (ℓ : Loc nD τ sig) → Buf (Elt Ideal) ℓ)

theorem pre_real (h : Cert.Pre_KernelIdeal_finite_scores m) (c : Dev nD) :
    (∀ i, ∃ r : ℝ, (m ((c : Thread nD τ).loc main_arg0) i : EReal) = (r : EReal))
    ∧ (∀ i, ∃ r : ℝ, (m ((c : Thread nD τ).loc main_arg1) i : EReal) = (r : EReal))
    ∧ (∀ i, ∃ r : ℝ, (m ((c : Thread nD τ).loc main_arg3) i : EReal) = (r : EReal))
    ∧ (∀ i, ∃ r : ℝ, (m ((c : Thread nD τ).loc main_arg4) i : EReal) = (r : EReal)) := by
  obtain ⟨h0, h1, h3, h4⟩ := h c
  refine ⟨fun i => ?_, fun i => ?_, fun i => ?_, fun i => ?_⟩
  · refine real_of_abs_lt ((congrArg (Ideal.cmp .olt _) const_top.symm).trans ?_); exact congrFun h0 i
  · refine real_of_abs_lt ((congrArg (Ideal.cmp .olt _) const_top.symm).trans ?_); exact congrFun h1 i
  · refine real_of_abs_lt ((congrArg (Ideal.cmp .olt _) const_top.symm).trans ?_); exact congrFun h3 i
  · refine real_of_abs_lt ((congrArg (Ideal.cmp .olt _) const_top.symm).trans ?_); exact congrFun h4 i

theorem top_real (x : FVec Ideal S1x64 .f32) (hx : ∀ i, ∃ r : ℝ, (x i : EReal) = (r : EReal)) : ∃ r : ℝ, top x = (r : EReal) := by
  choose f hf using hx
  have e : (fun j : Fin 64 => FloatOps.absf (x (ix2 0 j)) : Fin 64 → EReal) = fun j => ((|f (ix2 0 j)| : ℝ) : EReal) := by
    funext j
    show max (x (ix2 0 j) : EReal) (-(x (ix2 0 j) : EReal)) = _
    rw [hf]
    exact (EReal.coe_strictMono.monotone.map_max).symm
  obtain ⟨M, hM⟩ := fold_max_real (Finset.univ : Finset (Fin 64)) Finset.univ_nonempty fun j => |f (ix2 0 j)|
  refine ⟨M, ?_⟩
  unfold top
  rw [const_bot]
  exact (congrArg (fun g => Finset.univ.fold max (⊥ : EReal) g) e).trans hM

theorem shift_real (h : Cert.Pre_KernelIdeal_finite_scores m) (c : Dev nD) : ∃ σ : ℝ, (V m c main_v21 (ix1 0) : EReal) = (σ : EReal) := by
  obtain ⟨-, -, h3, h4⟩ := pre_real m h c
  obtain ⟨r, hr⟩ := const_bound
  obtain ⟨a, ha⟩ := top_real _ h3
  obtain ⟨b, hb⟩ := top_real _ h4
  exact ⟨r * a * b, by rw [shift_at, hr, ha, hb, EReal.coe_mul, EReal.coe_mul]⟩

end Cert.Attn

end
-- ==== Proof.RefVal.lean ====
/- The reference attention at the ideal interpretation, read at an index. -/
module

public import proofs.«01_k».proof.Proof.Gen.ReferenceIdeal.Read
public import Idealize.ShloMosaic.Lib.Pipeline.ValueKit

@[expose] public section

set_option maxRecDepth 16384

noncomputable section

namespace Cert.Attn.Ref

open Idealize.ShloMosaic Cert.ReferenceIdeal Cert.ReferenceIdeal.Read

variable (x0 : (⟨S2x8192x8x64, .f32⟩ : BufTy).Contents (Elt Ideal)) (x1 x2 : (⟨S2x8192x2x64, .f32⟩ : BufTy).Contents (Elt Ideal))

/-- The score of query `p` of head `4 g + u` against key `j`. -/
def sc (b : Fin 2) (g : Fin 2) (u : Fin 4) (p j : Fin 8192) : EReal :=
  ∑ d : Fin 64, x1 (ix4 b j g d) * (x0 (ix4 b p ⟨4 * g.val + u.val, by omega⟩ d) * Ideal.ofBits .f32 0x3E000000#32)

theorem sc_at (b : Fin 2) (g : Fin 2) (u : Fin 4) (p j : Fin 8192) :
    val_main_v4 (F := Ideal) x0 x1 (ix5 b g u p j) = sc x0 x1 b g u p j := by
  rw [val_main_v4_apply, val_main_v3_apply]
  refine Finset.sum_congr rfl fun d _ => ?_
  rw [val_main_v2_apply, val_main_v1_apply, val_main_v0_apply]
  refine congrArg₂ (· * ·) (congrArg x1 ?_) (congrArg (· * _) (congrArg x0 ?_))
  · exact funext fun a => match a with | ⟨0, _⟩ => rfl | ⟨1, _⟩ => rfl | ⟨2, _⟩ => rfl | ⟨3, _⟩ => rfl
  · have hb := b.isLt; have hg := g.isLt; have hu := u.isLt; have hp := p.isLt; have hd := d.isLt
    exact funext fun a => Fin.ext (match a with
      | ⟨0, _⟩ => show ((((b.val * 8192 + p.val) * 2 + g.val) * 4 + u.val) * 64 + d.val) / 4194304 = b.val by omega
      | ⟨1, _⟩ => show ((((b.val * 8192 + p.val) * 2 + g.val) * 4 + u.val) * 64 + d.val) / 512 % 8192 = p.val by omega
      | ⟨2, _⟩ => show ((((b.val * 8192 + p.val) * 2 + g.val) * 4 + u.val) * 64 + d.val) / 64 % 8 = 4 * g.val + u.val by omega
      | ⟨3, _⟩ => show ((((b.val * 8192 + p.val) * 2 + g.val) * 4 + u.val) * 64 + d.val) % 64 = d.val by omega)

/-- The greatest score of a query. -/
def mx (b : Fin 2) (g : Fin 2) (u : Fin 4) (p : Fin 8192) : EReal :=
  max (Ideal.ofBits .f32 0xFF800000#32) (Finset.univ.fold max (Ideal.ofBits .f32 0xFF800000#32) fun j => sc x0 x1 b g u p j)

theorem mx_at (b : Fin 2) (g : Fin 2) (u : Fin 4) (p j : Fin 8192) :
    val_main_v9 (F := Ideal) x0 x1 (ix5 b g u p j) = mx x0 x1 b g u p := by
  rw [val_main_v9_apply, val_main_v8_apply, val_main_v7_apply, val_main_v6_apply, val_main_cst_1_apply]
  have hi : idx_main_v8 (idx_main_v9 (ix5 b g u p j)) = ix4 b g u p :=
    funext fun a => match a with | ⟨0, _⟩ => rfl | ⟨1, _⟩ => rfl | ⟨2, _⟩ => rfl | ⟨3, _⟩ => rfl
  rw [hi]
  unfold mx
  refine congrArg (max (Ideal.ofBits .f32 0xFF800000#32)) ?_
  simp only [← sc_at]
  unfold val_main_v5 val_main_cst_0
  generalize val_main_v4 (F := Ideal) x0 x1 = y
  pointwise

theorem w_at (b : Fin 2) (g : Fin 2) (u : Fin 4) (p j : Fin 8192) :
    val_main_v11 (F := Ideal) x0 x1 (ix5 b g u p j) = Ideal.exp (sc x0 x1 b g u p j - mx x0 x1 b g u p) := by
  rw [val_main_v11_apply, val_main_v10_apply, sc_at, mx_at]
  rfl

theorem p_at (b : Fin 2) (g : Fin 2) (u : Fin 4) (p j : Fin 8192) :
    val_main_v15 (F := Ideal) x0 x1 (ix5 b g u p j)
      = Ideal.div (Ideal.exp (sc x0 x1 b g u p j - mx x0 x1 b g u p)) (∑ k : Fin 8192, Ideal.exp (sc x0 x1 b g u p k - mx x0 x1 b g u p)) := by
  rw [val_main_v15_apply, w_at, val_main_v14_apply, val_main_v13_apply, val_main_v12_apply, val_main_cst_2_apply]
  have hi : ∀ k, idx_main_v12 (idx_main_v13 (idx_main_v14 (ix5 b g u p j))) k = ix5 b g u p k := fun k =>
    funext fun a => match a with | ⟨0, _⟩ => rfl | ⟨1, _⟩ => rfl | ⟨2, _⟩ => rfl | ⟨3, _⟩ => rfl | ⟨4, _⟩ => rfl
  simp only [hi, w_at]
  refine congrArg (Ideal.div _) ?_
  refine (congrArg (· + _) ?_).trans (zero_add _)
  exact Ideal.ofBits_zero _

theorem ref_at (b : Fin 2) (i : Fin 32) (g : Fin 2) (u : Fin 4) (d : Fin 64) (t : Fin 256) :
    val_main_v21 (F := Ideal) x0 x1 x2 (ix3 ⟨32 * b.val + i.val, by omega⟩ ⟨64 * (4 * g.val + u.val) + d.val, by omega⟩ t)
      = ∑ j : Fin 8192, x2 (ix4 b j g d) *
          Ideal.div (Ideal.exp (sc x0 x1 b g u ⟨256 * i.val + t.val, by omega⟩ j - mx x0 x1 b g u ⟨256 * i.val + t.val, by omega⟩))
            (∑ k : Fin 8192, Ideal.exp (sc x0 x1 b g u ⟨256 * i.val + t.val, by omega⟩ k - mx x0 x1 b g u ⟨256 * i.val + t.val, by omega⟩)) := by
  rw [val_main_v21_apply]
  refine (show _ = val_main_v20 (F := Ideal) x0 x1 x2 _ from rfl).trans ?_
  rw [val_main_v20_apply, val_main_v19_apply, val_main_v18_apply, val_main_v17_apply]
  have hb := b.isLt; have hg := g.isLt; have hu := u.isLt; have hi := i.isLt; have hd := d.isLt; have ht := t.isLt
  have h1 : idx_main_v19 (idx_main_v20 (ix3 ⟨32 * b.val + i.val, by omega⟩ ⟨64 * (4 * g.val + u.val) + d.val, by omega⟩ t))
      = ix3 b ⟨256 * i.val + t.val, by omega⟩ ⟨64 * (4 * g.val + u.val) + d.val, by omega⟩ := by
    exact funext fun a => Fin.ext (match a with
      | ⟨0, _⟩ => show (((32 * b.val + i.val) * 256 + t.val) * 512 + (64 * (4 * g.val + u.val) + d.val)) / 4194304 = b.val by omega
      | ⟨1, _⟩ => show (((32 * b.val + i.val) * 256 + t.val) * 512 + (64 * (4 * g.val + u.val) + d.val)) / 512 % 8192 = 256 * i.val + t.val by omega
      | ⟨2, _⟩ => show (((32 * b.val + i.val) * 256 + t.val) * 512 + (64 * (4 * g.val + u.val) + d.val)) % 512 = 64 * (4 * g.val + u.val) + d.val by omega)
  have h2 : idx_main_v18 (ix3 b ⟨256 * i.val + t.val, by omega⟩ ⟨64 * (4 * g.val + u.val) + d.val, by omega⟩)
      = ix5 b ⟨256 * i.val + t.val, by omega⟩ g u d := by
    exact funext fun a => Fin.ext (match a with
      | ⟨0, _⟩ => show ((b.val * 8192 + (256 * i.val + t.val)) * 512 + (64 * (4 * g.val + u.val) + d.val)) / 4194304 = b.val by omega
      | ⟨1, _⟩ => show ((b.val * 8192 + (256 * i.val + t.val)) * 512 + (64 * (4 * g.val + u.val) + d.val)) / 512 % 8192 = 256 * i.val + t.val by omega
      | ⟨2, _⟩ => show ((b.val * 8192 + (256 * i.val + t.val)) * 512 + (64 * (4 * g.val + u.val) + d.val)) / 256 % 2 = g.val by omega
      | ⟨3, _⟩ => show ((b.val * 8192 + (256 * i.val + t.val)) * 512 + (64 * (4 * g.val + u.val) + d.val)) / 64 % 4 = u.val by omega
      | ⟨4, _⟩ => show ((b.val * 8192 + (256 * i.val + t.val)) * 512 + (64 * (4 * g.val + u.val) + d.val)) % 64 = d.val by omega)
  rw [h1, h2, val_main_v16_apply]
  refine Finset.sum_congr rfl fun j _ => ?_
  rw [← p_at]
  refine congrArg₂ (· * ·) (congrArg x2 ?_) (congrArg _ ?_)
  · exact funext fun a => match a with | ⟨0, _⟩ => rfl | ⟨1, _⟩ => rfl | ⟨2, _⟩ => rfl | ⟨3, _⟩ => rfl
  · exact funext fun a => match a with | ⟨0, _⟩ => rfl | ⟨1, _⟩ => rfl | ⟨2, _⟩ => rfl | ⟨3, _⟩ => rfl | ⟨4, _⟩ => rfl

end Cert.Attn.Ref

end
-- ==== Proof.Attention.lean ====
/- The kernel's result is the reference's: the shifted weights summed chunk by chunk are the softmax. -/
module

public import proofs.«01_k».proof.Proof.KernelVal
public import proofs.«01_k».proof.Proof.Finite
public import proofs.«01_k».proof.Proof.RefVal

@[expose] public section

set_option maxRecDepth 16384

noncomputable section

namespace Cert.Attn

open Idealize.ShloMosaic Idealize.ShloMosaic.TcCoe Cert.KernelIdeal Cert.KernelIdeal.Gen Cert.KernelIdeal.Value

/-! ## The orders of summation -/

theorem sum_keys (f : Fin 8192 → EReal) :
    ∑ c ∈ Finset.range 32, ∑ i : Fin 256, f ⟨256 * (c32 c).val + i.val, by omega⟩ = ∑ j, f j := by
  rw [Finset.sum_range, ← Fintype.sum_prod_type']
  refine Fintype.sum_equiv (finProdFinEquiv (m := 32) (n := 256)) _ _ fun x => congrArg f (Fin.ext ?_)
  show 256 * (x.1.val % 32) + x.2.val = x.2.val + 256 * x.1.val
  have := x.1.isLt
  omega

theorem sum_sublanes (f : Fin 256 → EReal) : ∑ a : Fin 8, ∑ r : Fin 32, f ⟨r.val * 8 + a.val, by omega⟩ = ∑ i, f i := by
  rw [Finset.sum_comm, ← Fintype.sum_prod_type']
  refine Fintype.sum_equiv (finProdFinEquiv (m := 32) (n := 8)) _ _ fun x => congrArg f (Fin.ext ?_)
  show x.1.val * 8 + x.2.val = x.2.val + 8 * x.1.val
  omega

theorem sum_rows (f : Fin 8192 → EReal) :
    ∑ a : Fin 8, ∑ c ∈ Finset.range 32, ∑ r : Fin 32, f ⟨256 * (c32 c).val + (r.val * 8 + a.val), by omega⟩ = ∑ j, f j := by
  rw [Finset.sum_comm, ← sum_keys]
  refine Finset.sum_congr rfl fun c _ => ?_
  exact sum_sublanes fun i => f ⟨256 * (c32 c).val + i.val, by omega⟩

/-- Of the 128 lanes, the 64 of the group's keys count: the queries are zero at the others. -/
theorem sum_lanes (g : Fin 2) (k q : Fin 64 → ℝ) (k' : Fin 2 → Fin 64 → ℝ) (hk : k' g = k) (s : ℝ) :
    ∑ l : Fin 128, k' ⟨l.val / 64, by omega⟩ ⟨l.val % 64, by omega⟩ * ((if g.val = l.val / 64 then q ⟨l.val % 64, by omega⟩ else 0) * s)
      = (∑ d, k d * q d) * s := by
  have e : ∑ l : Fin 128, k' ⟨l.val / 64, by omega⟩ ⟨l.val % 64, by omega⟩ * ((if g.val = l.val / 64 then q ⟨l.val % 64, by omega⟩ else 0) * s)
      = ∑ x : Fin 2 × Fin 64, k' x.1 x.2 * ((if g = x.1 then q x.2 else 0) * s) := by
    refine (Fintype.sum_equiv (finProdFinEquiv (m := 2) (n := 64)) _ _ fun x => ?_).symm
    have h1 : (⟨(finProdFinEquiv x).val / 64, by have := (finProdFinEquiv x).isLt; omega⟩ : Fin 2) = x.1 := Fin.ext (by
      show (x.2.val + 64 * x.1.val) / 64 = x.1.val
      omega)
    have h2 : (⟨(finProdFinEquiv x).val % 64, by omega⟩ : Fin 64) = x.2 := Fin.ext (by
      show (x.2.val + 64 * x.1.val) % 64 = x.2.val
      omega)
    have h3 : (g.val = (finProdFinEquiv x).val / 64) = (g = x.1) := by
      rw [← h1, Fin.ext_iff]
    show _ = k' ⟨(finProdFinEquiv x).val / 64, _⟩ ⟨(finProdFinEquiv x).val % 64, _⟩ * ((if g.val = (finProdFinEquiv x).val / 64 then q ⟨(finProdFinEquiv x).val % 64, _⟩ else 0) * s)
    simp only [h1, h2, h3]
  rw [e, Fintype.sum_prod_type, Finset.sum_eq_single g]
  · subst hk
    rw [Finset.sum_mul]
    refine Finset.sum_congr rfl fun d _ => ?_
    show k' g d * ((if g = g then q d else 0) * s) = k' g d * q d * s
    rw [if_pos rfl, mul_assoc]
  · intro x _ hx
    exact Finset.sum_eq_zero fun d _ => by rw [if_neg (Ne.symm hx), zero_mul, mul_zero]
  · exact fun h => absurd (Finset.mem_univ g) h

/-! ## The scores -/

section

variable (f0 : S2x8192x8x64.Idx → ℝ) (f1 : S2x8192x2x64.Idx → ℝ)

/-- The score of query `p` of head `4 g + u` against key `j`, a real. -/
def score (b : Fin 2) (g : Fin 2) (u : Fin 4) (p j : Fin 8192) : ℝ :=
  (∑ d : Fin 64, f1 (ix4 b j g d) * f0 (ix4 b p ⟨4 * g.val + u.val, by omega⟩ d)) * (1 / 8)

theorem ref_score (x0 : FVec Ideal S2x8192x8x64 .f32) (x1 : FVec Ideal S2x8192x2x64 .f32)
    (h0 : ∀ i, (x0 i : EReal) = (f0 i : EReal)) (h1 : ∀ i, (x1 i : EReal) = (f1 i : EReal))
    (b : Fin 2) (g : Fin 2) (u : Fin 4) (p j : Fin 8192) :
    Ref.sc x0 x1 b g u p j = ((score f0 f1 b g u p j : ℝ) : EReal) := by
  unfold Ref.sc score
  rw [Finset.sum_mul, coe_sum']
  refine Finset.sum_congr rfl fun d _ => ?_
  rw [const_eighth]
  refine (congrArg₂ (fun a c : EReal => a * (c * (((1 : ℝ) / 8 : ℝ) : EReal))) (h1 _) (h0 _)).trans ?_
  rw [← EReal.coe_mul, ← EReal.coe_mul, mul_assoc]

variable (m : (ℓ : Loc nD τ sig) → Buf (Elt Ideal) ℓ)

theorem kernel_score (c : Dev nD)
    (h0 : ∀ i, (m ((c : Thread nD τ).loc main_arg0) i : EReal) = (f0 i : EReal))
    (h1 : ∀ i, (m ((c : Thread nD τ).loc main_arg1) i : EReal) = (f1 i : EReal))
    (t : Fin cfg0.N) (b : Fin 2) (i : Fin 32) (ht : t.val = 32 * b.val + i.val) (g : Fin 2) (u : Fin 4) (p : Fin 256) (n : Fin 32) (r : Fin 256) :
    scv (envAt m c t) n ⟨4 * g.val + u.val, by omega⟩ r p
      = ((score f0 f1 b g u ⟨256 * i.val + p.val, by omega⟩ ⟨256 * n.val + r.val, by omega⟩ * (Real.log 2)⁻¹ : ℝ) : EReal) := by
  have hl := sum_lanes g (fun d => f1 (ix4 b ⟨256 * n.val + r.val, by omega⟩ g d))
    (fun d => f0 (ix4 b ⟨256 * i.val + p.val, by omega⟩ ⟨4 * g.val + u.val, by omega⟩ d))
    (fun g' d => f1 (ix4 b ⟨256 * n.val + r.val, by omega⟩ g' d)) rfl ((Real.log 2)⁻¹ * (Real.sqrt 64)⁻¹)
  have h8 : Real.sqrt 64 = 8 := by rw [show (64 : ℝ) = 8 ^ 2 by norm_num]; exact Real.sqrt_sq (by norm_num)
  unfold score
  rw [show ∀ S : ℝ, S * (1 / 8) * (Real.log 2)⁻¹ = S * ((Real.log 2)⁻¹ * (Real.sqrt 64)⁻¹) from fun S => by rw [h8]; ring]
  refine Eq.trans ?_ (congrArg (fun x : ℝ => (x : EReal)) hl)
  rw [coe_sum']
  unfold scv
  refine Finset.sum_congr rfl fun l _ => ?_
  have e1 : ((envAt m c t).x1 (ix4 0 ⟨4 * g.val + u.val, by omega⟩ l p) : EReal)
      = ((if g.val = l.val / 64 then f0 (ix4 b ⟨256 * i.val + p.val, by omega⟩ ⟨4 * g.val + u.val, by omega⟩ ⟨l.val % 64, by omega⟩) else 0 : ℝ) : EReal) := by
    rw [x1_at]
    have hn : (⟨t.val, t.isLt⟩ : Fin 64) = ⟨32 * b.val + i.val, by omega⟩ := Fin.ext ht
    refine (congrArg (fun z => V m c main_v7 (ix4 z ⟨4 * g.val + u.val, by omega⟩ l p)) hn).trans ?_
    rw [q_at]
    have hg : (4 * g.val + u.val) / 4 = g.val := by omega
    by_cases hq : g.val = l.val / 64
    · rw [if_pos hq]
      exact (if_pos (hg.trans hq)).trans (h0 _)
    · rw [if_neg hq]
      exact (if_neg fun h => hq (hg.symm.trans h)).trans EReal.coe_zero.symm
  have e2 : ((envAt m c t).x2 (ix3 0 ⟨256 * n.val + r.val, by omega⟩ l) : EReal)
      = (f1 (ix4 b ⟨256 * n.val + r.val, by omega⟩ ⟨l.val / 64, by omega⟩ ⟨l.val % 64, by omega⟩) : EReal) := by
    rw [x2_at, k_at, h1]
    have hb : t.val / 32 = b.val := by omega
    congr 3
    exact Fin.ext hb
  rw [EReal.coe_mul, EReal.coe_mul]
  exact congrArg₂ (fun a c : EReal => a * (c * scale)) e2 e1

end

/-! ## The results -/

variable (m : (ℓ : Loc nD τ sig) → Buf (Elt Ideal) ℓ)

theorem result_at (h : Cert.Pre_KernelIdeal_finite_scores m) (c : Dev nD) (b : Fin 2) (i : Fin 32) (g : Fin 2) (u : Fin 4) (d : Fin 64) (p : Fin 256) :
    ((dats m 0 c).arrAt 4 cfg0.N (ix3 ⟨32 * b.val + i.val, by omega⟩ ⟨64 * (4 * g.val + u.val) + d.val, by omega⟩ p) : EReal)
      = Cert.ReferenceIdeal.Read.val_main_v21 (F := Ideal) (m ((c : Thread nD τ).loc main_arg0)) (m ((c : Thread nD τ).loc main_arg1))
          (m ((c : Thread nD τ).loc main_arg2)) (ix3 ⟨32 * b.val + i.val, by omega⟩ ⟨64 * (4 * g.val + u.val) + d.val, by omega⟩ p) := by
  obtain ⟨h0, h1, -, -⟩ := pre_real m h c
  choose f0 h0 using h0
  choose f1 h1 using h1
  obtain ⟨σ, hσ⟩ := shift_real m h c
  let t : Fin cfg0.N := ⟨32 * b.val + i.val, show 32 * b.val + i.val < 64 by omega⟩
  refine (arr_at m c t ⟨4 * g.val + u.val, by omega⟩ d p).trans (Eq.trans ?_ (Ref.ref_at _ _ _ b i g u d p).symm)
  let P : Fin 8192 := ⟨256 * i.val + p.val, by omega⟩
  let v : Fin 8192 → EReal := fun j => m ((c : Thread nD τ).loc main_arg2) (ix4 b j g d)
  have hs : ∀ j, Ref.sc (m ((c : Thread nD τ).loc main_arg0)) (m ((c : Thread nD τ).loc main_arg1)) b g u P j = ((score f0 f1 b g u P j : ℝ) : EReal) :=
    fun j => ref_score f0 f1 _ _ h0 h1 b g u P j
  obtain ⟨M, hM⟩ : ∃ M : ℝ, Ref.mx (m ((c : Thread nD τ).loc main_arg0)) (m ((c : Thread nD τ).loc main_arg1)) b g u P = (M : EReal) := by
    obtain ⟨M, hM⟩ := fold_max_real (Finset.univ : Finset (Fin 8192)) Finset.univ_nonempty fun j => score f0 f1 b g u P j
    refine ⟨M, ?_⟩
    unfold Ref.mx
    simp only [hs, const_bot]
    rw [hM]
    exact max_eq_right bot_le
  have hw : ∀ (n : Fin 32) (r : Fin 256), w (envAt m c t) n ⟨4 * g.val + u.val, by omega⟩ r p
      = (fun j : Fin 8192 => Ideal.exp2 (((score f0 f1 b g u P j * (Real.log 2)⁻¹ : ℝ) : EReal) - (σ : EReal))) ⟨256 * n.val + r.val, by omega⟩ := fun n r => by
    unfold w
    rw [kernel_score f0 f1 m c h0 h1 t b i rfl, x0_at, hσ]
  have hv : ∀ (n : Fin 32) (r : Fin 256), ((envAt m c t).x3 (ix4 0 n ⟨64 * ((4 * g.val + u.val) / 4) + d.val, by omega⟩ r) : EReal) = v ⟨256 * n.val + r.val, by omega⟩ := fun n r => by
    rw [x3_at, v_at]
    refine congrArg (m ((c : Thread nD τ).loc main_arg2)) (funext fun a => Fin.ext ?_)
    have ht : (32 * b.val + i.val) / 32 = b.val := by omega
    have hg : (64 * ((4 * g.val + u.val) / 4) + d.val) / 64 = g.val := by omega
    have hd : (64 * ((4 * g.val + u.val) / 4) + d.val) % 64 = d.val := by omega
    fin_cases a
    · exact ht
    · rfl
    · exact hg
    · exact hd
  refine Eq.trans ?_ ((softmax_eq v (fun j => score f0 f1 b g u P j) σ M).trans ?_)
  · unfold outv
    refine congrArg₂ Ideal.div ?_ ?_
    · refine Eq.trans ?_ (sum_keys fun j => v j * Ideal.exp2 (((score f0 f1 b g u P j * (Real.log 2)⁻¹ : ℝ) : EReal) - (σ : EReal)))
      exact Finset.sum_congr rfl fun n _ => Finset.sum_congr rfl fun r _ => congrArg₂ (· * ·) (hv _ _) (hw _ _)
    · refine Eq.trans ?_ (sum_rows fun j => Ideal.exp2 (((score f0 f1 b g u P j * (Real.log 2)⁻¹ : ℝ) : EReal) - (σ : EReal)))
      exact Finset.sum_congr rfl fun a _ => Finset.sum_congr rfl fun n _ => Finset.sum_congr rfl fun r _ => hw _ _
  · refine Finset.sum_congr rfl fun j _ => ?_
    show v j * _ = v j * _
    simp only [← hs, ← hM]
    rfl

theorem result_eq (h : Cert.Pre_KernelIdeal_finite_scores m) (c : Dev nD) :
    (dats m 0 c).arrAt 4 cfg0.N
      = Cert.ReferenceIdeal.Read.val_main_v21 (F := Ideal) (m ((c : Thread nD τ).loc main_arg0)) (m ((c : Thread nD τ).loc main_arg1))
          (m ((c : Thread nD τ).loc main_arg2)) := by
  funext (y : S64x512x256.Idx)
  have h0 : (y 0).val < 64 := (y 0).isLt
  have h1 : (y 1).val < 512 := (y 1).isLt
  have e : y = ix3 ⟨32 * ((y 0).val / 32) + (y 0).val % 32, by omega⟩ ⟨64 * (4 * ((y 1).val / 256) + (y 1).val / 64 % 4) + (y 1).val % 64, by omega⟩ (y 2) := by
    refine funext fun a => Fin.ext ?_
    fin_cases a
    · exact (show (y 0).val = 32 * ((y 0).val / 32) + (y 0).val % 32 by omega)
    · exact (show (y 1).val = 64 * (4 * ((y 1).val / 256) + (y 1).val / 64 % 4) + (y 1).val % 64 by omega)
    · rfl
  rw [e]
  exact result_at m h c ⟨(y 0).val / 32, by omega⟩ ⟨(y 0).val % 32, by omega⟩ ⟨(y 1).val / 256, by omega⟩ ⟨(y 1).val / 64 % 4, by omega⟩ ⟨(y 1).val % 64, by omega⟩ (y 2)

end Cert.Attn

end
-- ==== Proof.MergeRuns.lean ====
/- The merge kernel's body, run once per kind of grid point: the first point, an even and an odd interior point, and the
   last point. Each run says what the output and the two row buffers end with, as lists of written pieces. -/
module

public import proofs.«01_k».proof.Proof.Gen.Kernel2Ideal.Frame
public import proofs.«01_k».proof.Proof.Gen.Kernel2Ideal.Skeleton

@[expose] public section

set_option maxRecDepth 16384

noncomputable section

namespace Cert.Merge

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16208000 in
/-- At the first grid point: the output is zeroed, row block 0 goes into the first row buffer. -/
def run_first (c : Dev nD) (i : grid0.Coords) (arg1 : Memref sig .tc .vmem S256x1024 .f32) (harg1 : arg1.IsWhole) (arg2 : Memref sig .tc .vmem S1x512x256 .bf16) (harg2 : arg2.IsWhole) (arg3 : Memref sig .tc .vmem S256x512 .f32) (harg3 : arg3.IsWhole) (arg4 : Memref sig .tc .vmem S256x512 .bf16) (harg4 : arg4.IsWhole) (arg5 : Memref sig .tc .vmem S256x2048 .f32) (harg5 : arg5.IsWhole) (arg6 : Memref sig .tc .vmem S4x128x256 .bf16) (harg6 : arg6.IsWhole) (arg7 : Memref sig .tc .vmem S128x512 .f32) (harg7 : arg7.IsWhole) (arg8 : Memref sig .tc .vmem S1x512x1024 .bf16) (harg8 : arg8.IsWhole) (arg9 : Memref sig .tc .vmem S1x512x1024 .bf16) (harg9 : arg9.IsWhole) (arg10 : Memref sig .tc .vmem S1x1024x1024 .bf16) (harg10 : arg10.IsWhole) (arg11 : Memref sig .tc .vmem S1x1024 .f32) (harg11 : arg11.IsWhole) (arg12 : Memref sig .tc .vmem S1x1024x5632 .bf16) (harg12 : arg12.IsWhole) (arg13 : Memref sig .tc .vmem S1x2816x1024 .bf16) (harg13 : arg13.IsWhole) (arg14 : Memref sig .tc .vmem S1x1024 .f32) (harg14 : arg14.IsWhole) (arg15 : Memref sig .tc .vmem S256x1024 .f32) (harg15 : arg15.IsWhole) (arg16 : Memref sig .tc .vmem S256x512 .bf16) (harg16 : arg16.IsWhole) (arg17 : Memref sig .tc .vmem S256x2816 .bf16) (harg17 : arg17.IsWhole) (arg18 : Memref sig .tc .vmem S256x1024 .f32) (harg18 : arg18.IsWhole) (arg19 : Memref sig .tc .vmem S256x1024 .f32) (harg19 : arg19.IsWhole)
    (h1 : k0_cond1 i = 1#1) (h2 : ¬k0_cond2 i = 1#1) (h3 : ¬k0_cond3 i = 1#1) (h4 : ¬k0_cond4 i = 1#1)
    (x0 : Vec F S256x1024 .f32) (x1 : Vec F S1x512x256 .bf16) (x2 : Vec F S256x512 .f32) (x3 : Vec F S256x512 .bf16) (x4 : Vec F S256x2048 .f32) (x5 : Vec F S4x128x256 .bf16) (x6 : Vec F S128x512 .f32) (x7 : Vec F S1x512x1024 .bf16) (x8 : Vec F S1x512x1024 .bf16) (x9 : Vec F S1x1024x1024 .bf16) (x10 : Vec F S1x1024 .f32) (x11 : Vec F S1x1024x5632 .bf16) (x12 : Vec F S1x2816x1024 .bf16) (x13 : Vec F S1x1024 .f32) :
    Σ' (L15 : List (View.Piece (Elt F) S256x1024 .f32)), { L18 : List (View.Piece (Elt F) S256x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L15) ∗ (∃ d, owns (c : Thread nD τ) arg16 fullShare d) ∗ (∃ d, owns (c : Thread nD τ) arg17 fullShare d) ∗ (∃ f, arg18.view.loc (c : Thread nD τ) ↦[arg18.view.set]{fullShare} arg18.view.writes (Elt F) f L18) ∗ (∃ d, owns (c : Thread nD τ) arg19 fullShare d)) -∗ K ⟨⟩))
          ⊢ wp frame (wpE (defs₀ (F := F)) Variants.none c none) E (cc0_merge_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, fun E K => ?run⟩
  case run =>
    simp only [cc0_merge_ffn_eq_skeleton]; unfold cc0_merge_ffn_skel
    simp only [k0_part22_eq_skeleton, k0_part1_eq_skeleton, k0_part2_eq_skeleton, k0_part3_eq_skeleton, k0_part4_eq_skeleton, k0_part5_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; iexact H15
    isplitl [H16]
    · iexists _, _; isplitr; swap; · iexact H16
      ipureintro; rfl
    isplitl [H17]
    · iexists _, _; isplitr; swap; · iexact H17
      ipureintro; rfl
    isplitl [H18]
    · iexists _; iexact H18
    iexists _, _; isplitr; swap; · iexact H19
    ipureintro; rfl

set_option maxHeartbeats 16208000 in
/-- At an even interior point: the feed-forward step on the second row buffer, the next row block into the first. -/
def run_even (c : Dev nD) (i : grid0.Coords) (arg1 : Memref sig .tc .vmem S256x1024 .f32) (harg1 : arg1.IsWhole) (arg2 : Memref sig .tc .vmem S1x512x256 .bf16) (harg2 : arg2.IsWhole) (arg3 : Memref sig .tc .vmem S256x512 .f32) (harg3 : arg3.IsWhole) (arg4 : Memref sig .tc .vmem S256x512 .bf16) (harg4 : arg4.IsWhole) (arg5 : Memref sig .tc .vmem S256x2048 .f32) (harg5 : arg5.IsWhole) (arg6 : Memref sig .tc .vmem S4x128x256 .bf16) (harg6 : arg6.IsWhole) (arg7 : Memref sig .tc .vmem S128x512 .f32) (harg7 : arg7.IsWhole) (arg8 : Memref sig .tc .vmem S1x512x1024 .bf16) (harg8 : arg8.IsWhole) (arg9 : Memref sig .tc .vmem S1x512x1024 .bf16) (harg9 : arg9.IsWhole) (arg10 : Memref sig .tc .vmem S1x1024x1024 .bf16) (harg10 : arg10.IsWhole) (arg11 : Memref sig .tc .vmem S1x1024 .f32) (harg11 : arg11.IsWhole) (arg12 : Memref sig .tc .vmem S1x1024x5632 .bf16) (harg12 : arg12.IsWhole) (arg13 : Memref sig .tc .vmem S1x2816x1024 .bf16) (harg13 : arg13.IsWhole) (arg14 : Memref sig .tc .vmem S1x1024 .f32) (harg14 : arg14.IsWhole) (arg15 : Memref sig .tc .vmem S256x1024 .f32) (harg15 : arg15.IsWhole) (arg16 : Memref sig .tc .vmem S256x512 .bf16) (harg16 : arg16.IsWhole) (arg17 : Memref sig .tc .vmem S256x2816 .bf16) (harg17 : arg17.IsWhole) (arg18 : Memref sig .tc .vmem S256x1024 .f32) (harg18 : arg18.IsWhole) (arg19 : Memref sig .tc .vmem S256x1024 .f32) (harg19 : arg19.IsWhole)
    (h1 : ¬k0_cond1 i = 1#1) (h2 : k0_cond2 i = 1#1) (h3 : ¬k0_cond3 i = 1#1) (h4 : ¬k0_cond4 i = 1#1)
    (x0 : Vec F S256x1024 .f32) (x1 : Vec F S1x512x256 .bf16) (x2 : Vec F S256x512 .f32) (x3 : Vec F S256x512 .bf16) (x4 : Vec F S256x2048 .f32) (x5 : Vec F S4x128x256 .bf16) (x6 : Vec F S128x512 .f32) (x7 : Vec F S1x512x1024 .bf16) (x8 : Vec F S1x512x1024 .bf16) (x9 : Vec F S1x1024x1024 .bf16) (x10 : Vec F S1x1024 .f32) (x11 : Vec F S1x1024x5632 .bf16) (x12 : Vec F S1x2816x1024 .bf16) (x13 : Vec F S1x1024 .f32) (y : Vec F S256x1024 .f32) :
    Σ' (L15 : List (View.Piece (Elt F) S256x1024 .f32)), { L18 : List (View.Piece (Elt F) S256x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare y
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L15) ∗ (∃ d, owns (c : Thread nD τ) arg16 fullShare d) ∗ (∃ d, owns (c : Thread nD τ) arg17 fullShare d) ∗ (∃ f, arg18.view.loc (c : Thread nD τ) ↦[arg18.view.set]{fullShare} arg18.view.writes (Elt F) f L18) ∗ owns (c : Thread nD τ) arg19 fullShare y) -∗ K ⟨⟩))
          ⊢ wp frame (wpE (defs₀ (F := F)) Variants.none c none) E (cc0_merge_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, fun E K => ?run⟩
  case run =>
    simp only [cc0_merge_ffn_eq_skeleton]; unfold cc0_merge_ffn_skel
    simp only [k0_part22_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%f19, %hf19, H19⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg19.eq_unread hf19
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; iexact H15
    isplitl [H16]
    · iexists _, _; isplitr; swap; · iexact H16
      ipureintro; rfl
    isplitl [H17]
    · iexists _, _; isplitr; swap; · iexact H17
      ipureintro; rfl
    isplitl [H18]
    · iexists _; iexact H18
    iexists _; isplitr; · ipureintro; exact harg19.read_unread _
    iexact H19

set_option maxHeartbeats 16208000 in
/-- At an odd interior point: the feed-forward step on the first row buffer, the next row block into the second. -/
def run_odd (c : Dev nD) (i : grid0.Coords) (arg1 : Memref sig .tc .vmem S256x1024 .f32) (harg1 : arg1.IsWhole) (arg2 : Memref sig .tc .vmem S1x512x256 .bf16) (harg2 : arg2.IsWhole) (arg3 : Memref sig .tc .vmem S256x512 .f32) (harg3 : arg3.IsWhole) (arg4 : Memref sig .tc .vmem S256x512 .bf16) (harg4 : arg4.IsWhole) (arg5 : Memref sig .tc .vmem S256x2048 .f32) (harg5 : arg5.IsWhole) (arg6 : Memref sig .tc .vmem S4x128x256 .bf16) (harg6 : arg6.IsWhole) (arg7 : Memref sig .tc .vmem S128x512 .f32) (harg7 : arg7.IsWhole) (arg8 : Memref sig .tc .vmem S1x512x1024 .bf16) (harg8 : arg8.IsWhole) (arg9 : Memref sig .tc .vmem S1x512x1024 .bf16) (harg9 : arg9.IsWhole) (arg10 : Memref sig .tc .vmem S1x1024x1024 .bf16) (harg10 : arg10.IsWhole) (arg11 : Memref sig .tc .vmem S1x1024 .f32) (harg11 : arg11.IsWhole) (arg12 : Memref sig .tc .vmem S1x1024x5632 .bf16) (harg12 : arg12.IsWhole) (arg13 : Memref sig .tc .vmem S1x2816x1024 .bf16) (harg13 : arg13.IsWhole) (arg14 : Memref sig .tc .vmem S1x1024 .f32) (harg14 : arg14.IsWhole) (arg15 : Memref sig .tc .vmem S256x1024 .f32) (harg15 : arg15.IsWhole) (arg16 : Memref sig .tc .vmem S256x512 .bf16) (harg16 : arg16.IsWhole) (arg17 : Memref sig .tc .vmem S256x2816 .bf16) (harg17 : arg17.IsWhole) (arg18 : Memref sig .tc .vmem S256x1024 .f32) (harg18 : arg18.IsWhole) (arg19 : Memref sig .tc .vmem S256x1024 .f32) (harg19 : arg19.IsWhole)
    (h1 : ¬k0_cond1 i = 1#1) (h2 : ¬k0_cond2 i = 1#1) (h3 : k0_cond3 i = 1#1) (h4 : ¬k0_cond4 i = 1#1)
    (x0 : Vec F S256x1024 .f32) (x1 : Vec F S1x512x256 .bf16) (x2 : Vec F S256x512 .f32) (x3 : Vec F S256x512 .bf16) (x4 : Vec F S256x2048 .f32) (x5 : Vec F S4x128x256 .bf16) (x6 : Vec F S128x512 .f32) (x7 : Vec F S1x512x1024 .bf16) (x8 : Vec F S1x512x1024 .bf16) (x9 : Vec F S1x1024x1024 .bf16) (x10 : Vec F S1x1024 .f32) (x11 : Vec F S1x1024x5632 .bf16) (x12 : Vec F S1x2816x1024 .bf16) (x13 : Vec F S1x1024 .f32) (y : Vec F S256x1024 .f32) :
    Σ' (L15 : List (View.Piece (Elt F) S256x1024 .f32)), { L19 : List (View.Piece (Elt F) S256x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ owns (c : Thread nD τ) arg18 fullShare y ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L15) ∗ (∃ d, owns (c : Thread nD τ) arg16 fullShare d) ∗ (∃ d, owns (c : Thread nD τ) arg17 fullShare d) ∗ owns (c : Thread nD τ) arg18 fullShare y ∗ (∃ f, arg19.view.loc (c : Thread nD τ) ↦[arg19.view.set]{fullShare} arg19.view.writes (Elt F) f L19)) -∗ K ⟨⟩))
          ⊢ wp frame (wpE (defs₀ (F := F)) Variants.none c none) E (cc0_merge_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, fun E K => ?run⟩
  case run =>
    simp only [cc0_merge_ffn_eq_skeleton]; unfold cc0_merge_ffn_skel
    simp only [k0_part22_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%f18, %hf18, H18⟩, ⟨%d19, %f19, -, H19⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg18.eq_unread hf18
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; iexact H15
    isplitl [H16]
    · iexists _, _; isplitr; swap; · iexact H16
      ipureintro; rfl
    isplitl [H17]
    · iexists _, _; isplitr; swap; · iexact H17
      ipureintro; rfl
    isplitl [H18]
    · iexists _; isplitr; · ipureintro; exact harg18.read_unread _
      iexact H18
    iexists _; iexact H19

set_option maxHeartbeats 16208000 in
/-- At the last point: the feed-forward step on the second row buffer. -/
def run_last (c : Dev nD) (i : grid0.Coords) (arg1 : Memref sig .tc .vmem S256x1024 .f32) (harg1 : arg1.IsWhole) (arg2 : Memref sig .tc .vmem S1x512x256 .bf16) (harg2 : arg2.IsWhole) (arg3 : Memref sig .tc .vmem S256x512 .f32) (harg3 : arg3.IsWhole) (arg4 : Memref sig .tc .vmem S256x512 .bf16) (harg4 : arg4.IsWhole) (arg5 : Memref sig .tc .vmem S256x2048 .f32) (harg5 : arg5.IsWhole) (arg6 : Memref sig .tc .vmem S4x128x256 .bf16) (harg6 : arg6.IsWhole) (arg7 : Memref sig .tc .vmem S128x512 .f32) (harg7 : arg7.IsWhole) (arg8 : Memref sig .tc .vmem S1x512x1024 .bf16) (harg8 : arg8.IsWhole) (arg9 : Memref sig .tc .vmem S1x512x1024 .bf16) (harg9 : arg9.IsWhole) (arg10 : Memref sig .tc .vmem S1x1024x1024 .bf16) (harg10 : arg10.IsWhole) (arg11 : Memref sig .tc .vmem S1x1024 .f32) (harg11 : arg11.IsWhole) (arg12 : Memref sig .tc .vmem S1x1024x5632 .bf16) (harg12 : arg12.IsWhole) (arg13 : Memref sig .tc .vmem S1x2816x1024 .bf16) (harg13 : arg13.IsWhole) (arg14 : Memref sig .tc .vmem S1x1024 .f32) (harg14 : arg14.IsWhole) (arg15 : Memref sig .tc .vmem S256x1024 .f32) (harg15 : arg15.IsWhole) (arg16 : Memref sig .tc .vmem S256x512 .bf16) (harg16 : arg16.IsWhole) (arg17 : Memref sig .tc .vmem S256x2816 .bf16) (harg17 : arg17.IsWhole) (arg18 : Memref sig .tc .vmem S256x1024 .f32) (harg18 : arg18.IsWhole) (arg19 : Memref sig .tc .vmem S256x1024 .f32) (harg19 : arg19.IsWhole)
    (h1 : ¬k0_cond1 i = 1#1) (h2 : ¬k0_cond2 i = 1#1) (h3 : ¬k0_cond3 i = 1#1) (h4 : k0_cond4 i = 1#1)
    (x0 : Vec F S256x1024 .f32) (x1 : Vec F S1x512x256 .bf16) (x2 : Vec F S256x512 .f32) (x3 : Vec F S256x512 .bf16) (x4 : Vec F S256x2048 .f32) (x5 : Vec F S4x128x256 .bf16) (x6 : Vec F S128x512 .f32) (x7 : Vec F S1x512x1024 .bf16) (x8 : Vec F S1x512x1024 .bf16) (x9 : Vec F S1x1024x1024 .bf16) (x10 : Vec F S1x1024 .f32) (x11 : Vec F S1x1024x5632 .bf16) (x12 : Vec F S1x2816x1024 .bf16) (x13 : Vec F S1x1024 .f32) (y : Vec F S256x1024 .f32) :
    { L15 : List (View.Piece (Elt F) S256x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare y
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L15) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare y) -∗ K ⟨⟩))
          ⊢ wp frame (wpE (defs₀ (F := F)) Variants.none c none) E (cc0_merge_ffn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, fun E K => ?run⟩
  case run =>
    simp only [cc0_merge_ffn_eq_skeleton]; unfold cc0_merge_ffn_skel
    simp only [k0_part22_eq_skeleton, k0_part20_eq_skeleton, k0_part21_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%f19, %hf19, H19⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg19.eq_unread hf19
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; iexact H15
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    iexists _; isplitr; · ipureintro; exact harg19.read_unread _
    iexact H19

end Cert.Merge

end
-- ==== Proof.MergeFrame.lean ====
/- The merge kernel's launch: what the row buffers and the output hold after each grid point, the proof data, the body
   obligation at every point, the run, and the frame at any interpretation of the floats. -/
module

public import proofs.«01_k».proof.Proof.MergeRuns
public import Idealize.ShloMosaic.Lib.Claim

@[expose] public section

set_option maxRecDepth 16384

noncomputable section

namespace Cert.Merge

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The operands at a point -/

abbrev st_0 (t : Fin cfg0.N) : Memref sig .tc .vmem S256x1024 .f32 := win0_0.stage (cfg0.slots t 0)
abbrev hst_0 (t : Fin cfg0.N) : (st_0 t).IsWhole := hstage0_0 ((cfg0.slots t 0).cast nbuf0_0)
abbrev st_1 (t : Fin cfg0.N) : Memref sig .tc .vmem S1x512x256 .bf16 := win0_1.stage (cfg0.slots t 1)
abbrev hst_1 (t : Fin cfg0.N) : (st_1 t).IsWhole := hstage0_1 ((cfg0.slots t 1).cast nbuf0_1)
abbrev st_2 (t : Fin cfg0.N) : Memref sig .tc .vmem S256x512 .f32 := win0_2.stage (cfg0.slots t 2)
abbrev hst_2 (t : Fin cfg0.N) : (st_2 t).IsWhole := hstage0_2 ((cfg0.slots t 2).cast nbuf0_2)
abbrev st_3 (t : Fin cfg0.N) : Memref sig .tc .vmem S256x512 .bf16 := win0_3.stage (cfg0.slots t 3)
abbrev hst_3 (t : Fin cfg0.N) : (st_3 t).IsWhole := hstage0_3 ((cfg0.slots t 3).cast nbuf0_3)
abbrev st_4 (t : Fin cfg0.N) : Memref sig .tc .vmem S256x2048 .f32 := win0_4.stage (cfg0.slots t 4)
abbrev hst_4 (t : Fin cfg0.N) : (st_4 t).IsWhole := hstage0_4 ((cfg0.slots t 4).cast nbuf0_4)
abbrev st_5 (t : Fin cfg0.N) : Memref sig .tc .vmem S4x128x256 .bf16 := win0_5.stage (cfg0.slots t 5)
abbrev hst_5 (t : Fin cfg0.N) : (st_5 t).IsWhole := hstage0_5 ((cfg0.slots t 5).cast nbuf0_5)
abbrev st_6 (t : Fin cfg0.N) : Memref sig .tc .vmem S128x512 .f32 := win0_6.stage (cfg0.slots t 6)
abbrev hst_6 (t : Fin cfg0.N) : (st_6 t).IsWhole := hstage0_6 ((cfg0.slots t 6).cast nbuf0_6)
abbrev st_7 (t : Fin cfg0.N) : Memref sig .tc .vmem S1x512x1024 .bf16 := win0_7.stage (cfg0.slots t 7)
abbrev hst_7 (t : Fin cfg0.N) : (st_7 t).IsWhole := hstage0_7 ((cfg0.slots t 7).cast nbuf0_7)
abbrev st_8 (t : Fin cfg0.N) : Memref sig .tc .vmem S1x512x1024 .bf16 := win0_8.stage (cfg0.slots t 8)
abbrev hst_8 (t : Fin cfg0.N) : (st_8 t).IsWhole := hstage0_8 ((cfg0.slots t 8).cast nbuf0_8)
abbrev st_9 (t : Fin cfg0.N) : Memref sig .tc .vmem S1x1024x1024 .bf16 := win0_9.stage (cfg0.slots t 9)
abbrev hst_9 (t : Fin cfg0.N) : (st_9 t).IsWhole := hstage0_9 ((cfg0.slots t 9).cast nbuf0_9)
abbrev st_10 (t : Fin cfg0.N) : Memref sig .tc .vmem S1x1024 .f32 := win0_10.stage (cfg0.slots t 10)
abbrev hst_10 (t : Fin cfg0.N) : (st_10 t).IsWhole := hstage0_10 ((cfg0.slots t 10).cast nbuf0_10)
abbrev st_11 (t : Fin cfg0.N) : Memref sig .tc .vmem S1x1024x5632 .bf16 := win0_11.stage (cfg0.slots t 11)
abbrev hst_11 (t : Fin cfg0.N) : (st_11 t).IsWhole := hstage0_11 ((cfg0.slots t 11).cast nbuf0_11)
abbrev st_12 (t : Fin cfg0.N) : Memref sig .tc .vmem S1x2816x1024 .bf16 := win0_12.stage (cfg0.slots t 12)
abbrev hst_12 (t : Fin cfg0.N) : (st_12 t).IsWhole := hstage0_12 ((cfg0.slots t 12).cast nbuf0_12)
abbrev st_13 (t : Fin cfg0.N) : Memref sig .tc .vmem S1x1024 .f32 := win0_13.stage (cfg0.slots t 13)
abbrev hst_13 (t : Fin cfg0.N) : (st_13 t).IsWhole := hstage0_13 ((cfg0.slots t 13).cast nbuf0_13)
abbrev st_14 (t : Fin cfg0.N) : Memref sig .tc .vmem S256x1024 .f32 := win0_14.stage (cfg0.slots t 14)
abbrev hst_14 (t : Fin cfg0.N) : (st_14 t).IsWhole := hstage0_14 ((cfg0.slots t 14).cast nbuf0_14)
abbrev scr_0 : Memref sig .tc .vmem S256x512 .bf16 := Memref.whole cc0_scratch0
abbrev scr_1 : Memref sig .tc .vmem S256x2816 .bf16 := Memref.whole cc0_scratch1
abbrev scr_2 : Memref sig .tc .vmem S256x1024 .f32 := Memref.whole cc0_scratch2
abbrev scr_3 : Memref sig .tc .vmem S256x1024 .f32 := Memref.whole cc0_scratch3

/-- The scoped rest and the generator register, the scratch operands as memrefs owned at some contents. -/
theorem rest_eq (c : Dev nD) :
    (Pipeline.ΦA spec0 c : sProp 𝕄)
      = iprop(iprop((∃ d, owns (c : Thread nD τ) scr_0 fullShare d) ∗ (∃ d, owns (c : Thread nD τ) scr_1 fullShare d) ∗ (∃ d, owns (c : Thread nD τ) scr_2 fullShare d) ∗ (∃ d, owns (c : Thread nD τ) scr_3 fullShare d)) ∗ (∃ r, prngReg c r)) := by
  unfold Pipeline.ΦA; rw [scopedRest0_eq]; simp only [scr_0, scr_1, scr_2, scr_3, owns_whole]; try rfl

/-! ## The four kinds of points -/

def isFirst (n : ℕ) : Prop := n = 0
def isEven (n : ℕ) : Prop := n ≠ 0 ∧ n < 64 ∧ n % 2 = 0
def isOdd (n : ℕ) : Prop := n < 64 ∧ n % 2 = 1
def isLast (n : ℕ) : Prop := n = 64

instance (n : ℕ) : Decidable (isFirst n) := by unfold isFirst; infer_instance
instance (n : ℕ) : Decidable (isEven n) := by unfold isEven; infer_instance
instance (n : ℕ) : Decidable (isOdd n) := by unfold isOdd; infer_instance
instance (n : ℕ) : Decidable (isLast n) := by unfold isLast; infer_instance

theorem conds : ∀ t : Fin cfg0.N, (k0_cond1 (grid0.coords t) = 1#1 ↔ isFirst t.val) ∧ (k0_cond2 (grid0.coords t) = 1#1 ↔ isEven t.val)
    ∧ (k0_cond3 (grid0.coords t) = 1#1 ↔ isOdd t.val) ∧ (k0_cond4 (grid0.coords t) = 1#1 ↔ isLast t.val) :=
  (by decide +kernel : ∀ t : Fin grid0.N, _)

theorem first_conds (t : Fin cfg0.N) (h : isFirst t.val) : k0_cond1 (grid0.coords t) = 1#1 ∧ ¬k0_cond2 (grid0.coords t) = 1#1
    ∧ ¬k0_cond3 (grid0.coords t) = 1#1 ∧ ¬k0_cond4 (grid0.coords t) = 1#1 := by
  rw [(conds t).1, (conds t).2.1, (conds t).2.2.1, (conds t).2.2.2]; unfold isFirst isEven isOdd isLast at *; omega

theorem even_conds (t : Fin cfg0.N) (h : isEven t.val) : ¬k0_cond1 (grid0.coords t) = 1#1 ∧ k0_cond2 (grid0.coords t) = 1#1
    ∧ ¬k0_cond3 (grid0.coords t) = 1#1 ∧ ¬k0_cond4 (grid0.coords t) = 1#1 := by
  rw [(conds t).1, (conds t).2.1, (conds t).2.2.1, (conds t).2.2.2]; unfold isFirst isEven isOdd isLast at *; omega

theorem odd_conds (t : Fin cfg0.N) (h : isOdd t.val) : ¬k0_cond1 (grid0.coords t) = 1#1 ∧ ¬k0_cond2 (grid0.coords t) = 1#1
    ∧ k0_cond3 (grid0.coords t) = 1#1 ∧ ¬k0_cond4 (grid0.coords t) = 1#1 := by
  rw [(conds t).1, (conds t).2.1, (conds t).2.2.1, (conds t).2.2.2]; unfold isFirst isEven isOdd isLast at *; omega

theorem last_conds (t : Fin cfg0.N) (h : isLast t.val) : ¬k0_cond1 (grid0.coords t) = 1#1 ∧ ¬k0_cond2 (grid0.coords t) = 1#1
    ∧ ¬k0_cond3 (grid0.coords t) = 1#1 ∧ k0_cond4 (grid0.coords t) = 1#1 := by
  rw [(conds t).1, (conds t).2.1, (conds t).2.2.1, (conds t).2.2.2]; unfold isFirst isEven isOdd isLast at *; omega

theorem kinds (t : Fin cfg0.N) : isFirst t.val ∨ isEven t.val ∨ isOdd t.val ∨ isLast t.val := by
  have := lt_of_lt_of_eq t.isLt N_0
  unfold isFirst isEven isOdd isLast; omega

/-- The run at a point of this kind, on its operands and blocks. -/
abbrev at_first (c : Dev nD) (t : Fin cfg0.N) (h : isFirst t.val) :=
  run_first c (grid0.coords t) (st_0 t) (hst_0 t) (st_1 t) (hst_1 t) (st_2 t) (hst_2 t) (st_3 t) (hst_3 t) (st_4 t) (hst_4 t) (st_5 t) (hst_5 t) (st_6 t) (hst_6 t) (st_7 t) (hst_7 t) (st_8 t) (hst_8 t) (st_9 t) (hst_9 t) (st_10 t) (hst_10 t) (st_11 t) (hst_11 t) (st_12 t) (hst_12 t) (st_13 t) (hst_13 t) (st_14 t) (hst_14 t) scr_0 (Memref.isWhole_whole _) scr_1 (Memref.isWhole_whole _) scr_2 (Memref.isWhole_whole _) scr_3 (Memref.isWhole_whole _) (first_conds t h).1 (first_conds t h).2.1 (first_conds t h).2.2.1 (first_conds t h).2.2.2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

theorem cover_first_15 (c : Dev nD) (t : Fin cfg0.N) (h : isFirst t.val) (z : S256x1024.Idx) :
    ∃ pc ∈ (at_first m c t h).1, z ∈ pc.1.set :=
  View.cover_of_tiledL (at_first m c t h).1 S256x1024.size (by sl_kernel_rfl) z

theorem cover_first_18 (c : Dev nD) (t : Fin cfg0.N) (h : isFirst t.val) (z : S256x1024.Idx) :
    ∃ pc ∈ (at_first m c t h).2.1, z ∈ pc.1.set :=
  View.cover_of_tiledL (at_first m c t h).2.1 S256x1024.size (by sl_kernel_rfl) z

/-- The run at a point of this kind, on its operands and blocks. -/
abbrev at_even (c : Dev nD) (t : Fin cfg0.N) (h : isEven t.val) (y : Vec F S256x1024 .f32) :=
  run_even c (grid0.coords t) (st_0 t) (hst_0 t) (st_1 t) (hst_1 t) (st_2 t) (hst_2 t) (st_3 t) (hst_3 t) (st_4 t) (hst_4 t) (st_5 t) (hst_5 t) (st_6 t) (hst_6 t) (st_7 t) (hst_7 t) (st_8 t) (hst_8 t) (st_9 t) (hst_9 t) (st_10 t) (hst_10 t) (st_11 t) (hst_11 t) (st_12 t) (hst_12 t) (st_13 t) (hst_13 t) (st_14 t) (hst_14 t) scr_0 (Memref.isWhole_whole _) scr_1 (Memref.isWhole_whole _) scr_2 (Memref.isWhole_whole _) scr_3 (Memref.isWhole_whole _) (even_conds t h).1 (even_conds t h).2.1 (even_conds t h).2.2.1 (even_conds t h).2.2.2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y

theorem cover_even_15 (c : Dev nD) (t : Fin cfg0.N) (h : isEven t.val) (y : Vec F S256x1024 .f32) (z : S256x1024.Idx) :
    ∃ pc ∈ (at_even m c t h y).1, z ∈ pc.1.set :=
  View.cover_of_tiledL (at_even m c t h y).1 S256x1024.size (by sl_kernel_rfl) z

theorem cover_even_18 (c : Dev nD) (t : Fin cfg0.N) (h : isEven t.val) (y : Vec F S256x1024 .f32) (z : S256x1024.Idx) :
    ∃ pc ∈ (at_even m c t h y).2.1, z ∈ pc.1.set :=
  View.cover_of_tiledL (at_even m c t h y).2.1 S256x1024.size (by sl_kernel_rfl) z

/-- The run at a point of this kind, on its operands and blocks. -/
abbrev at_odd (c : Dev nD) (t : Fin cfg0.N) (h : isOdd t.val) (y : Vec F S256x1024 .f32) :=
  run_odd c (grid0.coords t) (st_0 t) (hst_0 t) (st_1 t) (hst_1 t) (st_2 t) (hst_2 t) (st_3 t) (hst_3 t) (st_4 t) (hst_4 t) (st_5 t) (hst_5 t) (st_6 t) (hst_6 t) (st_7 t) (hst_7 t) (st_8 t) (hst_8 t) (st_9 t) (hst_9 t) (st_10 t) (hst_10 t) (st_11 t) (hst_11 t) (st_12 t) (hst_12 t) (st_13 t) (hst_13 t) (st_14 t) (hst_14 t) scr_0 (Memref.isWhole_whole _) scr_1 (Memref.isWhole_whole _) scr_2 (Memref.isWhole_whole _) scr_3 (Memref.isWhole_whole _) (odd_conds t h).1 (odd_conds t h).2.1 (odd_conds t h).2.2.1 (odd_conds t h).2.2.2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y

theorem cover_odd_15 (c : Dev nD) (t : Fin cfg0.N) (h : isOdd t.val) (y : Vec F S256x1024 .f32) (z : S256x1024.Idx) :
    ∃ pc ∈ (at_odd m c t h y).1, z ∈ pc.1.set :=
  View.cover_of_tiledL (at_odd m c t h y).1 S256x1024.size (by sl_kernel_rfl) z

theorem cover_odd_19 (c : Dev nD) (t : Fin cfg0.N) (h : isOdd t.val) (y : Vec F S256x1024 .f32) (z : S256x1024.Idx) :
    ∃ pc ∈ (at_odd m c t h y).2.1, z ∈ pc.1.set :=
  View.cover_of_tiledL (at_odd m c t h y).2.1 S256x1024.size (by sl_kernel_rfl) z

/-- The run at a point of this kind, on its operands and blocks. -/
abbrev at_last (c : Dev nD) (t : Fin cfg0.N) (h : isLast t.val) (y : Vec F S256x1024 .f32) :=
  run_last c (grid0.coords t) (st_0 t) (hst_0 t) (st_1 t) (hst_1 t) (st_2 t) (hst_2 t) (st_3 t) (hst_3 t) (st_4 t) (hst_4 t) (st_5 t) (hst_5 t) (st_6 t) (hst_6 t) (st_7 t) (hst_7 t) (st_8 t) (hst_8 t) (st_9 t) (hst_9 t) (st_10 t) (hst_10 t) (st_11 t) (hst_11 t) (st_12 t) (hst_12 t) (st_13 t) (hst_13 t) (st_14 t) (hst_14 t) scr_0 (Memref.isWhole_whole _) scr_1 (Memref.isWhole_whole _) scr_2 (Memref.isWhole_whole _) scr_3 (Memref.isWhole_whole _) (last_conds t h).1 (last_conds t h).2.1 (last_conds t h).2.2.1 (last_conds t h).2.2.2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y

theorem cover_last_15 (c : Dev nD) (t : Fin cfg0.N) (h : isLast t.val) (y : Vec F S256x1024 .f32) (z : S256x1024.Idx) :
    ∃ pc ∈ (at_last m c t h y).1, z ∈ pc.1.set :=
  View.cover_of_tiledL (at_last m c t h y).1 S256x1024.size (by sl_kernel_rfl) z

/-! ## What the row buffers and the output hold after each point -/

/-- The row block that point `n` leaves for the next point (of no use at the last point). -/
def rowBuf (c : Dev nD) : (n : ℕ) → n < cfg0.N → Vec F S256x1024 .f32
  | 0, h => View.canon (at_first m c ⟨0, h⟩ rfl).2.1
  | n + 1, h =>
    if he : isEven (n + 1) then View.canon (at_even m c ⟨n + 1, h⟩ he (rowBuf c n (Nat.lt_of_succ_lt h))).2.1
    else if ho : isOdd (n + 1) then View.canon (at_odd m c ⟨n + 1, h⟩ ho (rowBuf c n (Nat.lt_of_succ_lt h))).2.1
    else rowBuf c n (Nat.lt_of_succ_lt h)

/-- The row block left by the point before. -/
def prevRow (c : Dev nD) (t : Fin cfg0.N) : Vec F S256x1024 .f32 := rowBuf m c (t.val - 1) (Nat.lt_of_le_of_lt (Nat.sub_le _ _) t.isLt)

/-- The output block after point `t`. -/
def outAt (c : Dev nD) (t : Fin cfg0.N) : Vec F S256x1024 .f32 :=
  if hf : isFirst t.val then View.canon (at_first m c t hf).1
  else if he : isEven t.val then View.canon (at_even m c t he (prevRow m c t)).1
  else if ho : isOdd t.val then View.canon (at_odd m c t ho (prevRow m c t)).1
  else if hl : isLast t.val then View.canon (at_last m c t hl (prevRow m c t)).1
  else View.canon []

theorem outAt_first (c : Dev nD) (t : Fin cfg0.N) (h : isFirst t.val) : outAt m c t = View.canon (at_first m c t h).1 := by
  unfold outAt; exact dif_pos h

theorem outAt_even (c : Dev nD) (t : Fin cfg0.N) (h : isEven t.val) : outAt m c t = View.canon (at_even m c t h (prevRow m c t)).1 := by
  have h1 : ¬isFirst t.val := by unfold isFirst isEven at *; omega
  unfold outAt; rw [dif_neg h1]; exact dif_pos h

theorem outAt_odd (c : Dev nD) (t : Fin cfg0.N) (h : isOdd t.val) : outAt m c t = View.canon (at_odd m c t h (prevRow m c t)).1 := by
  have h1 : ¬isFirst t.val := by unfold isFirst isOdd at *; omega
  have h2 : ¬isEven t.val := by unfold isEven isOdd at *; omega
  unfold outAt; rw [dif_neg h1, dif_neg h2]; exact dif_pos h

theorem outAt_last (c : Dev nD) (t : Fin cfg0.N) (h : isLast t.val) : outAt m c t = View.canon (at_last m c t h (prevRow m c t)).1 := by
  have h1 : ¬isFirst t.val := by unfold isFirst isLast at *; omega
  have h2 : ¬isEven t.val := by unfold isEven isLast at *; omega
  have h3 : ¬isOdd t.val := by unfold isOdd isLast at *; omega
  unfold outAt; rw [dif_neg h1, dif_neg h2, dif_neg h3]; exact dif_pos h

theorem rowBuf_first (c : Dev nD) (t : Fin cfg0.N) (h : isFirst t.val) : rowBuf m c t.val t.isLt = View.canon (at_first m c t h).2.1 := by
  obtain ⟨n, hn⟩ := t
  obtain rfl : n = 0 := h
  rw [rowBuf]

theorem rowBuf_even (c : Dev nD) (t : Fin cfg0.N) (h : isEven t.val) :
    rowBuf m c t.val t.isLt = View.canon (at_even m c t h (prevRow m c t)).2.1 := by
  obtain ⟨n, hn⟩ := t
  cases n with
  | zero => exact absurd rfl h.1
  | succ n => rw [rowBuf]; exact dif_pos h

theorem rowBuf_odd (c : Dev nD) (t : Fin cfg0.N) (h : isOdd t.val) :
    rowBuf m c t.val t.isLt = View.canon (at_odd m c t h (prevRow m c t)).2.1 := by
  obtain ⟨n, hn⟩ := t
  cases n with
  | zero => exact absurd h.2 Nat.zero_ne_one
  | succ n =>
    have h2 : ¬isEven (n + 1) := fun e => by have := e.2.2; have := h.2; simp only at this; omega
    rw [rowBuf, dif_neg h2]; exact dif_pos h

/-! ## The invariant and the proof data -/

/-- `d` is the row block of the point before `n`, when `n` is of parity `p` (and there is one). -/
def Holds (c : Dev nD) (n p : ℕ) (d : Vec F S256x1024 .f32) : Prop :=
  ∀ (k : ℕ) (h : k + 1 < cfg0.N), n = k + 1 → n % 2 = p → d = rowBuf m c k (Nat.lt_of_succ_lt h)

/-- Before point `n`: the mixing and activation buffers at anything, the row buffer that point `n` reads at the row block
    of the point before, the generator register at some state. -/
def Inv (c : Dev nD) (n : ℕ) : sProp 𝕄 :=
  iprop(iprop((∃ d, owns (c : Thread nD τ) scr_0 fullShare d) ∗ (∃ d, owns (c : Thread nD τ) scr_1 fullShare d)
      ∗ (∃ d, iprop(⌜Holds m c n 1 d⌝ ∗ owns (c : Thread nD τ) scr_2 fullShare d))
      ∗ (∃ d, iprop(⌜Holds m c n 0 d⌝ ∗ owns (c : Thread nD τ) scr_3 fullShare d))) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => outAt m c t
  Φ t := Inv m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st_0 t) fullShare ((dats m 0 c).before 0 t d))
    ∗ (∃ d, owns (c : Thread nD τ) (st_1 t) fullShare ((dats m 0 c).before 1 t d))
    ∗ (∃ d, owns (c : Thread nD τ) (st_2 t) fullShare ((dats m 0 c).before 2 t d))
    ∗ (∃ d, owns (c : Thread nD τ) (st_3 t) fullShare ((dats m 0 c).before 3 t d))
    ∗ (∃ d, owns (c : Thread nD τ) (st_4 t) fullShare ((dats m 0 c).before 4 t d))
    ∗ (∃ d, owns (c : Thread nD τ) (st_5 t) fullShare ((dats m 0 c).before 5 t d))
    ∗ (∃ d, owns (c : Thread nD τ) (st_6 t) fullShare ((dats m 0 c).before 6 t d))
    ∗ (∃ d, owns (c : Thread nD τ) (st_7 t) fullShare ((dats m 0 c).before 7 t d))
    ∗ (∃ d, owns (c : Thread nD τ) (st_8 t) fullShare ((dats m 0 c).before 8 t d))
    ∗ (∃ d, owns (c : Thread nD τ) (st_9 t) fullShare ((dats m 0 c).before 9 t d))
    ∗ (∃ d, owns (c : Thread nD τ) (st_10 t) fullShare ((dats m 0 c).before 10 t d))
    ∗ (∃ d, owns (c : Thread nD τ) (st_11 t) fullShare ((dats m 0 c).before 11 t d))
    ∗ (∃ d, owns (c : Thread nD τ) (st_12 t) fullShare ((dats m 0 c).before 12 t d))
    ∗ (∃ d, owns (c : Thread nD τ) (st_13 t) fullShare ((dats m 0 c).before 13 t d))
    ∗ (∃ d, owns (c : Thread nD τ) (st_14 t) fullShare ((dats m 0 c).before 14 t d)))

def bodyPost (c : Dev nD) (t : Fin cfg0.N) : sProp 𝕄 :=
  iprop((dats m 0 c).Φ t.succ ∗ (dats m 0 c).owesAt () t.succ
    ∗ owns (c : Thread nD τ) (st_0 t) fullShare ((dats m 0 c).after 0 t)
    ∗ owns (c : Thread nD τ) (st_1 t) fullShare ((dats m 0 c).after 1 t)
    ∗ owns (c : Thread nD τ) (st_2 t) fullShare ((dats m 0 c).after 2 t)
    ∗ owns (c : Thread nD τ) (st_3 t) fullShare ((dats m 0 c).after 3 t)
    ∗ owns (c : Thread nD τ) (st_4 t) fullShare ((dats m 0 c).after 4 t)
    ∗ owns (c : Thread nD τ) (st_5 t) fullShare ((dats m 0 c).after 5 t)
    ∗ owns (c : Thread nD τ) (st_6 t) fullShare ((dats m 0 c).after 6 t)
    ∗ owns (c : Thread nD τ) (st_7 t) fullShare ((dats m 0 c).after 7 t)
    ∗ owns (c : Thread nD τ) (st_8 t) fullShare ((dats m 0 c).after 8 t)
    ∗ owns (c : Thread nD τ) (st_9 t) fullShare ((dats m 0 c).after 9 t)
    ∗ owns (c : Thread nD τ) (st_10 t) fullShare ((dats m 0 c).after 10 t)
    ∗ owns (c : Thread nD τ) (st_11 t) fullShare ((dats m 0 c).after 11 t)
    ∗ owns (c : Thread nD τ) (st_12 t) fullShare ((dats m 0 c).after 12 t)
    ∗ owns (c : Thread nD τ) (st_13 t) fullShare ((dats m 0 c).after 13 t)
    ∗ owns (c : Thread nD τ) (st_14 t) fullShare ((dats m 0 c).after 14 t))

/-- A covered buffer reads as the run's pieces, whatever it held. -/
theorem owns_of_cover (c : Dev nD) (v : Memref sig .tc .vmem S256x1024 .f32) (f : v.view.ty.Contents (Elt F))
    (L : List (View.Piece (Elt F) S256x1024 .f32)) (h : ∀ z, ∃ pc ∈ L, z ∈ pc.1.set) :
    (v.view.loc (c : Thread nD τ) ↦[v.view.set]{fullShare} v.view.writes (Elt F) f L : sProp 𝕄)
      ⊢ owns (c : Thread nD τ) v fullShare (View.canon L) := by
  unfold owns
  iintro H
  iexists _; isplitr
  swap; · iexact H
  ipureintro
  exact (View.read_writes_of_cover _ _ _ v.view.junk _ h).trans (View.read_writes_junk_eq_canon _ _)

set_option maxHeartbeats 1600000 in
theorem body_first (c : Dev nD) (t : Fin cfg0.N) (h : isFirst t.val) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13]
  rw [show (dats m 0 c).owesAt () t.succ = (dats m 0 c).owesAt () t.castSucc from rfl,
    after_0, after_1, after_2, after_3, after_4, after_5, after_6, after_7, after_8, after_9, after_10, after_11, after_12, after_13, after_14, outAt_first m c t h]
  rw [show (dats m 0 c).Φ t.succ = Inv m c (t.val + 1) from rfl, show (dats m 0 c).Φ t.castSucc = Inv m c t.val from rfl]
  unfold Inv
  iintro ⟨⟨⟨HS0, HS1, ⟨%da, %ha, HS2⟩, ⟨%db, %hb, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((at_first m c t h).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [HS0]; · iexact HS0
  isplitl [HS1]; · iexact HS1
  isplitl [HS2]; · iexists _; iexact HS2
  isplitl [HS3]; · iexists _; iexact HS3
  iintro ⟨H0, H1, H2, H3, H4, H5, H6, H7, H8, H9, H10, H11, H12, H13, ⟨%e14, H14⟩, HS0, HS1, ⟨%eS2, HS2⟩, ⟨%eS3, HS3⟩⟩
  isplitl [HS0 HS1 HS2 HS3 Hg]
  · isplitl [HS0 HS1 HS2 HS3]
    · isplitl [HS0]; · iexact HS0
      isplitl [HS1]; · iexact HS1
      isplitl [HS2]
      · iexists (View.canon (at_first m c t h).2.1); isplitr
        · ipureintro; intro k hk hn _; obtain rfl : k = t.val := (Nat.succ.inj hn).symm; exact (rowBuf_first m c t h).symm
        iapply (owns_of_cover c scr_2 _ _ (cover_first_18 m c t h)); iexact HS2
      iexists _; isplitr; swap; · iexact HS3
      ipureintro; intro k hk hn hp; exfalso; have := lt_of_lt_of_eq hk N_0; unfold isFirst at h; omega
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iapply (owns_of_cover c (st_14 t) _ _ (cover_first_15 m c t h)); iexact H14

set_option maxHeartbeats 1600000 in
theorem body_even (c : Dev nD) (t : Fin cfg0.N) (h : isEven t.val) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13]
  rw [show (dats m 0 c).owesAt () t.succ = (dats m 0 c).owesAt () t.castSucc from rfl,
    after_0, after_1, after_2, after_3, after_4, after_5, after_6, after_7, after_8, after_9, after_10, after_11, after_12, after_13, after_14, outAt_even m c t h]
  rw [show (dats m 0 c).Φ t.succ = Inv m c (t.val + 1) from rfl, show (dats m 0 c).Φ t.castSucc = Inv m c t.val from rfl]
  unfold Inv
  iintro ⟨⟨⟨HS0, HS1, ⟨%da, %ha, HS2⟩, ⟨%db, %hb, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  obtain rfl : db = prevRow m c t := hb (t.val - 1) (by have := t.isLt; unfold isEven at h; omega) (by unfold isEven at h; omega) (by unfold isEven at h; omega)
  iapply ((at_even m c t h (prevRow m c t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [HS0]; · iexact HS0
  isplitl [HS1]; · iexact HS1
  isplitl [HS2]; · iexists _; iexact HS2
  isplitl [HS3]; · iexact HS3
  iintro ⟨H0, H1, H2, H3, H4, H5, H6, H7, H8, H9, H10, H11, H12, H13, ⟨%e14, H14⟩, HS0, HS1, ⟨%eS2, HS2⟩, HS3⟩
  isplitl [HS0 HS1 HS2 HS3 Hg]
  · isplitl [HS0 HS1 HS2 HS3]
    · isplitl [HS0]; · iexact HS0
      isplitl [HS1]; · iexact HS1
      isplitl [HS2]
      · iexists (View.canon (at_even m c t h (prevRow m c t)).2.1); isplitr
        · ipureintro; intro k hk hn _; obtain rfl : k = t.val := (Nat.succ.inj hn).symm; exact (rowBuf_even m c t h).symm
        iapply (owns_of_cover c scr_2 _ _ (cover_even_18 m c t h (prevRow m c t))); iexact HS2
      iexists _; isplitr; swap; · iexact HS3
      ipureintro; intro k hk hn hp; exfalso; have := lt_of_lt_of_eq hk N_0; unfold isEven at h; omega
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iapply (owns_of_cover c (st_14 t) _ _ (cover_even_15 m c t h (prevRow m c t))); iexact H14

set_option maxHeartbeats 1600000 in
theorem body_odd (c : Dev nD) (t : Fin cfg0.N) (h : isOdd t.val) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13]
  rw [show (dats m 0 c).owesAt () t.succ = (dats m 0 c).owesAt () t.castSucc from rfl,
    after_0, after_1, after_2, after_3, after_4, after_5, after_6, after_7, after_8, after_9, after_10, after_11, after_12, after_13, after_14, outAt_odd m c t h]
  rw [show (dats m 0 c).Φ t.succ = Inv m c (t.val + 1) from rfl, show (dats m 0 c).Φ t.castSucc = Inv m c t.val from rfl]
  unfold Inv
  iintro ⟨⟨⟨HS0, HS1, ⟨%da, %ha, HS2⟩, ⟨%db, %hb, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  obtain rfl : da = prevRow m c t := ha (t.val - 1) (by have := t.isLt; unfold isOdd at h; omega) (by unfold isOdd at h; omega) (by unfold isOdd at h; omega)
  iapply ((at_odd m c t h (prevRow m c t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [HS0]; · iexact HS0
  isplitl [HS1]; · iexact HS1
  isplitl [HS2]; · iexact HS2
  isplitl [HS3]; · iexists _; iexact HS3
  iintro ⟨H0, H1, H2, H3, H4, H5, H6, H7, H8, H9, H10, H11, H12, H13, ⟨%e14, H14⟩, HS0, HS1, HS2, ⟨%eS3, HS3⟩⟩
  isplitl [HS0 HS1 HS2 HS3 Hg]
  · isplitl [HS0 HS1 HS2 HS3]
    · isplitl [HS0]; · iexact HS0
      isplitl [HS1]; · iexact HS1
      isplitl [HS2]
      · iexists _; isplitr; swap; · iexact HS2
        ipureintro; intro k hk hn hp; exfalso; have := lt_of_lt_of_eq hk N_0; unfold isOdd at h; omega
      iexists (View.canon (at_odd m c t h (prevRow m c t)).2.1); isplitr
      · ipureintro; intro k hk hn _; obtain rfl : k = t.val := (Nat.succ.inj hn).symm; exact (rowBuf_odd m c t h).symm
      iapply (owns_of_cover c scr_3 _ _ (cover_odd_19 m c t h (prevRow m c t))); iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iapply (owns_of_cover c (st_14 t) _ _ (cover_odd_15 m c t h (prevRow m c t))); iexact H14

set_option maxHeartbeats 1600000 in
theorem body_last (c : Dev nD) (t : Fin cfg0.N) (h : isLast t.val) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13]
  rw [show (dats m 0 c).owesAt () t.succ = (dats m 0 c).owesAt () t.castSucc from rfl,
    after_0, after_1, after_2, after_3, after_4, after_5, after_6, after_7, after_8, after_9, after_10, after_11, after_12, after_13, after_14, outAt_last m c t h]
  rw [show (dats m 0 c).Φ t.succ = Inv m c (t.val + 1) from rfl, show (dats m 0 c).Φ t.castSucc = Inv m c t.val from rfl]
  unfold Inv
  iintro ⟨⟨⟨HS0, HS1, ⟨%da, %ha, HS2⟩, ⟨%db, %hb, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  obtain rfl : db = prevRow m c t := hb (t.val - 1) (by have := t.isLt; unfold isLast at h; omega) (by unfold isLast at h; omega) (by unfold isLast at h; omega)
  iapply ((at_last m c t h (prevRow m c t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [HS0]; · iexact HS0
  isplitl [HS1]; · iexact HS1
  isplitl [HS2]; · iexists _; iexact HS2
  isplitl [HS3]; · iexact HS3
  iintro ⟨H0, H1, H2, H3, H4, H5, H6, H7, H8, H9, H10, H11, H12, H13, ⟨%e14, H14⟩, HS0, HS1, ⟨%eS2, HS2⟩, HS3⟩
  isplitl [HS0 HS1 HS2 HS3 Hg]
  · isplitl [HS0 HS1 HS2 HS3]
    · isplitl [HS0]; · iexact HS0
      isplitl [HS1]; · iexact HS1
      isplitl [HS2]
      · iexists _; isplitr; swap; · iexact HS2
        ipureintro; intro k hk hn hp; exfalso; have := lt_of_lt_of_eq hk N_0; unfold isLast at h; omega
      iexists _; isplitr; swap; · iexact HS3
      ipureintro; intro k hk hn hp; exfalso; have := lt_of_lt_of_eq hk N_0; unfold isLast at h; omega
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iapply (owns_of_cover c (st_14 t) _ _ (cover_last_15 m c t h (prevRow m c t))); iexact H14

theorem sound_body (c : Dev nD) (t : Fin cfg0.N) :
    bodyPre m c t ⊢ wp frame (wpE (defs₀ (F := F)) Variants.none c none) Set.univ (bodyAt0 t) (fun _ => bodyPost m c t) := by
  rcases kinds t with h | h | h | h
  · exact body_first m c t h
  · exact body_even m c t h
  · exact body_odd m c t h
  · exact body_last m c t h

theorem body_row (t : Fin cfg0.N) : defs₀ (F := F) .tc cfg0.body (cfg0.bodyArgs t (cfg0.slots t)) = bodyAt0 t := by
  unfold defs₀; rw [Defs.onTc_tc]

/-- The output is stored into at every point. -/
theorem never_idle : ∀ t : Fin cfg0.N, cfg0.idle 14 (cfg0.grid.coords t) = false := (by decide +kernel : ∀ t : Fin grid0.N, _)

theorem body_obligation (c : Dev nD) : BodyObligation (dats (F := F) m 0 c) (defs₀ (F := F)) Variants.none () Set.univ := fun t => by
  rw [bigSep_W0, bigSep_W0, body_row]
  refine triple_restated (sound_body m c t) rfl .rfl fun _ => ?_
  rw [never_idle t]
  exact .rfl

/-! ## The run and the frame -/

theorem inv_in (c : Dev nD) : (Pipeline.ΦA spec0 c : sProp 𝕄) ⊢ (dats m 0 c).Φ 0 := by
  rw [show (dats m 0 c).Φ 0 = Inv m c 0 from rfl, rest_eq]
  unfold Inv
  iintro ⟨⟨HS0, HS1, ⟨%da, HS2⟩, ⟨%db, HS3⟩⟩, Hg⟩
  isplitl [HS0 HS1 HS2 HS3]
  · isplitl [HS0]; · iexact HS0
    isplitl [HS1]; · iexact HS1
    isplitl [HS2]
    · iexists _; isplitr; swap; · iexact HS2
      ipureintro; intro k hk hn; exact absurd hn (Nat.succ_ne_zero k).symm
    iexists _; isplitr; swap; · iexact HS3
    ipureintro; intro k hk hn; exact absurd hn (Nat.succ_ne_zero k).symm
  iexact Hg

theorem inv_out (c : Dev nD) : (dats m 0 c).Φ (Fin.last cfg0.N) ⊢ (Pipeline.ΦA spec0 c : sProp 𝕄) := by
  rw [show (dats m 0 c).Φ (Fin.last cfg0.N) = Inv m c (Fin.last cfg0.N).val by dsimp only [dats], rest_eq]
  unfold Inv
  iintro ⟨⟨HS0, HS1, ⟨%da, -, HS2⟩, ⟨%db, -, HS3⟩⟩, Hg⟩
  isplitl [HS0 HS1 HS2 HS3]
  · isplitl [HS0]; · iexact HS0
    isplitl [HS1]; · iexact HS1
    isplitl [HS2]; · iexists _; iexact HS2
    iexists _; iexact HS3
  iexact Hg

set_option backward.isDefEq.respectTransparency.types false in
theorem run_full : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

theorem run_main : θ_run defs (onTc (τ := τ) (main (F := F))) (s₀ m ρ) (Pipeline.FramePost cfgs (dats m) 0 (V m)) :=
  (θ_run defs _ _).mono (fun _ h => h.1) (run_full m ρ)

theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (args_kept m ρ) ((θ_run defs _ _).mono (fun _ h => h.2) (run_full m ρ))

end Cert.Merge

end
-- ==== Proof.MergeHost.lean ====
/- The arrays the host prepares for the merge kernel and the kernel's input blocks, read at an index. -/
module

public import proofs.«01_k».proof.Proof.MergeFrame
public import Idealize.ShloMosaic.Lib.Pipeline.ValueKit

@[expose] public section

set_option maxRecDepth 16384

noncomputable section

namespace Cert.Merge

open Idealize.ShloMosaic Idealize.ShloMosaic.TcCoe Cert.Kernel2Ideal Cert.Kernel2Ideal.Gen

variable (m : (ℓ : Loc nD τ sig) → Buf (Elt Ideal) ℓ)

/-! ## The host's arrays -/

theorem v17_at (c : Dev nD) (r : Fin 16384) (d : Fin 1024) :
    (V m c main_v17 (ix2 r d) : EReal)
      = m ((c : Thread nD τ).loc main_arg0) (ix3 ⟨r.val / 8192, by omega⟩ ⟨r.val % 8192, by omega⟩ d) := by
  entry_read
  pointwise

theorem v18_at (c : Dev nD) (r : Fin 16384) (d : Fin 512) :
    (V m c main_v18 (ix2 r d) : EReal)
      = m ((c : Thread nD τ).loc main_arg2) (ix3 ⟨r.val / 8192, by omega⟩ ⟨r.val % 8192, by omega⟩ d) := by
  entry_read
  pointwise

theorem v20_at (c : Dev nD) (r : Fin 16384) (d : Fin 512) :
    (V m c main_v20 (ix2 r d) : EReal)
      = m ((c : Thread nD τ).loc main_arg3) (ix3 ⟨r.val / 8192, by omega⟩ ⟨r.val % 8192, by omega⟩ d) := by
  entry_read
  pointwise

theorem v21_at (c : Dev nD) (r : Fin 16384) (d : Fin 2048) :
    (V m c main_v21 (ix2 r d) : EReal)
      = m ((c : Thread nD τ).loc main_arg4) (ix3 ⟨r.val / 8192, by omega⟩ ⟨r.val % 8192, by omega⟩ d) := by
  entry_read
  pointwise

theorem v2_at (c : Dev nD) (t : Fin 64) (j : Fin 512) (p : Fin 256) :
    (V m c main_v2 (ix3 t j p) : EReal)
      = m ((c : Thread nD τ).loc main_arg1) (ix3 ⟨t.val / 32, by omega⟩ ⟨t.val % 32 * 256 + p.val, by omega⟩ j) := by
  entry_read
  pointwise

theorem v16_at (c : Dev nD) (j : Fin 4) (q : Fin 128) (k : Fin 256) :
    (V m c main_v16 (ix3 j q k) : EReal)
      = m ((c : Thread nD τ).loc main_arg5) (ix4 0 ⟨j.val * 2 + k.val / 128, by omega⟩ q ⟨k.val % 128, by omega⟩) := by
  entry_read
  pointwise

theorem v11_at (c : Dev nD) (q : Fin 128) (e : Fin 512) :
    (V m c main_v11 (ix2 q e) : EReal) = m ((c : Thread nD τ).loc main_arg6) (ix3 0 ⟨e.val / 64, by omega⟩ q) := by
  entry_read
  pointwise

theorem v22_at (c : Dev nD) (d : Fin 1024) :
    (V m c main_v22 (ix2 0 d) : EReal) = m ((c : Thread nD τ).loc main_arg13) (ix1 d) := by
  entry_read
  pointwise

theorem v3_at (c : Dev nD) (x : Fin 512) (y : Fin 1024) :
    (V m c main_v3 (ix3 0 x y) : EReal) = m ((c : Thread nD τ).loc main_arg7) (ix3 0 x y) := by
  entry_read
  pointwise

theorem v4_at (c : Dev nD) (x : Fin 512) (y : Fin 1024) :
    (V m c main_v4 (ix3 0 x y) : EReal) = m ((c : Thread nD τ).loc main_arg8) (ix3 0 x y) := by
  entry_read
  pointwise

theorem v5_at (c : Dev nD) (x : Fin 1024) (y : Fin 1024) :
    (V m c main_v5 (ix3 0 x y) : EReal) = m ((c : Thread nD τ).loc main_arg9) (ix3 0 x y) := by
  entry_read
  pointwise

theorem v6_at (c : Dev nD) (x : Fin 1024) (y : Fin 5632) :
    (V m c main_v6 (ix3 0 x y) : EReal) = m ((c : Thread nD τ).loc main_arg11) (ix3 0 x y) := by
  entry_read
  pointwise

theorem v7_at (c : Dev nD) (x : Fin 2816) (y : Fin 1024) :
    (V m c main_v7 (ix3 0 x y) : EReal) = m ((c : Thread nD τ).loc main_arg12) (ix3 0 x y) := by
  entry_read
  pointwise

/-! ## The blocks -/

theorem idxs_rows : ∀ t : Fin cfg0.N, t.val < 64 → win0_0.index t = ![t.val, 0] ∧ win0_1.index t = ![t.val, 0, 0]
    ∧ win0_2.index t = ![t.val, 0] ∧ win0_3.index t = ![t.val, 0] ∧ win0_4.index t = ![t.val, 0] :=
  (by decide +kernel : ∀ t : Fin grid0.N, _)

theorem idxs : ∀ t : Fin cfg0.N, win0_5.index t = ![0, 0, 0] ∧ win0_6.index t = ![0, 0] ∧ win0_7.index t = ![0, 0, 0]
    ∧ win0_8.index t = ![0, 0, 0] ∧ win0_9.index t = ![0, 0, 0] ∧ win0_10.index t = ![0, 0] ∧ win0_11.index t = ![0, 0, 0]
    ∧ win0_12.index t = ![0, 0, 0] ∧ win0_13.index t = ![0, 0] ∧ win0_14.index t = ![t.val - 1, 0] :=
  (by decide +kernel : ∀ t : Fin grid0.N, _)

theorem b0_at (c : Dev nD) (t : Fin cfg0.N) (h : t.val < 64) (p : Fin 256) (d : Fin 1024) :
    (iblk m c 0 t (ix2 p d) : EReal) = m ((c : Thread nD τ).loc main_arg0) (ix3 ⟨(256 * t.val + p.val) / 8192, by omega⟩ ⟨(256 * t.val + p.val) % 8192, by omega⟩ d) := by
  refine Eq.trans (b := V m c main_v17 (ix2 ⟨256 * t.val + p.val, by omega⟩ d)) ?_ (v17_at m c ⟨256 * t.val + p.val, by omega⟩ d)
  blk_ext [iblk, idxs_rows t h]

theorem b2_at (c : Dev nD) (t : Fin cfg0.N) (h : t.val < 64) (p : Fin 256) (d : Fin 512) :
    (iblk m c 2 t (ix2 p d) : EReal) = m ((c : Thread nD τ).loc main_arg2) (ix3 ⟨(256 * t.val + p.val) / 8192, by omega⟩ ⟨(256 * t.val + p.val) % 8192, by omega⟩ d) := by
  refine Eq.trans (b := V m c main_v18 (ix2 ⟨256 * t.val + p.val, by omega⟩ d)) ?_ (v18_at m c ⟨256 * t.val + p.val, by omega⟩ d)
  blk_ext [iblk, idxs_rows t h]

theorem b3_at (c : Dev nD) (t : Fin cfg0.N) (h : t.val < 64) (p : Fin 256) (d : Fin 512) :
    (iblk m c 3 t (ix2 p d) : EReal) = m ((c : Thread nD τ).loc main_arg3) (ix3 ⟨(256 * t.val + p.val) / 8192, by omega⟩ ⟨(256 * t.val + p.val) % 8192, by omega⟩ d) := by
  refine Eq.trans (b := V m c main_v20 (ix2 ⟨256 * t.val + p.val, by omega⟩ d)) ?_ (v20_at m c ⟨256 * t.val + p.val, by omega⟩ d)
  blk_ext [iblk, idxs_rows t h]

theorem b4_at (c : Dev nD) (t : Fin cfg0.N) (h : t.val < 64) (p : Fin 256) (d : Fin 2048) :
    (iblk m c 4 t (ix2 p d) : EReal) = m ((c : Thread nD τ).loc main_arg4) (ix3 ⟨(256 * t.val + p.val) / 8192, by omega⟩ ⟨(256 * t.val + p.val) % 8192, by omega⟩ d) := by
  refine Eq.trans (b := V m c main_v21 (ix2 ⟨256 * t.val + p.val, by omega⟩ d)) ?_ (v21_at m c ⟨256 * t.val + p.val, by omega⟩ d)
  blk_ext [iblk, idxs_rows t h]

theorem b1_at (c : Dev nD) (t : Fin cfg0.N) (h : t.val < 64) (j : Fin 512) (p : Fin 256) :
    (iblk m c 1 t (ix3 0 j p) : EReal) = m ((c : Thread nD τ).loc main_arg1) (ix3 ⟨t.val / 32, by omega⟩ ⟨t.val % 32 * 256 + p.val, by omega⟩ j) := by
  refine Eq.trans (b := V m c main_v2 (ix3 ⟨t.val, h⟩ j p)) ?_ (v2_at m c ⟨t.val, h⟩ j p)
  blk_ext [iblk, idxs_rows t h]

theorem b5_at (c : Dev nD) (t : Fin cfg0.N) (j : Fin 4) (q : Fin 128) (k : Fin 256) :
    (iblk m c 5 t (ix3 j q k) : EReal) = m ((c : Thread nD τ).loc main_arg5) (ix4 0 ⟨j.val * 2 + k.val / 128, by omega⟩ q ⟨k.val % 128, by omega⟩) := by
  refine Eq.trans (b := V m c main_v16 (ix3 j q k)) ?_ (v16_at m c j q k)
  blk_ext [iblk, idxs t]

theorem b6_at (c : Dev nD) (t : Fin cfg0.N) (q : Fin 128) (e : Fin 512) :
    (iblk m c 6 t (ix2 q e) : EReal) = m ((c : Thread nD τ).loc main_arg6) (ix3 0 ⟨e.val / 64, by omega⟩ q) := by
  refine Eq.trans (b := V m c main_v11 (ix2 q e)) ?_ (v11_at m c q e)
  blk_ext [iblk, idxs t]

theorem b10_at (c : Dev nD) (t : Fin cfg0.N) (d : Fin 1024) :
    (iblk m c 10 t (ix2 0 d) : EReal) = m ((c : Thread nD τ).loc main_arg10) (ix2 0 d) := by
  refine Eq.trans (b := V m c main_arg10 (ix2 0 d)) ?_ ?_
  · blk_ext [iblk, idxs t]
  · entry_read
    rfl

theorem b13_at (c : Dev nD) (t : Fin cfg0.N) (d : Fin 1024) :
    (iblk m c 13 t (ix2 0 d) : EReal) = m ((c : Thread nD τ).loc main_arg13) (ix1 d) := by
  refine Eq.trans (b := V m c main_v22 (ix2 0 d)) ?_ (v22_at m c d)
  blk_ext [iblk, idxs t]

theorem b7_at (c : Dev nD) (t : Fin cfg0.N) (x : Fin 512) (y : Fin 1024) :
    (iblk m c 7 t (ix3 0 x y) : EReal) = m ((c : Thread nD τ).loc main_arg7) (ix3 0 x y) := by
  refine Eq.trans (b := V m c main_v3 (ix3 0 x y)) ?_ (v3_at m c x y)
  blk_ext [iblk, idxs t]

theorem b8_at (c : Dev nD) (t : Fin cfg0.N) (x : Fin 512) (y : Fin 1024) :
    (iblk m c 8 t (ix3 0 x y) : EReal) = m ((c : Thread nD τ).loc main_arg8) (ix3 0 x y) := by
  refine Eq.trans (b := V m c main_v4 (ix3 0 x y)) ?_ (v4_at m c x y)
  blk_ext [iblk, idxs t]

theorem b9_at (c : Dev nD) (t : Fin cfg0.N) (x : Fin 1024) (y : Fin 1024) :
    (iblk m c 9 t (ix3 0 x y) : EReal) = m ((c : Thread nD τ).loc main_arg9) (ix3 0 x y) := by
  refine Eq.trans (b := V m c main_v5 (ix3 0 x y)) ?_ (v5_at m c x y)
  blk_ext [iblk, idxs t]

theorem b11_at (c : Dev nD) (t : Fin cfg0.N) (x : Fin 1024) (y : Fin 5632) :
    (iblk m c 11 t (ix3 0 x y) : EReal) = m ((c : Thread nD τ).loc main_arg11) (ix3 0 x y) := by
  refine Eq.trans (b := V m c main_v6 (ix3 0 x y)) ?_ (v6_at m c x y)
  blk_ext [iblk, idxs t]

theorem b12_at (c : Dev nD) (t : Fin cfg0.N) (x : Fin 2816) (y : Fin 1024) :
    (iblk m c 12 t (ix3 0 x y) : EReal) = m ((c : Thread nD τ).loc main_arg12) (ix3 0 x y) := by
  refine Eq.trans (b := V m c main_v7 (ix3 0 x y)) ?_ (v7_at m c x y)
  blk_ext [iblk, idxs t]

end Cert.Merge

end
-- ==== Proof.MergeBlocks.lean ====
/- The contents that the merge kernel's points leave, as functions of their input blocks, the same at every kind of point. -/
module

public import proofs.«01_k».proof.Proof.MergeFrame
public import Idealize.ShloMosaic.Lib.Pipeline.ReadBack
public import Idealize.ShloMosaic.Lib.Pipeline.ValueKit

@[expose] public section

set_option maxRecDepth 16384

noncomputable section

namespace Cert.Merge

open Idealize.ShloMosaic Idealize.ShloMosaic.TcCoe Cert.Kernel2Ideal Cert.Kernel2Ideal.Gen

section Blocks

variable {F : FTy → Type} [FloatOps F]

/-- The mixing block stored at rows from `r` and columns from `c`, by weights `j`. -/
def mixPiece (x2 : Vec F S256x512 .f32) (x3 : Vec F S256x512 .bf16) (x5 : Vec F S4x128x256 .bf16) (x6 : Vec F S128x512 .f32)
    (r c j : ℕ) (hi : ∀ a, ![r, c] a + S128x128.size a ≤ S256x512.size a)
    (hw : ∀ a, ![j, 0, 0] a + S1x128x256.size a ≤ S4x128x256.size a)
    (hb : ∀ a, ![0, c] a + S128x128.size a ≤ S128x512.size a) : View.Piece (Elt F) S256x512 .bf16 :=
  ⟨Rect.unit ![r, c] S128x128.size hi,
    k0_pay4 (View.ld x3 (Rect.unit ![r, c] S128x128.size hi)) (View.ld x5 (Rect.unit ![j, 0, 0] S1x128x256.size hw))
      (View.ld x2 (Rect.unit ![r, c] S128x128.size hi)) (View.ld x6 (Rect.unit ![0, c] S128x128.size hb))⟩

/-- The mixing blocks, the last stored first. -/
def mixPieces (x2 : Vec F S256x512 .f32) (x3 : Vec F S256x512 .bf16) (x5 : Vec F S4x128x256 .bf16) (x6 : Vec F S128x512 .f32) :
    List (View.Piece (Elt F) S256x512 .bf16) :=
  [mixPiece x2 x3 x5 x6 128 384 3 inb_S256x512_S128x128_128_384 inb_S4x128x256_S1x128x256_3_0_0 inb_S128x512_S128x128_0_384,
   mixPiece x2 x3 x5 x6 128 256 2 inb_S256x512_S128x128_128_256 inb_S4x128x256_S1x128x256_2_0_0 inb_S128x512_S128x128_0_256,
   mixPiece x2 x3 x5 x6 128 128 1 inb_S256x512_S128x128_128_128 inb_S4x128x256_S1x128x256_1_0_0 inb_S128x512_S128x128_0_128,
   mixPiece x2 x3 x5 x6 128 0 0 inb_S256x512_S128x128_128_0 inb_S4x128x256_S1x128x256_0_0_0 inb_S128x512_S128x128_0_0,
   mixPiece x2 x3 x5 x6 0 384 3 inb_S256x512_S128x128_0_384 inb_S4x128x256_S1x128x256_3_0_0 inb_S128x512_S128x128_0_384,
   mixPiece x2 x3 x5 x6 0 256 2 inb_S256x512_S128x128_0_256 inb_S4x128x256_S1x128x256_2_0_0 inb_S128x512_S128x128_0_256,
   mixPiece x2 x3 x5 x6 0 128 1 inb_S256x512_S128x128_0_128 inb_S4x128x256_S1x128x256_1_0_0 inb_S128x512_S128x128_0_128,
   mixPiece x2 x3 x5 x6 0 0 0 inb_S256x512_S128x128_0_0 inb_S4x128x256_S1x128x256_0_0_0 inb_S128x512_S128x128_0_0]

/-- The row block: the input rows and the projected sum of the two gated branches. -/
def rowVal (x0 : Vec F S256x1024 .f32) (x1 : Vec F S1x512x256 .bf16) (x2 : Vec F S256x512 .f32) (x3 : Vec F S256x512 .bf16)
    (x4 : Vec F S256x2048 .f32) (x5 : Vec F S4x128x256 .bf16) (x6 : Vec F S128x512 .f32) (x7 : Vec F S1x512x1024 .bf16)
    (x8 : Vec F S1x512x1024 .bf16) (x9 : Vec F S1x1024x1024 .bf16) : Vec F S256x1024 .f32 :=
  k0_pay73
    (k0_pay34 (k0_pay32 x1) (k0_pay33 x7)
      ((View.whole cc0_scratch0).readCov (mixPieces x2 x3 x5 x6) (Rect.unit ![0, 0] S256x512.size inb_S256x512_S256x512_0_0).toLoadRect)
      x8 (View.ld x4 (Rect.unit ![0, 0] S256x1024.size inb_S256x2048_S256x1024_0_0))
      (View.ld x4 (Rect.unit ![0, 1024] S256x1024.size inb_S256x2048_S256x1024_0_1024)))
    x0 x9

/-- The activation blocks, the last stored first. -/
def actPieces (y : Vec F S256x1024 .f32) (x10 : Vec F S1x1024 .f32) (x11 : Vec F S1x1024x5632 .bf16) :
    List (View.Piece (Elt F) S256x2816 .bf16) :=
  [⟨Rect.unit ![0, 2304] S256x512.size inb_S256x2816_S256x512_0_2304, k0_pay70 (k0_pay64 y x10)
      (View.ld x11 (Rect.unit ![0, 0, 2304] S1x1024x512.size inb_S1x1024x5632_S1x1024x512_0_0_2304))
      (View.ld x11 (Rect.unit ![0, 0, 5120] S1x1024x512.size inb_S1x1024x5632_S1x1024x512_0_0_5120))⟩,
   ⟨Rect.unit ![0, 1536] S256x768.size inb_S256x2816_S256x768_0_1536, k0_pay69 (k0_pay64 y x10)
      (View.ld x11 (Rect.unit ![0, 0, 1536] S1x1024x768.size inb_S1x1024x5632_S1x1024x768_0_0_1536))
      (View.ld x11 (Rect.unit ![0, 0, 4352] S1x1024x768.size inb_S1x1024x5632_S1x1024x768_0_0_4352))⟩,
   ⟨Rect.unit ![0, 768] S256x768.size inb_S256x2816_S256x768_0_768, k0_pay69 (k0_pay64 y x10)
      (View.ld x11 (Rect.unit ![0, 0, 768] S1x1024x768.size inb_S1x1024x5632_S1x1024x768_0_0_768))
      (View.ld x11 (Rect.unit ![0, 0, 3584] S1x1024x768.size inb_S1x1024x5632_S1x1024x768_0_0_3584))⟩,
   ⟨Rect.unit ![0, 0] S256x768.size inb_S256x2816_S256x768_0_0, k0_pay69 (k0_pay64 y x10)
      (View.ld x11 (Rect.unit ![0, 0, 0] S1x1024x768.size inb_S1x1024x5632_S1x1024x768_0_0_0))
      (View.ld x11 (Rect.unit ![0, 0, 2816] S1x1024x768.size inb_S1x1024x5632_S1x1024x768_0_0_2816))⟩]

/-- The output block of a row block `y`: the feed-forward layer and the last norm. -/
def ffnVal (y : Vec F S256x1024 .f32) (x10 : Vec F S1x1024 .f32) (x11 : Vec F S1x1024x5632 .bf16) (x12 : Vec F S1x2816x1024 .bf16)
    (x13 : Vec F S1x1024 .f32) : Vec F S256x1024 .f32 :=
  k0_pay1 y ((View.whole cc0_scratch1).readCov (actPieces y x10 x11) (Rect.unit ![0, 0] S256x2816.size inb_S256x2816_S256x2816_0_0).toLoadRect)
    x12 x13

end Blocks

variable (m : (ℓ : Loc nD τ sig) → Buf (Elt Ideal) ℓ)

/-- The row block of a point's input blocks. -/
abbrev rowOf (c : Dev nD) (t : Fin cfg0.N) : Vec Ideal S256x1024 .f32 :=
  rowVal (iblk m c 0 t) (iblk m c 1 t) (iblk m c 2 t) (iblk m c 3 t) (iblk m c 4 t) (iblk m c 5 t) (iblk m c 6 t) (iblk m c 7 t)
    (iblk m c 8 t) (iblk m c 9 t)

/-- The output block of a row block at a point. -/
abbrev ffnOf (c : Dev nD) (t : Fin cfg0.N) (y : Vec Ideal S256x1024 .f32) : Vec Ideal S256x1024 .f32 :=
  ffnVal y (iblk m c 10 t) (iblk m c 11 t) (iblk m c 12 t) (iblk m c 13 t)

theorem row_first (c : Dev nD) (t : Fin cfg0.N) (h : isFirst t.val) : View.canon (at_first m c t h).2.1 = rowOf m c t := by
  unfold at_first
  frame_open
  simp (disch := decide) only [↓ View.readCov_skip, ↓ View.readCov_cons_toLoadRect, ↓ View.readCov_fill]
  frame_out
  rfl

theorem row_even (c : Dev nD) (t : Fin cfg0.N) (h : isEven t.val) (y : Vec Ideal S256x1024 .f32) :
    View.canon (at_even m c t h y).2.1 = rowOf m c t := by
  unfold at_even
  frame_open
  simp (disch := decide) only [↓ View.readCov_skip, ↓ View.readCov_cons_toLoadRect, ↓ View.readCov_fill]
  frame_out
  rfl

theorem row_odd (c : Dev nD) (t : Fin cfg0.N) (h : isOdd t.val) (y : Vec Ideal S256x1024 .f32) :
    View.canon (at_odd m c t h y).2.1 = rowOf m c t := by
  unfold at_odd
  frame_open
  simp (disch := decide) only [↓ View.readCov_skip, ↓ View.readCov_cons_toLoadRect, ↓ View.readCov_fill]
  frame_out
  rfl

theorem out_even (c : Dev nD) (t : Fin cfg0.N) (h : isEven t.val) (y : Vec Ideal S256x1024 .f32) :
    View.canon (at_even m c t h y).1 = ffnOf m c t y := by
  unfold at_even
  frame_open
  simp (disch := decide) only [↓ View.readCov_skip, ↓ View.readCov_cons_toLoadRect, ↓ View.readCov_fill]
  frame_out
  simp only [read_unread_whole]
  rfl

theorem out_odd (c : Dev nD) (t : Fin cfg0.N) (h : isOdd t.val) (y : Vec Ideal S256x1024 .f32) :
    View.canon (at_odd m c t h y).1 = ffnOf m c t y := by
  unfold at_odd
  frame_open
  simp (disch := decide) only [↓ View.readCov_skip, ↓ View.readCov_cons_toLoadRect, ↓ View.readCov_fill]
  frame_out
  simp only [read_unread_whole]
  rfl

theorem out_last (c : Dev nD) (t : Fin cfg0.N) (h : isLast t.val) (y : Vec Ideal S256x1024 .f32) :
    View.canon (at_last m c t h y).1 = ffnOf m c t y := by
  unfold at_last
  frame_open
  simp (disch := decide) only [↓ View.readCov_skip, ↓ View.readCov_cons_toLoadRect, ↓ View.readCov_fill]
  frame_out
  simp only [read_unread_whole]
  rfl

/-- The row buffer after a point that computes one. -/
theorem rowBuf_eq (c : Dev nD) (t : Fin cfg0.N) (h : t.val < 64) : rowBuf m c t.val t.isLt = rowOf m c t := by
  rcases kinds t with hf | he | ho | hl
  · rw [rowBuf_first m c t hf, row_first]
  · rw [rowBuf_even m c t he, row_even]
  · rw [rowBuf_odd m c t ho, row_odd]
  · exact absurd hl (Nat.ne_of_lt h)

/-- The output block after a point that is not the first. -/
theorem outAt_eq (c : Dev nD) (t : Fin cfg0.N) (h : t.val ≠ 0) : outAt m c t = ffnOf m c t (prevRow m c t) := by
  rcases kinds t with hf | he | ho | hl
  · exact absurd hf h
  · rw [outAt_even m c t he, out_even]
  · rw [outAt_odd m c t ho, out_odd]
  · rw [outAt_last m c t hl, out_last]

end Cert.Merge

end
-- ==== Proof.MergeRef.lean ====
/- The merge reference's result, read at an index. -/
module

public import proofs.«01_k».proof.Proof.Gen.Reference2Ideal.Read
public import Idealize.ShloMosaic.Lib.Pipeline.ValueKit

@[expose] public section

set_option maxRecDepth 16384

noncomputable section

namespace Cert.Merge

open Idealize.ShloMosaic Idealize.ShloMosaic.TcCoe

/-! ## The layer's rows -/

/-- A row by its root mean square, times the weights. -/
def norm (y g : Fin 1024 → EReal) (d : Fin 1024) : EReal :=
  y d * Ideal.rsqrt (Ideal.div (∑ x, y x * y x) (Ideal.ofBits FTy.f32 0x44800000#32) + Ideal.ofBits FTy.f32 0x358637BD#32) * g d

/-- A gate's linear unit times the other half's value. -/
def gated (g u : EReal) : EReal := g * Ideal.logistic g * u

/-- The activations of a row. -/
def act (y g : Fin 1024 → EReal) (w : Fin 1024 → Fin 5632 → EReal) (j : Fin 2816) : EReal :=
  gated (∑ x, norm y g x * w x ⟨j.val, by omega⟩) (∑ x, norm y g x * w x ⟨2816 + j.val, by omega⟩)

/-- A row after the feed-forward layer and the last norm. -/
def ffn (y g : Fin 1024 → EReal) (w : Fin 1024 → Fin 5632 → EReal) (wd : Fin 2816 → Fin 1024 → EReal) (gl : Fin 1024 → EReal) :
    Fin 1024 → EReal :=
  norm (fun d => y d + ∑ j, act y g w j * wd j d) gl

/-- A row plus the projected sum of the gated branches. -/
def merged (x : Fin 1024 → EReal) (a b : Fin 512 → EReal) (ga gb : Fin 1024 → EReal) (wa wb : Fin 512 → Fin 1024 → EReal)
    (wo : Fin 1024 → Fin 1024 → EReal) (d : Fin 1024) : EReal :=
  x d + ∑ e, (ga e * ∑ j, a j * wa j e + gb e * ∑ j, b j * wb j e) * wo e d

/-- An entry of the mixing branch. -/
def mixed (u : EReal) (w v : Fin 128 → EReal) (b : EReal) : EReal := u * (∑ k, w k * v k + b)

/-! ## The reference's -/

open Cert.Reference2Ideal Cert.Reference2Ideal.Read

variable (x0 : FVec Ideal S2x8192x1024 .f32) (x1 x2 x3 : FVec Ideal S2x8192x512 .f32) (x4 : FVec Ideal S2x8192x2048 .f32)
  (x5 : FVec Ideal S1x8x128x128 .f32) (x6 : FVec Ideal S1x8x128 .f32) (x7 x8 : FVec Ideal S1x512x1024 .f32)
  (x9 : FVec Ideal S1x1024x1024 .f32) (x10 : FVec Ideal S1x1024 .f32) (x11 : FVec Ideal S1x1024x5632 .f32)
  (x12 : FVec Ideal S1x2816x1024 .f32) (x13 : FVec Ideal S1024 .f32)

theorem ref_mix (b : Fin 2) (s : Fin 8192) (j : Fin 512) :
    (val_main_v10 (F := Ideal) x2 x3 x5 x6 (ix3 b s j) : EReal)
      = mixed (x2 (ix3 b s j)) (fun k => x5 (ix4 0 ⟨j.val / 64, by omega⟩ ⟨s.val % 128, by omega⟩ k))
          (fun k => x3 (ix3 b ⟨128 * (s.val / 128) + k.val, by omega⟩ j)) (x6 (ix3 0 ⟨j.val / 64, by omega⟩ ⟨s.val % 128, by omega⟩)) := by
  pointwise [val_main_v10, val_main_v9, val_main_v8, val_main_v7, val_main_v6, val_main_v5, val_main_v4, val_main_v3, val_main_v2,
    val_main_v1, val_main_v0, mixed]
  refine congrArg (fun z => (x2 (ix3 b s j) : EReal) * (z + _)) (Finset.sum_congr rfl fun k _ => (mul_comm _ _).trans ?_)
  exact congrArg (fun n => (x5 _ : EReal) * x3 (ix3 b n j)) (Fin.ext (by show s.val / 128 * 128 + k.val = 128 * (s.val / 128) + k.val; omega))

theorem ref_row (b : Fin 2) (s : Fin 8192) (d : Fin 1024) :
    (val_main_v22 (F := Ideal) x0 x1 x2 x3 x4 x5 x6 x7 x8 x9 (ix3 b s d) : EReal)
      = merged (fun d => x0 (ix3 b s d)) (fun j => x1 (ix3 b s j)) (fun j => val_main_v10 (F := Ideal) x2 x3 x5 x6 (ix3 b s j))
          (fun d => x4 (ix3 b s ⟨d.val, by omega⟩)) (fun d => x4 (ix3 b s ⟨1024 + d.val, by omega⟩))
          (fun j d => x7 (ix3 0 j d)) (fun j d => x8 (ix3 0 j d)) (fun e d => x9 (ix3 0 e d)) d := by
  pointwise [val_main_v22, val_main_v21, val_main_v20, val_main_v19, val_main_v18, val_main_v17, val_main_v16, val_main_v15,
    val_main_v14, val_main_v13, val_main_v12, val_main_v11, merged]

theorem ref_norm (b : Fin 2) (s : Fin 8192) (d : Fin 1024) :
    (val_main_v36 (F := Ideal) x0 x1 x2 x3 x4 x5 x6 x7 x8 x9 x10 (ix3 b s d) : EReal)
      = norm (fun d => val_main_v22 (F := Ideal) x0 x1 x2 x3 x4 x5 x6 x7 x8 x9 (ix3 b s d)) (fun d => x10 (ix2 0 d)) d := by
  pointwise [val_main_v36, val_main_v35, val_main_v34, val_main_v33, val_main_v32, val_main_v31, val_main_v30, val_main_v29,
    val_main_v28, val_main_v27, val_main_v26, val_main_v25, val_main_v24, val_main_v23, val_main_cst, val_main_cst_0, val_main_cst_1, norm]

theorem ref_act (b : Fin 2) (s : Fin 8192) (j : Fin 2816) :
    (val_main_v42 (F := Ideal) x0 x1 x2 x3 x4 x5 x6 x7 x8 x9 x10 x11 (ix3 b s j) : EReal)
      = gated (∑ d, val_main_v36 (F := Ideal) x0 x1 x2 x3 x4 x5 x6 x7 x8 x9 x10 (ix3 b s d) * (x11 (ix3 0 d ⟨j.val, by omega⟩) : EReal))
         (∑ d, val_main_v36 (F := Ideal) x0 x1 x2 x3 x4 x5 x6 x7 x8 x9 x10 (ix3 b s d) * (x11 (ix3 0 d ⟨2816 + j.val, by omega⟩) : EReal)) := by
  pointwise [val_main_v42, val_main_v41, val_main_v40, val_main_v39, val_main_v38, val_main_v37, val_main_call0_v0,
    val_main_call0_v1, val_main_call0_v2, val_main_call0_v3, val_main_call0_v4, val_main_call0_v5, val_main_call0_cst,
    val_main_call0_cst_0, gated]
  rfl

theorem ref_out (b : Fin 2) (s : Fin 8192) (d : Fin 1024) :
    (val_main_v59 (F := Ideal) x0 x1 x2 x3 x4 x5 x6 x7 x8 x9 x10 x11 x12 x13 (ix2 ⟨8192 * b.val + s.val, by omega⟩ d) : EReal)
      = norm (fun d => val_main_v22 (F := Ideal) x0 x1 x2 x3 x4 x5 x6 x7 x8 x9 (ix3 b s d)
            + ∑ j, val_main_v42 (F := Ideal) x0 x1 x2 x3 x4 x5 x6 x7 x8 x9 x10 x11 (ix3 b s j) * (x12 (ix3 0 j d) : EReal))
          (fun d => x13 (ix1 d)) d := by
  pointwise [val_main_v59, val_main_v58, val_main_v57, val_main_v56, val_main_v55, val_main_v54, val_main_v53, val_main_v52,
    val_main_v51, val_main_v50, val_main_v49, val_main_v48, val_main_v47, val_main_v46, val_main_v45, val_main_v44, val_main_v43,
    val_main_cst_2, val_main_cst_3, val_main_cst_4, norm]

theorem ref_at (b : Fin 2) (s : Fin 8192) (d : Fin 1024) :
    (val_main_v59 (F := Ideal) x0 x1 x2 x3 x4 x5 x6 x7 x8 x9 x10 x11 x12 x13 (ix2 ⟨8192 * b.val + s.val, by omega⟩ d) : EReal)
      = ffn (merged (fun d => x0 (ix3 b s d)) (fun j => x1 (ix3 b s j))
            (fun j => mixed (x2 (ix3 b s j)) (fun k => x5 (ix4 0 ⟨j.val / 64, by omega⟩ ⟨s.val % 128, by omega⟩ k))
              (fun k => x3 (ix3 b ⟨128 * (s.val / 128) + k.val, by omega⟩ j)) (x6 (ix3 0 ⟨j.val / 64, by omega⟩ ⟨s.val % 128, by omega⟩)))
            (fun d => x4 (ix3 b s ⟨d.val, by omega⟩)) (fun d => x4 (ix3 b s ⟨1024 + d.val, by omega⟩))
            (fun j d => x7 (ix3 0 j d)) (fun j d => x8 (ix3 0 j d)) (fun e d => x9 (ix3 0 e d)))
          (fun d => x10 (ix2 0 d)) (fun d j => x11 (ix3 0 d j)) (fun j d => x12 (ix3 0 j d)) (fun d => x13 (ix1 d)) d := by
  rw [ref_out]
  simp only [ref_act, ref_norm, ref_row, ref_mix]
  rfl

end Cert.Merge

end
-- ==== Proof.MergeAt.lean ====
/- The contents of the merge kernel's blocks, read at an index. -/
module

public import proofs.«01_k».proof.Proof.MergeBlocks
public import proofs.«01_k».proof.Proof.MergeRef

@[expose] public section

set_option maxRecDepth 16384

noncomputable section

namespace Cert.Merge

open Idealize.ShloMosaic Idealize.ShloMosaic.TcCoe Cert.Kernel2Ideal Cert.Kernel2Ideal.Gen

/-- The mask of the lanes of a pair's first group. -/
theorem mask : ∀ l : Fin 128, IntOp.cmpi .slt (BitVec.ofNat 32 l.val) 64#32 = if l.val < 64 then 1#1 else 0#1 := by
  decide +kernel

theorem select_one (a b : EReal) : Scalar.select 1#1 a b = a := if_pos rfl

theorem select_zero (a b : EReal) : Scalar.select 0#1 a b = b := if_neg (by decide)

theorem pay4_at (v : Vec Ideal S128x128 .bf16) (w : Vec Ideal S1x128x256 .bf16) (u b : Vec Ideal S128x128 .f32) (q l : Fin 128) :
    (k0_pay4 v w u b (ix2 q l) : EReal)
      = mixed (u (ix2 q l)) (fun k => w (ix3 0 q ⟨128 * (l.val / 64) + k.val, by omega⟩)) (fun k => v (ix2 k l)) (b (ix2 q l)) := by
  pointwise [k0_pay4, k0_pay3, mixed]
  simp only [mask]
  by_cases h : l.val < 64
  · have e : ∀ x : Fin 128, (⟨128 * (l.val / 64) + x.val, by omega⟩ : Fin 256) = ⟨x.val, by omega⟩ := fun x =>
      Fin.ext (by show 128 * (l.val / 64) + x.val = x.val; omega)
    simp only [if_pos h, select_one, Finset.sum_const_zero, add_zero, e]
  · have e : ∀ x : Fin 128, (⟨128 * (l.val / 64) + x.val, by omega⟩ : Fin 256) = ⟨128 + x.val, by omega⟩ := fun x =>
      Fin.ext (by show 128 * (l.val / 64) + x.val = 128 + x.val; omega)
    simp only [if_neg h, select_zero, Finset.sum_const_zero, zero_add, e]

theorem act_tile (h : FVec Ideal S256x1024 .bf16) (a b : Vec Ideal S1x1024x768 .bf16) (r : Fin 256) (d : Fin 768) :
    (k0_pay69 h a b (ix2 r d) : EReal)
      = gated (∑ x, h (ix2 r x) * (a (ix3 0 x d) : EReal)) (∑ x, h (ix2 r x) * (b (ix3 0 x d) : EReal)) := by
  pointwise [k0_pay69, gated]

theorem act_tail (h : FVec Ideal S256x1024 .bf16) (a b : Vec Ideal S1x1024x512 .bf16) (r : Fin 256) (d : Fin 512) :
    (k0_pay70 h a b (ix2 r d) : EReal)
      = gated (∑ x, h (ix2 r x) * (a (ix3 0 x d) : EReal)) (∑ x, h (ix2 r x) * (b (ix3 0 x d) : EReal)) := by
  pointwise [k0_pay70, gated]

theorem norm_at (y : Vec Ideal S256x1024 .f32) (g : Vec Ideal S1x1024 .f32) (r : Fin 256) (d : Fin 1024) :
    (k0_pay64 y g (ix2 r d) : EReal) = norm (fun d => y (ix2 r d)) (fun d => g (ix2 0 d)) d := by
  pointwise [k0_pay64, norm]

theorem act_cover (y : Vec Ideal S256x1024 .f32) (x10 : Vec Ideal S1x1024 .f32) (x11 : Vec Ideal S1x1024x5632 .bf16) (r : Fin 256)
    (j : Fin 2816) : ∃ p ∈ actPieces y x10 x11, ix2 r j ∈ p.1.set := by
  have hj := j.isLt
  have hr := r.isLt
  have key : ∀ o n : ℕ, o ≤ j.val → j.val < o + n → ∀ a : Fin 2, (![0, o] : Fin 2 → ℕ) a ≤ (ix2 r j : S256x2816.Idx) a
      ∧ ((ix2 r j : S256x2816.Idx) a : ℕ) < (![0, o] : Fin 2 → ℕ) a + (![256, n] : Fin 2 → ℕ) a := fun o n h1 h2 a => by
    match a with
    | ⟨0, _⟩ => exact ⟨Nat.zero_le _, by show r.val < 0 + 256; omega⟩
    | ⟨1, _⟩ => exact ⟨h1, h2⟩
  by_cases h1 : j.val < 768
  · refine ⟨_, .tail _ (.tail _ (.tail _ (.head _))), ?_⟩
    exact (Rect.mem_set_unit (inb := inb_S256x2816_S256x768_0_0)).mpr (key 0 768 (Nat.zero_le _) (by omega))
  by_cases h2 : j.val < 1536
  · refine ⟨_, .tail _ (.tail _ (.head _)), ?_⟩
    exact (Rect.mem_set_unit (inb := inb_S256x2816_S256x768_0_768)).mpr (key 768 768 (by omega) (by omega))
  by_cases h3 : j.val < 2304
  · refine ⟨_, .tail _ (.head _), ?_⟩
    exact (Rect.mem_set_unit (inb := inb_S256x2816_S256x768_0_1536)).mpr (key 1536 768 (by omega) (by omega))
  · refine ⟨_, .head _, ?_⟩
    exact (Rect.mem_set_unit (inb := inb_S256x2816_S256x512_0_2304)).mpr (key 2304 512 (by omega) (by omega))

/-- A load of the first two axes whole and of the last from `o` on. -/
theorem ld_cols {n : ℕ} (w : Vec Ideal S1x1024x5632 .bf16) (o : ℕ) (inb) (x : Fin 1024) (d : Fin n) (i : Fin 5632)
    (hi : i.val = o + d.val) : View.ld w (Rect.unit ![0, 0, o] ![1, 1024, n] inb) (ix3 0 x d) = w (ix3 0 x i) :=
  View.ld_unit_apply_of _ _ _ _ _ (ix3 0 x i) fun a => match a with
    | ⟨0, _⟩ => rfl
    | ⟨1, _⟩ => (Nat.zero_add _).symm
    | ⟨2, _⟩ => hi

theorem act_block {n : ℕ} (y : Vec Ideal S256x1024 .f32) (x10 : Vec Ideal S1x1024 .f32) (x11 : Vec Ideal S1x1024x5632 .bf16) (o o' : ℕ)
    (inb inb') (r : Fin 256) (d : Fin n) (j : Fin 2816) (hj : j.val = o + d.val) (ho : o' = 2816 + o) :
    gated (∑ x, (k0_pay64 y x10 (ix2 r x) : EReal) * (View.ld x11 (Rect.unit ![0, 0, o] ![1, 1024, n] inb) (ix3 0 x d) : EReal))
        (∑ x, (k0_pay64 y x10 (ix2 r x) : EReal) * (View.ld x11 (Rect.unit ![0, 0, o'] ![1, 1024, n] inb') (ix3 0 x d) : EReal))
      = act (fun d => y (ix2 r d)) (fun d => x10 (ix2 0 d)) (fun d j => x11 (ix3 0 d j)) j := by
  unfold act
  refine congrArg₂ gated (Finset.sum_congr rfl fun x _ => ?_) (Finset.sum_congr rfl fun x _ => ?_)
  · rw [norm_at, ld_cols x11 o inb x d ⟨j.val, by omega⟩ hj]
  · rw [norm_at, ld_cols x11 o' inb' x d ⟨2816 + j.val, by omega⟩ (by show 2816 + j.val = _; omega)]

theorem act_at (y : Vec Ideal S256x1024 .f32) (x10 : Vec Ideal S1x1024 .f32) (x11 : Vec Ideal S1x1024x5632 .bf16) (r : Fin 256)
    (j : Fin 2816) :
    (View.canon (actPieces y x10 x11) (ix2 r j) : EReal)
      = act (fun d => y (ix2 r d)) (fun d => x10 (ix2 0 d)) (fun d j => x11 (ix3 0 d j)) j := by
  have hc := act_cover y x10 x11 r j
  unfold actPieces at hc ⊢
  canon_tiles x h using hc
  all_goals
    clear hc
    idx_vars x
    obtain rfl := Fin.ext h0
  · exact (act_tail _ _ _ _ _).trans (act_block y x10 x11 2304 5120 _ _ _ _ j h1 rfl)
  · exact (act_tile _ _ _ _ _).trans (act_block y x10 x11 1536 4352 _ _ _ _ j h1 rfl)
  · exact (act_tile _ _ _ _ _).trans (act_block y x10 x11 768 3584 _ _ _ _ j h1 rfl)
  · exact (act_tile _ _ _ _ _).trans (act_block y x10 x11 0 2816 _ _ _ _ j (by omega) rfl)

/-- A load of a block of two axes. -/
theorem ld_block {m n s t : ℕ} {e : EltTy} (w : Vec Ideal ⟨2, ![m, n]⟩ e) (r c : ℕ) (inb) (p : Fin s) (q : Fin t) (i : Fin m) (j : Fin n)
    (hi : i.val = r + p.val) (hj : j.val = c + q.val) :
    View.ld w (Rect.unit ![r, c] ![s, t] inb) (ix2 p q) = w (ix2 i j) :=
  View.ld_unit_apply_of _ _ _ _ _ (ix2 i j) fun a => match a with
    | ⟨0, _⟩ => hi
    | ⟨1, _⟩ => hj

theorem mix_tile (x2 : Vec Ideal S256x512 .f32) (x3 : Vec Ideal S256x512 .bf16) (x5 : Vec Ideal S4x128x256 .bf16)
    (x6 : Vec Ideal S128x512 .f32) (r c j : ℕ) (hi : ∀ a, ![r, c] a + S128x128.size a ≤ S256x512.size a)
    (hw : ∀ a, ![j, 0, 0] a + S1x128x256.size a ≤ S4x128x256.size a)
    (hb : ∀ a, ![0, c] a + S128x128.size a ≤ S128x512.size a) (hr : r % 128 = 0) (hj : c = 128 * j) (q l : Fin 128)
    (p : Fin 256) (e : Fin 512) (hp : p.val = r + q.val) (he : e.val = c + l.val) :
    (k0_pay4 (View.ld x3 (Rect.unit ![r, c] S128x128.size hi)) (View.ld x5 (Rect.unit ![j, 0, 0] S1x128x256.size hw))
      (View.ld x2 (Rect.unit ![r, c] S128x128.size hi)) (View.ld x6 (Rect.unit ![0, c] S128x128.size hb)) (ix2 q l) : EReal)
      = mixed (x2 (ix2 p e)) (fun k => x5 (ix3 ⟨e.val / 128, by omega⟩ ⟨p.val % 128, by omega⟩ ⟨128 * (e.val / 64 % 2) + k.val, by omega⟩))
          (fun k => x3 (ix2 ⟨128 * (p.val / 128) + k.val, by omega⟩ e)) (x6 (ix2 ⟨p.val % 128, by omega⟩ e)) := by
  rw [pay4_at]
  have h1 := ld_block x2 r c hi q l p e hp he
  have h2 := fun k : Fin 128 => ld_block x3 r c hi k l ⟨128 * (p.val / 128) + k.val, by omega⟩ e (by show 128 * (p.val / 128) + k.val = _; omega) he
  have h3 := ld_block x6 0 c hb q l ⟨p.val % 128, by omega⟩ e (by show p.val % 128 = _; omega) he
  have h4 : ∀ k : Fin 128, View.ld x5 (Rect.unit ![j, 0, 0] S1x128x256.size hw) (ix3 0 q ⟨128 * (l.val / 64) + k.val, by omega⟩)
      = x5 (ix3 ⟨e.val / 128, by omega⟩ ⟨p.val % 128, by omega⟩ ⟨128 * (e.val / 64 % 2) + k.val, by omega⟩) := fun k =>
    View.ld_unit_apply_of _ _ _ _ _ (ix3 ⟨e.val / 128, by omega⟩ ⟨p.val % 128, by omega⟩ ⟨128 * (e.val / 64 % 2) + k.val, by omega⟩)
      fun a => match a with
      | ⟨0, _⟩ => by show e.val / 128 = j + 0; omega
      | ⟨1, _⟩ => by show p.val % 128 = 0 + q.val; omega
      | ⟨2, _⟩ => by show 128 * (e.val / 64 % 2) + k.val = 0 + (128 * (l.val / 64) + k.val); omega
  rw [mixed, mixed]
  exact congrArg₂ (· * ·) h1 (congrArg₂ (· + ·) (Finset.sum_congr rfl fun k _ => congrArg₂ (· * ·) (h4 k) (h2 k)) h3)

theorem mix_at (x2 : Vec Ideal S256x512 .f32) (x3 : Vec Ideal S256x512 .bf16) (x5 : Vec Ideal S4x128x256 .bf16)
    (x6 : Vec Ideal S128x512 .f32) (p : Fin 256) (e : Fin 512) :
    (View.canon (mixPieces x2 x3 x5 x6) (ix2 p e) : EReal)
      = mixed (x2 (ix2 p e)) (fun k => x5 (ix3 ⟨e.val / 128, by omega⟩ ⟨p.val % 128, by omega⟩ ⟨128 * (e.val / 64 % 2) + k.val, by omega⟩))
          (fun k => x3 (ix2 ⟨128 * (p.val / 128) + k.val, by omega⟩ e)) (x6 (ix2 ⟨p.val % 128, by omega⟩ e)) := by
  unfold mixPieces mixPiece
  canon_tiles x h
  all_goals
    idx_vars x
    refine mix_tile x2 x3 x5 x6 _ _ _ _ _ _ ?_ ?_ _ _ p e ?_ ?_ <;> omega

theorem rowVal_at (x0 : Vec Ideal S256x1024 .f32) (x1 : Vec Ideal S1x512x256 .bf16) (x2 : Vec Ideal S256x512 .f32)
    (x3 : Vec Ideal S256x512 .bf16) (x4 : Vec Ideal S256x2048 .f32) (x5 : Vec Ideal S4x128x256 .bf16) (x6 : Vec Ideal S128x512 .f32)
    (x7 x8 : Vec Ideal S1x512x1024 .bf16) (x9 : Vec Ideal S1x1024x1024 .bf16) (p : Fin 256) (d : Fin 1024) :
    (rowVal x0 x1 x2 x3 x4 x5 x6 x7 x8 x9 (ix2 p d) : EReal)
      = merged (fun d => x0 (ix2 p d)) (fun j => x1 (ix3 0 j p))
          (fun e => mixed (x2 (ix2 p e))
            (fun k => x5 (ix3 ⟨e.val / 128, by omega⟩ ⟨p.val % 128, by omega⟩ ⟨128 * (e.val / 64 % 2) + k.val, by omega⟩))
            (fun k => x3 (ix2 ⟨128 * (p.val / 128) + k.val, by omega⟩ e)) (x6 (ix2 ⟨p.val % 128, by omega⟩ e)))
          (fun e => x4 (ix2 p ⟨e.val, by omega⟩)) (fun e => x4 (ix2 p ⟨1024 + e.val, by omega⟩))
          (fun j e => x7 (ix3 0 j e)) (fun j e => x8 (ix3 0 j e)) (fun e d => x9 (ix3 0 e d)) d := by
  simp only [← mix_at]
  unfold rowVal
  rw [View.readCov_eq_canon']
  pointwise [merged, k0_pay73, k0_pay34, k0_pay32, k0_pay33]

theorem ffnVal_at (y : Vec Ideal S256x1024 .f32) (x10 : Vec Ideal S1x1024 .f32) (x11 : Vec Ideal S1x1024x5632 .bf16)
    (x12 : Vec Ideal S1x2816x1024 .bf16) (x13 : Vec Ideal S1x1024 .f32) (p : Fin 256) (d : Fin 1024) :
    (ffnVal y x10 x11 x12 x13 (ix2 p d) : EReal)
      = ffn (fun d => y (ix2 p d)) (fun d => x10 (ix2 0 d)) (fun d j => x11 (ix3 0 d j)) (fun j d => x12 (ix3 0 j d))
          (fun d => x13 (ix2 0 d)) d := by
  unfold ffn
  simp only [← act_at]
  unfold ffnVal
  rw [View.readCov_eq_canon']
  pointwise [norm, k0_pay1]

end Cert.Merge

end
-- ==== Proof.MergeVal.lean ====
/- The merge kernel's result is the reference's. -/
module

public import proofs.«01_k».proof.Proof.MergeHost
public import proofs.«01_k».proof.Proof.MergeAt

@[expose] public section

set_option maxRecDepth 16384

noncomputable section

namespace Cert.Merge

open Idealize.ShloMosaic Idealize.ShloMosaic.TcCoe Cert.Kernel2Ideal Cert.Kernel2Ideal.Gen

variable (m : (ℓ : Loc nD τ sig) → Buf (Elt Ideal) ℓ)

/-- The row `s` of batch entry `b` before the feed-forward layer, from the arguments. -/
def rowAt (c : Dev nD) (b : Fin 2) (s : Fin 8192) : Fin 1024 → EReal :=
  merged (fun d => m ((c : Thread nD τ).loc main_arg0) (ix3 b s d)) (fun j => m ((c : Thread nD τ).loc main_arg1) (ix3 b s j))
    (fun j => mixed (m ((c : Thread nD τ).loc main_arg2) (ix3 b s j))
      (fun k => m ((c : Thread nD τ).loc main_arg5) (ix4 0 ⟨j.val / 64, by omega⟩ ⟨s.val % 128, by omega⟩ k))
      (fun k => m ((c : Thread nD τ).loc main_arg3) (ix3 b ⟨128 * (s.val / 128) + k.val, by omega⟩ j))
      (m ((c : Thread nD τ).loc main_arg6) (ix3 0 ⟨j.val / 64, by omega⟩ ⟨s.val % 128, by omega⟩)))
    (fun d => m ((c : Thread nD τ).loc main_arg4) (ix3 b s ⟨d.val, by omega⟩))
    (fun d => m ((c : Thread nD τ).loc main_arg4) (ix3 b s ⟨1024 + d.val, by omega⟩))
    (fun j d => m ((c : Thread nD τ).loc main_arg7) (ix3 0 j d)) (fun j d => m ((c : Thread nD τ).loc main_arg8) (ix3 0 j d))
    (fun e d => m ((c : Thread nD τ).loc main_arg9) (ix3 0 e d))

/-- The result's row `s` of batch entry `b`, from the arguments. -/
def resAt (c : Dev nD) (b : Fin 2) (s : Fin 8192) : Fin 1024 → EReal :=
  ffn (rowAt m c b s) (fun d => m ((c : Thread nD τ).loc main_arg10) (ix2 0 d))
    (fun d j => m ((c : Thread nD τ).loc main_arg11) (ix3 0 d j)) (fun j d => m ((c : Thread nD τ).loc main_arg12) (ix3 0 j d))
    (fun d => m ((c : Thread nD τ).loc main_arg13) (ix1 d))

theorem rowOf_at (c : Dev nD) (t : Fin cfg0.N) (h : t.val < 64) (p : Fin 256) (d : Fin 1024) (b : Fin 2) (s : Fin 8192)
    (e : 256 * t.val + p.val = 8192 * b.val + s.val) : (rowOf m c t (ix2 p d) : EReal) = rowAt m c b s d := by
  unfold rowOf
  rw [rowVal_at]
  simp only [b0_at m c t h, b1_at m c t h, b2_at m c t h, b3_at m c t h, b4_at m c t h, b5_at, b6_at, b7_at, b8_at, b9_at]
  have hs := s.isLt
  have hp := p.isLt
  have i1 : ∀ hb, (⟨(256 * t.val + p.val) / 8192, hb⟩ : Fin 2) = b := fun _ => Fin.ext (by show (256 * t.val + p.val) / 8192 = b.val; omega)
  have i2 : ∀ hb, (⟨(256 * t.val + p.val) % 8192, hb⟩ : Fin 8192) = s := fun _ =>
    Fin.ext (by show (256 * t.val + p.val) % 8192 = s.val; omega)
  have i3 : ∀ hb, (⟨t.val / 32, hb⟩ : Fin 2) = b := fun _ => Fin.ext (by show t.val / 32 = b.val; omega)
  have i4 : ∀ hb, (⟨t.val % 32 * 256 + p.val, hb⟩ : Fin 8192) = s := fun _ =>
    Fin.ext (by show t.val % 32 * 256 + p.val = s.val; omega)
  have i5 : ∀ hb, (⟨p.val % 128, hb⟩ : Fin 128) = ⟨s.val % 128, Nat.mod_lt _ (by decide)⟩ := fun _ =>
    Fin.ext (by show p.val % 128 = s.val % 128; omega)
  have i6 : ∀ (k : Fin 128) hb, (⟨(256 * t.val + (128 * (p.val / 128) + k.val)) / 8192, hb⟩ : Fin 2) = b := fun k _ =>
    Fin.ext (by show (256 * t.val + (128 * (p.val / 128) + k.val)) / 8192 = b.val; omega)
  have i7 : ∀ (k : Fin 128) hb, (⟨(256 * t.val + (128 * (p.val / 128) + k.val)) % 8192, hb⟩ : Fin 8192)
      = ⟨128 * (s.val / 128) + k.val, by omega⟩ := fun k _ =>
    Fin.ext (by show (256 * t.val + (128 * (p.val / 128) + k.val)) % 8192 = 128 * (s.val / 128) + k.val; omega)
  have i8 : ∀ (j : Fin 512) (k : Fin 128) hb, (⟨j.val / 128 * 2 + (128 * (j.val / 64 % 2) + k.val) / 128, hb⟩ : Fin 8)
      = ⟨j.val / 64, by omega⟩ := fun j k _ =>
    Fin.ext (by show j.val / 128 * 2 + (128 * (j.val / 64 % 2) + k.val) / 128 = j.val / 64; omega)
  have i9 : ∀ (j : Fin 512) (k : Fin 128) hb, (⟨(128 * (j.val / 64 % 2) + k.val) % 128, hb⟩ : Fin 128) = k := fun j k _ =>
    Fin.ext (by show (128 * (j.val / 64 % 2) + k.val) % 128 = k.val; omega)
  simp only [i1, i2, i3, i4, i5, i6, i7, i8, i9]
  rfl

/-- The block stored at a point after the first is of the rows before it. -/
theorem outAt_at (c : Dev nD) (t : Fin cfg0.N) (h : t.val ≠ 0) (p : Fin 256) (d : Fin 1024) (b : Fin 2) (s : Fin 8192)
    (e : 256 * (t.val - 1) + p.val = 8192 * b.val + s.val) : (outAt m c t (ix2 p d) : EReal) = resAt m c b s d := by
  have ht : t.val < 65 := t.isLt
  have hl : t.val - 1 < 64 := by omega
  have hr : prevRow m c t = rowOf m c ⟨t.val - 1, Nat.lt_of_le_of_lt (Nat.sub_le _ _) t.isLt⟩ := rowBuf_eq m c ⟨t.val - 1, _⟩ hl
  rw [outAt_eq m c t h, hr]
  unfold ffnOf
  rw [ffnVal_at]
  simp only [rowOf_at m c ⟨t.val - 1, Nat.lt_of_le_of_lt (Nat.sub_le _ _) t.isLt⟩ hl p _ b s e, b10_at, b11_at, b12_at, b13_at]
  rfl

theorem flush_pos : ∀ t : Fin cfg0.N, (cfg0.win 14).flush t = true → t.val ≠ 0 := (by decide +kernel : ∀ t : Fin grid0.N, _)

/-- The kernel's result array, from the arguments. -/
theorem arr_eq (c : Dev nD) :
    (dats m 0 c).arrAt 14 cfg0.N = fun i : S16384x1024.Idx =>
      resAt m c ⟨(i 0).val / 8192, by have : (i 0).val < 16384 := (i 0).isLt; omega⟩ ⟨(i 0).val % 8192, Nat.mod_lt _ (by decide)⟩ (i 1) := by
  refine (dats m 0 c).arrAt_eq_of_covers 14 _ (by decide +kernel) fun t hf y => ?_
  have h := flush_pos t hf
  blk_simp [idxs t]
  rw [after_14]
  idx_vars y
  have ht : t.val < 65 := t.isLt
  have hd : (win0_14.blk t).view.emb (ix2 y0 y1) 1 = y1 := by
    apply Fin.ext
    blk_ext [idxs t]
  rw [hd]
  refine outAt_at m c t h y0 y1 _ _ ?_
  show 256 * (t.val - 1) + y0.val = 8192 * (((t.val - 1) * 256 + y0.val) / 8192) + ((t.val - 1) * 256 + y0.val) % 8192
  omega

/-- … is the reference's. -/
theorem result_eq (c : Dev nD) :
    Cert.Reference2Ideal.Read.val_main_v59 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10))
        (m ((c : Thread nD τ).loc main_arg11)) (m ((c : Thread nD τ).loc main_arg12)) (m ((c : Thread nD τ).loc main_arg13))
      = (dats m 0 c).arrAt 14 cfg0.N := by
  rw [arr_eq]
  refine funext fun i => ?_
  have hi : (i 0).val < 16384 := (i 0).isLt
  have e : i = ix2 ⟨8192 * ((i 0).val / 8192) + (i 0).val % 8192, by omega⟩ (i 1) := by
    refine (eq_ix2 (n0 := 16384) (n1 := 1024) i).trans (congrArg (fun x => ix2 x (i 1)) (Fin.ext ?_))
    show (i 0).val = 8192 * ((i 0).val / 8192) + (i 0).val % 8192
    omega
  refine (congrArg _ e).trans ?_
  exact ref_at _ _ _ _ _ _ _ _ _ _ _ _ _ _ ⟨(i 0).val / 8192, by omega⟩ ⟨(i 0).val % 8192, by omega⟩ (i 1)

end Cert.Merge

end
-- ==== Proof.MergeText.lean ====
/- The merge kernel and its idealization have one text, so the idealization's frame, proved at any interpretation of the
   floats, is the kernel's. -/
module

public import proofs.«01_k».proof.Defs
public import proofs.«01_k».proof.Proof.Gen.Kernel2
public import proofs.«01_k».proof.Proof.MergeFrame

@[expose] public section

set_option maxRecDepth 16384
set_option maxHeartbeats 4000000
set_option backward.isDefEq.respectTransparency.types false

noncomputable section

namespace Cert.Merge

open Idealize.ShloMosaic Idealize.SL.Sem

theorem bodies_eq : Cert.Kernel2.defs₀ (F := Bits) = Cert.Kernel2Ideal.defs₀ (F := Bits) := by
  refine congrArg Defs.onTc (funext fun b => ?_)
  match b with
  | 0 => rfl

theorem defs_eq : Cert.Kernel2.defs (F := Bits) = Cert.Kernel2Ideal.defs (F := Bits) :=
  congrArg (Pipeline.defs Cert.Kernel2.pcfgs) bodies_eq

theorem main_eq : Cert.Kernel2.main (F := Bits) = Cert.Kernel2Ideal.main (F := Bits) := rfl

theorem frame_bits : Cert.quiescent_Kernel2 := fun m g _ =>
  (congrFun (congrArg₂ (fun D p => (θ_run D (onTc p) ⟨m, fun _ => 0, g⟩).1) defs_eq main_eq) _).mpr (frame_any (F := Bits) m g)

end Cert.Merge

end
-- ==== Proof.InprojLit.lean ====
/- The projection kernel's constant array: one where a lane's group is the column's, twice over. -/
module

public import proofs.«01_k».proof.Kernel3Ideal
public import Mathlib.Tactic.IntervalCases
public import Mathlib.Tactic.SplitIfs

@[expose] public section

set_option maxRecDepth 16384

namespace Cert.Inproj

open Idealize.ShloMosaic Cert.Kernel3Ideal

/-- The rows of the first group. -/
theorem row_lo (i : ℕ) : lit0t0_0 i = if i % 128 < 64 then 0x3F80#16 else 0x0000#16 := by
  unfold lit0t0_0
  have h : i % 128 < 128 := Nat.mod_lt _ (by decide)
  generalize i % 128 = n at h ⊢
  interval_cases n <;> rfl

/-- The rows of the second. -/
theorem row_hi (i : ℕ) : lit0t0_64 i = if i % 128 < 64 then 0x0000#16 else 0x3F80#16 := by
  unfold lit0t0_64
  have h : i % 128 < 128 := Nat.mod_lt _ (by decide)
  generalize i % 128 = n at h ⊢
  interval_cases n <;> rfl

/-- A half's rows. -/
theorem half (i : ℕ) : lit0t1_0 i = if i / 128 % 128 < 64 then lit0t0_0 i else lit0t0_64 i := by
  unfold lit0t1_0
  have h : i / 128 % 128 < 128 := Nat.mod_lt _ (by decide)
  generalize i / 128 % 128 = n at h ⊢
  interval_cases n <;> rfl

/-- The halves are the same. -/
theorem halves : lit0t1_1 = lit0t1_0 := rfl

theorem lit_at (i : Fin 32768) : lit0 i = if i.val / 128 % 128 / 64 = i.val % 128 / 64 then 0x3F80#16 else 0x0000#16 := by
  have e : lit0 i = lit0t1_0 i.val := by
    show lit0t i.val = _
    unfold lit0t
    have h : i.val / 16384 < 2 := by omega
    generalize hn : i.val / 16384 = n at h ⊢
    interval_cases n
    · rfl
    · exact congrFun halves i.val
  rw [e, half, row_lo, row_hi]
  split_ifs <;> first | rfl | omega

end Cert.Inproj

end
-- ==== Proof.InprojHost.lean ====
/- The arrays the host prepares for the projection kernel and the kernel's input blocks, read at an index. -/
module

public import proofs.«01_k».proof.Proof.Gen.Kernel3Ideal.Frame

public import proofs.«01_k».proof.Proof.InprojLit
public import Idealize.ShloMosaic.Lib.Pipeline.ValueKit
public import Idealize.ShloMosaic.Lib.IdealHost

@[expose] public section

set_option maxRecDepth 16384

noncomputable section

namespace Cert.Inproj

open Idealize.ShloMosaic Idealize.ShloMosaic.TcCoe Cert.Kernel3Ideal Cert.Kernel3Ideal.Gen

variable (m : (ℓ : Loc nD τ sig) → Buf (Elt Ideal) ℓ)

/-! ## The host's arrays -/

theorem v30_at (c : Dev nD) (r : Fin 16384) (d : Fin 1024) :
    (V m c main_v30 (ix2 r d) : EReal)
      = m ((c : Thread nD τ).loc main_arg0) (ix3 ⟨r.val / 8192, by omega⟩ ⟨r.val % 8192, by omega⟩ d) := by
  entry_read
  pointwise

theorem v1_at (c : Dev nD) (d : Fin 1024) (j : Fin 3840) :
    (V m c main_v1 (ix2 d j) : EReal) = m ((c : Thread nD τ).loc main_arg2) (ix3 0 d j) := by
  entry_read
  pointwise

/-- The queries' columns, a head of the first half beside one of the second. -/
theorem v5_at (c : Dev nD) (d : Fin 1024) (j : Fin 512) :
    (V m c main_v5 (ix2 d j) : EReal)
      = m ((c : Thread nD τ).loc main_arg2) (ix3 0 d ⟨(j.val / 64 % 2 * 4 + j.val / 128) * 64 + j.val % 64, by omega⟩) := by
  entry_read
  pointwise
  exact congrArg (fun n => m ((c : Thread nD τ).loc main_arg2) (ix3 0 d n)) (Fin.ext (by
    show j.val / 64 % 2 * 256 + j.val / 128 * 64 + j.val % 64 = (j.val / 64 % 2 * 4 + j.val / 128) * 64 + j.val % 64; omega))

theorem cst_at (c : Dev nD) (k : Fin 256) (l : Fin 128) :
    (V m c main_cst (ix2 k l) : EReal) = if k.val % 128 / 64 = l.val / 64 then (1 : EReal) else 0 := by
  entry_read
  have e : (S256x128.rowMajor (ix2 k l)).val = k.val * 128 + l.val := Shape.rowMajor_val_two (d := ![256, 128]) (ix2 k l)
  refine (congrArg (Ideal.ofBits FTy.bf16) (lit_at (S256x128.rowMajor (ix2 k l)))).trans ?_
  have h1 : (S256x128.rowMajor (ix2 k l)).val / 128 % 128 / 64 = k.val % 128 / 64 := by rw [e]; omega
  have h2 : (S256x128.rowMajor (ix2 k l)).val % 128 / 64 = l.val / 64 := by rw [e]; omega
  by_cases h : k.val % 128 / 64 = l.val / 64
  · rw [if_pos h, if_pos (by rw [h1, h2]; exact h)]
    exact Ideal.ofBits_one_bf16
  · rw [if_neg h, if_neg (by rw [h1, h2]; exact h)]
    exact Ideal.ofBits_zero_bf16

/-- The cosines' lanes. -/
theorem v9_at (c : Dev nD) (s : Fin 8192) (l : Fin 128) :
    (V m c main_v9 (ix2 s l) : EReal)
      = if h : l.val % 64 < 16 then m ((c : Thread nD τ).loc main_arg7) (ix2 s ⟨l.val % 64, h⟩)
        else if h : l.val % 64 - 16 < 16 then m ((c : Thread nD τ).loc main_arg7) (ix2 s ⟨l.val % 64 - 16, h⟩)
        else if h : l.val % 64 - 16 - 16 < 16 then m ((c : Thread nD τ).loc main_arg9) (ix2 s ⟨l.val % 64 - 16 - 16, h⟩)
        else m ((c : Thread nD τ).loc main_arg9) (ix2 s ⟨l.val % 64 - 16 - 16 - 16, by omega⟩) := by
  entry_read
  pointwise

/-- The sines' table, from the contents before it is laid out. -/
theorem sin_lay (W : Valuation τ sig (Elt Ideal)) (s : Fin 8192) (l : Fin 128) :
    (StableHlo.after ((hostOps0 (F := Ideal)).drop 13) W (Proc.devRef .tc main_v15) (ix2 s l) : EReal)
      = if h : l.val % 64 < 16 then W (Proc.devRef .tc main_v10) (ix2 s ⟨l.val % 64, h⟩)
        else if h : l.val % 64 - 16 < 16 then W (Proc.devRef .tc main_arg8) (ix2 s ⟨l.val % 64 - 16, h⟩)
        else if h : l.val % 64 - 16 - 16 < 16 then W (Proc.devRef .tc main_v11) (ix2 s ⟨l.val % 64 - 16 - 16, h⟩)
        else W (Proc.devRef .tc main_arg10) (ix2 s ⟨l.val % 64 - 16 - 16 - 16, by omega⟩) := by
  simp only [hostOps0, List.drop_succ_cons, List.drop_zero]
  entry_read
  pointwise

theorem neg_r (W : Valuation τ sig (Elt Ideal)) (s : Fin 8192) (d : Fin 16) :
    (StableHlo.after ((hostOps0 (F := Ideal)).take 13) W (Proc.devRef .tc main_v10) (ix2 s d) : EReal)
      = Neg.neg (α := EReal) (W (Proc.devRef .tc main_arg8) (ix2 s d)) := by
  simp only [hostOps0, List.take_succ_cons, List.take_zero]
  entry_read
  pointwise

theorem neg_c (W : Valuation τ sig (Elt Ideal)) (s : Fin 8192) (d : Fin 16) :
    (StableHlo.after ((hostOps0 (F := Ideal)).take 13) W (Proc.devRef .tc main_v11) (ix2 s d) : EReal)
      = Neg.neg (α := EReal) (W (Proc.devRef .tc main_arg10) (ix2 s d)) := by
  simp only [hostOps0, List.take_succ_cons, List.take_zero]
  entry_read
  pointwise

theorem kept_r (W : Valuation τ sig (Elt Ideal)) :
    StableHlo.after ((hostOps0 (F := Ideal)).take 13) W (Proc.devRef .tc main_arg8) = W (Proc.devRef .tc main_arg8) := by
  simp only [hostOps0, List.take_succ_cons, List.take_zero]
  entry_read
  rfl

theorem kept_c (W : Valuation τ sig (Elt Ideal)) :
    StableHlo.after ((hostOps0 (F := Ideal)).take 13) W (Proc.devRef .tc main_arg10) = W (Proc.devRef .tc main_arg10) := by
  simp only [hostOps0, List.take_succ_cons, List.take_zero]
  entry_read
  rfl

/-- The sines' lanes, the first of each half negated. -/
theorem v15_at (c : Dev nD) (s : Fin 8192) (l : Fin 128) :
    (V m c main_v15 (ix2 s l) : EReal)
      = if h : l.val % 64 < 16 then Neg.neg (α := EReal) (m ((c : Thread nD τ).loc main_arg8) (ix2 s ⟨l.val % 64, h⟩))
        else if h : l.val % 64 - 16 < 16 then m ((c : Thread nD τ).loc main_arg8) (ix2 s ⟨l.val % 64 - 16, h⟩)
        else if h : l.val % 64 - 16 - 16 < 16 then
          Neg.neg (α := EReal) (m ((c : Thread nD τ).loc main_arg10) (ix2 s ⟨l.val % 64 - 16 - 16, h⟩))
        else m ((c : Thread nD τ).loc main_arg10) (ix2 s ⟨l.val % 64 - 16 - 16 - 16, by omega⟩) := by
  refine Eq.trans (b := (StableHlo.after ((hostOps0 (F := Ideal)).drop 13)
    (StableHlo.after ((hostOps0 (F := Ideal)).take 13) (fun b => m (c, b))) (Proc.devRef .tc main_v15) (ix2 s l) : EReal)) rfl ?_
  rw [sin_lay]
  split_ifs
  · exact neg_r _ s _
  · exact congrFun (kept_r _) _
  · exact neg_c _ s _
  · exact congrFun (kept_c _) _

theorem v20_at (c : Dev nD) (l : Fin 128) :
    (V m c main_v20 (ix2 0 l) : EReal) = m ((c : Thread nD τ).loc main_arg3) (ix2 0 ⟨l.val % 64, by omega⟩) := by
  entry_read
  pointwise

theorem v25_at (c : Dev nD) (l : Fin 128) :
    (V m c main_v25 (ix2 0 l) : EReal) = m ((c : Thread nD τ).loc main_arg4) (ix2 0 ⟨l.val % 64, by omega⟩) := by
  entry_read
  pointwise

theorem v27_at (c : Dev nD) (j : Fin 512) :
    (V m c main_v27 (ix2 0 j) : EReal) = m ((c : Thread nD τ).loc main_arg5) (ix3 0 ⟨j.val / 64, by omega⟩ ⟨j.val % 64, by omega⟩) := by
  entry_read
  pointwise

theorem v29_at (c : Dev nD) (j : Fin 512) :
    (V m c main_v29 (ix2 0 j) : EReal) = m ((c : Thread nD τ).loc main_arg6) (ix3 0 ⟨j.val / 64, by omega⟩ ⟨j.val % 64, by omega⟩) := by
  entry_read
  pointwise

/-! ## The blocks -/

theorem idxs_rows : ∀ t : Fin cfg0.N, t.val < 64 → win0_0.index t = ![t.val, 0] :=
  (by decide +kernel : ∀ t : Fin grid0.N, _)

theorem idxs : ∀ t : Fin cfg0.N, win0_1.index t = ![0, 0] ∧ win0_2.index t = ![0, 0] ∧ win0_3.index t = ![0, 0]
    ∧ win0_4.index t = ![0, 0] ∧ win0_5.index t = ![(t.val - 1) % 32, 0] ∧ win0_6.index t = ![(t.val - 1) % 32, 0] ∧ win0_7.index t = ![0, 0]
    ∧ win0_8.index t = ![0, 0] ∧ win0_9.index t = ![0, 0] ∧ win0_10.index t = ![0, 0] ∧ win0_11.index t = ![t.val - 1, 0, 0, 0]
    ∧ win0_12.index t = ![t.val - 1, 0] ∧ win0_13.index t = ![t.val - 1, 0, 0] ∧ win0_14.index t = ![t.val - 1, 0]
    ∧ win0_15.index t = ![t.val - 1, 0] ∧ win0_16.index t = ![t.val - 1, 0] :=
  (by decide +kernel : ∀ t : Fin grid0.N, _)

theorem b0_at (c : Dev nD) (t : Fin cfg0.N) (h : t.val < 64) (p : Fin 256) (d : Fin 1024) :
    (iblk m c 0 t (ix2 p d) : EReal) = m ((c : Thread nD τ).loc main_arg0) (ix3 ⟨(256 * t.val + p.val) / 8192, by omega⟩ ⟨(256 * t.val + p.val) % 8192, by omega⟩ d) := by
  refine Eq.trans (b := V m c main_v30 (ix2 ⟨256 * t.val + p.val, by omega⟩ d)) ?_ (v30_at m c ⟨256 * t.val + p.val, by omega⟩ d)
  blk_ext [iblk, idxs_rows t h]

theorem b1_at (c : Dev nD) (t : Fin cfg0.N) (d : Fin 1024) :
    (iblk m c 1 t (ix2 0 d) : EReal) = m ((c : Thread nD τ).loc main_arg1) (ix2 0 d) := by
  refine Eq.trans (b := V m c main_arg1 (ix2 0 d)) ?_ ?_
  · blk_ext [iblk, idxs t]
  · entry_read
    rfl

theorem b2_at (c : Dev nD) (t : Fin cfg0.N) (d : Fin 1024) (j : Fin 512) :
    (iblk m c 2 t (ix2 d j) : EReal)
      = m ((c : Thread nD τ).loc main_arg2) (ix3 0 d ⟨(j.val / 64 % 2 * 4 + j.val / 128) * 64 + j.val % 64, by omega⟩) := by
  refine Eq.trans (b := V m c main_v5 (ix2 d j)) ?_ (v5_at m c d j)
  blk_ext [iblk, idxs t]

theorem b3_at (c : Dev nD) (t : Fin cfg0.N) (d : Fin 1024) (j : Fin 3840) :
    (iblk m c 3 t (ix2 d j) : EReal) = m ((c : Thread nD τ).loc main_arg2) (ix3 0 d j) := by
  refine Eq.trans (b := V m c main_v1 (ix2 d j)) ?_ (v1_at m c d j)
  blk_ext [iblk, idxs t]

theorem b4_at (c : Dev nD) (t : Fin cfg0.N) (k : Fin 256) (l : Fin 128) :
    (iblk m c 4 t (ix2 k l) : EReal) = if k.val % 128 / 64 = l.val / 64 then (1 : EReal) else 0 := by
  refine Eq.trans (b := V m c main_cst (ix2 k l)) ?_ (cst_at m c k l)
  blk_ext [iblk, idxs t]

theorem b5_at (c : Dev nD) (t : Fin cfg0.N) (p : Fin 256) (l : Fin 128) :
    (iblk m c 5 t (ix2 p l) : EReal) = V m c main_v9 (ix2 ⟨(t.val - 1) % 32 * 256 + p.val, by omega⟩ l) := by
  blk_ext [iblk, idxs t]

theorem b6_at (c : Dev nD) (t : Fin cfg0.N) (p : Fin 256) (l : Fin 128) :
    (iblk m c 6 t (ix2 p l) : EReal) = V m c main_v15 (ix2 ⟨(t.val - 1) % 32 * 256 + p.val, by omega⟩ l) := by
  blk_ext [iblk, idxs t]

theorem b7_at (c : Dev nD) (t : Fin cfg0.N) (l : Fin 128) :
    (iblk m c 7 t (ix2 0 l) : EReal) = m ((c : Thread nD τ).loc main_arg3) (ix2 0 ⟨l.val % 64, by omega⟩) := by
  refine Eq.trans (b := V m c main_v20 (ix2 0 l)) ?_ (v20_at m c l)
  blk_ext [iblk, idxs t]

theorem b8_at (c : Dev nD) (t : Fin cfg0.N) (l : Fin 128) :
    (iblk m c 8 t (ix2 0 l) : EReal) = m ((c : Thread nD τ).loc main_arg4) (ix2 0 ⟨l.val % 64, by omega⟩) := by
  refine Eq.trans (b := V m c main_v25 (ix2 0 l)) ?_ (v25_at m c l)
  blk_ext [iblk, idxs t]

theorem b9_at (c : Dev nD) (t : Fin cfg0.N) (j : Fin 512) :
    (iblk m c 9 t (ix2 0 j) : EReal) = m ((c : Thread nD τ).loc main_arg5) (ix3 0 ⟨j.val / 64, by omega⟩ ⟨j.val % 64, by omega⟩) := by
  refine Eq.trans (b := V m c main_v27 (ix2 0 j)) ?_ (v27_at m c j)
  blk_ext [iblk, idxs t]

theorem b10_at (c : Dev nD) (t : Fin cfg0.N) (j : Fin 512) :
    (iblk m c 10 t (ix2 0 j) : EReal) = m ((c : Thread nD τ).loc main_arg6) (ix3 0 ⟨j.val / 64, by omega⟩ ⟨j.val % 64, by omega⟩) := by
  refine Eq.trans (b := V m c main_v29 (ix2 0 j)) ?_ (v29_at m c j)
  blk_ext [iblk, idxs t]

end Cert.Inproj

end
-- ==== Proof.InprojBlocks.lean ====
/- The contents that the projection kernel's points leave, as functions of their input blocks and of the rows projected at the point
   before, the same at even and odd points. -/
module

public import proofs.«01_k».proof.Proof.Gen.Kernel3Ideal.Frame
public import Idealize.ShloMosaic.Lib.Pipeline.ReadBack
public import Idealize.ShloMosaic.Lib.Pipeline.ValueKit

@[expose] public section

set_option maxRecDepth 16384

noncomputable section

namespace Cert.Inproj

open Idealize.ShloMosaic Idealize.ShloMosaic.TcCoe Cert.Kernel3Ideal Cert.Kernel3Ideal.Gen

section Blocks

variable {F : FTy → Type} [FloatOps F]

/-- A lane's number. -/
abbrev lane : IVec S256x128 32 := iota .tc S256x128 32 [1] iota_S256x128_d1_w32

/-- The columns from `c` of the projected rows. -/
abbrev cols (y : Vec F S256x3840 .f32) (c : ℕ) (h : ∀ a, ![0, c] a + S256x128.size a ≤ S256x3840.size a) : Vec F S256x128 .f32 :=
  View.ld y (Rect.unit ![0, c] S256x128.size h)

/-- The projected rows' columns, the last stored first. -/
def projPieces (x0 : Vec F S256x1024 .f32) (x1 : Vec F S1x1024 .f32) (x2 : Vec F S1024x512 .bf16) (x3 : Vec F S1024x3840 .bf16) :
    List (View.Piece (Elt F) S256x3840 .f32) :=
  [⟨Rect.unit ![0, 3328] S256x512.size inb_S256x3840_S256x512_0_3328, k0_pay112 (k0_pay61 x0 x1)
      (View.ld x3 (Rect.unit ![0, 3328] S1024x512.size inb_S1024x3840_S1024x512_0_3328))⟩,
   ⟨Rect.unit ![0, 2816] S256x512.size inb_S256x3840_S256x512_0_2816, k0_pay112 (k0_pay61 x0 x1)
      (View.ld x3 (Rect.unit ![0, 2816] S1024x512.size inb_S1024x3840_S1024x512_0_2816))⟩,
   ⟨Rect.unit ![0, 1792] S256x1024.size inb_S256x3840_S256x1024_0_1792, k0_pay101 (k0_pay61 x0 x1)
      (View.ld x3 (Rect.unit ![0, 1792] S1024x1024.size inb_S1024x3840_S1024x1024_0_1792))⟩,
   ⟨Rect.unit ![0, 768] S256x1024.size inb_S256x3840_S256x1024_0_768, k0_pay101 (k0_pay61 x0 x1)
      (View.ld x3 (Rect.unit ![0, 768] S1024x1024.size inb_S1024x3840_S1024x1024_0_768))⟩,
   ⟨Rect.unit ![0, 512] S256x256.size inb_S256x3840_S256x256_0_512, k0_pay64 (k0_pay63 x0 x1
      (View.ld x3 (Rect.unit ![0, 512] S1024x256.size inb_S1024x3840_S1024x256_0_512)))⟩,
   ⟨Rect.unit ![0, 0] S256x512.size inb_S256x3840_S256x512_0_0, k0_pay62 x0 x1 x2⟩]

/-- The tile of a head in the first lanes. -/
def tileLo (x4 : Vec F S256x128 .bf16) (x5 x6 : Vec F S256x128 .f32) (x7 : Vec F S1x128 .f32) (v : Vec F S256x128 .f32) :
    FVec F S1x1x128x256 .f32 :=
  k0_pay76 lane v (k0_pay66 x4 v) x7 x5 x6

/-- The tile of a head in the last lanes. -/
def tileHi (x4 : Vec F S256x128 .bf16) (x5 x6 : Vec F S256x128 .f32) (x7 : Vec F S1x128 .f32) (v : Vec F S256x128 .f32) :
    FVec F S1x1x128x256 .f32 :=
  k0_pay78 (k0_pay77 lane v (k0_pay66 x4 v) x7 x5 x6)

/-- The queries' tiles, the last stored first. -/
def qPieces (x4 : Vec F S256x128 .bf16) (x5 x6 : Vec F S256x128 .f32) (x7 : Vec F S1x128 .f32) (y : Vec F S256x3840 .f32) :
    List (View.Piece (Elt F) S1x8x128x256 .f32) :=
  [⟨Rect.unit ![0, 7, 0, 0] S1x1x128x256.size inb_S1x8x128x256_S1x1x128x256_0_7_0_0,
      tileHi x4 x5 x6 x7 (cols y 384 inb_S256x3840_S256x128_0_384)⟩,
   ⟨Rect.unit ![0, 3, 0, 0] S1x1x128x256.size inb_S1x8x128x256_S1x1x128x256_0_3_0_0,
      tileLo x4 x5 x6 x7 (cols y 384 inb_S256x3840_S256x128_0_384)⟩,
   ⟨Rect.unit ![0, 6, 0, 0] S1x1x128x256.size inb_S1x8x128x256_S1x1x128x256_0_6_0_0,
      tileHi x4 x5 x6 x7 (cols y 256 inb_S256x3840_S256x128_0_256)⟩,
   ⟨Rect.unit ![0, 2, 0, 0] S1x1x128x256.size inb_S1x8x128x256_S1x1x128x256_0_2_0_0,
      tileLo x4 x5 x6 x7 (cols y 256 inb_S256x3840_S256x128_0_256)⟩,
   ⟨Rect.unit ![0, 5, 0, 0] S1x1x128x256.size inb_S1x8x128x256_S1x1x128x256_0_5_0_0,
      tileHi x4 x5 x6 x7 (cols y 128 inb_S256x3840_S256x128_0_128)⟩,
   ⟨Rect.unit ![0, 1, 0, 0] S1x1x128x256.size inb_S1x8x128x256_S1x1x128x256_0_1_0_0,
      tileLo x4 x5 x6 x7 (cols y 128 inb_S256x3840_S256x128_0_128)⟩,
   ⟨Rect.unit ![0, 4, 0, 0] S1x1x128x256.size inb_S1x8x128x256_S1x1x128x256_0_4_0_0,
      tileHi x4 x5 x6 x7 (cols y 0 inb_S256x3840_S256x128_0_0)⟩,
   ⟨Rect.unit ![0, 0, 0, 0] S1x1x128x256.size inb_S1x8x128x256_S1x1x128x256_0_0_0_0,
      tileLo x4 x5 x6 x7 (cols y 0 inb_S256x3840_S256x128_0_0)⟩]

/-- The keys' block. -/
def kVal (x4 : Vec F S256x128 .bf16) (x5 x6 : Vec F S256x128 .f32) (x8 : Vec F S1x128 .f32) (y : Vec F S256x3840 .f32) :
    FVec F S256x128 .bf16 :=
  k0_pay92 lane (cols y 512 inb_S256x3840_S256x128_0_512) (k0_pay66 x4 (cols y 512 inb_S256x3840_S256x128_0_512)) x8 x5 x6

/-- The values' block. -/
def vVal (y : Vec F S256x3840 .f32) : FVec F S1x128x256 .bf16 := k0_pay93 (cols y 640 inb_S256x3840_S256x128_0_640)

/-- The first branch's block. -/
def uVal (y : Vec F S256x3840 .f32) : FVec F S256x512 .f32 :=
  k0_pay95 (View.ld y (Rect.unit ![0, 768] S256x512.size inb_S256x3840_S256x512_0_768))

/-- Two groups less their means. -/
def dev (x4 : Vec F S256x128 .bf16) (v : Vec F S256x128 .f32) : FVec F S256x128 .f32 := k0_pay105 x4 (k0_pay96 v)

/-- Two normed groups of the second branch. -/
def vnTile (x4 : Vec F S256x128 .bf16) (g b : Vec F S1x128 .f32) (v : Vec F S256x128 .f32) : FVec F S256x128 .bf16 :=
  k0_pay115 (dev x4 v) (k0_pay109 x4 (dev x4 v)) g b

/-- The second branch's groups, the last stored first. -/
def vnPieces (x4 : Vec F S256x128 .bf16) (x9 x10 : Vec F S1x512 .f32) (y : Vec F S256x3840 .f32) :
    List (View.Piece (Elt F) S256x512 .bf16) :=
  [⟨Rect.unit ![0, 384] S256x128.size inb_S256x512_S256x128_0_384,
      vnTile x4 (View.ld x9 (Rect.unit ![0, 384] S1x128.size inb_S1x512_S1x128_0_384))
        (View.ld x10 (Rect.unit ![0, 384] S1x128.size inb_S1x512_S1x128_0_384)) (cols y 1664 inb_S256x3840_S256x128_0_1664)⟩,
   ⟨Rect.unit ![0, 256] S256x128.size inb_S256x512_S256x128_0_256,
      vnTile x4 (View.ld x9 (Rect.unit ![0, 256] S1x128.size inb_S1x512_S1x128_0_256))
        (View.ld x10 (Rect.unit ![0, 256] S1x128.size inb_S1x512_S1x128_0_256)) (cols y 1536 inb_S256x3840_S256x128_0_1536)⟩,
   ⟨Rect.unit ![0, 128] S256x128.size inb_S256x512_S256x128_0_128,
      vnTile x4 (View.ld x9 (Rect.unit ![0, 128] S1x128.size inb_S1x512_S1x128_0_128))
        (View.ld x10 (Rect.unit ![0, 128] S1x128.size inb_S1x512_S1x128_0_128)) (cols y 1408 inb_S256x3840_S256x128_0_1408)⟩,
   ⟨Rect.unit ![0, 0] S256x128.size inb_S256x512_S256x128_0_0,
      vnTile x4 (View.ld x9 (Rect.unit ![0, 0] S1x128.size inb_S1x512_S1x128_0_0))
        (View.ld x10 (Rect.unit ![0, 0] S1x128.size inb_S1x512_S1x128_0_0)) (cols y 1280 inb_S256x3840_S256x128_0_1280)⟩]

/-- The gates' halves, the last stored first. -/
def gatePieces (y : Vec F S256x3840 .f32) : List (View.Piece (Elt F) S256x2048 .f32) :=
  [⟨Rect.unit ![0, 1024] S256x1024.size inb_S256x2048_S256x1024_0_1024,
      k0_pay65 (View.ld y (Rect.unit ![0, 2816] S256x1024.size inb_S256x3840_S256x1024_0_2816))⟩,
   ⟨Rect.unit ![0, 0] S256x1024.size inb_S256x2048_S256x1024_0_0,
      k0_pay65 (View.ld y (Rect.unit ![0, 1792] S256x1024.size inb_S256x3840_S256x1024_0_1792))⟩]

end Blocks

variable (m : (ℓ : Loc nD τ sig) → Buf (Elt Ideal) ℓ)

/-- The rows projected at a point. -/
abbrev projOf (c : Dev nD) (t : Fin cfg0.N) : Vec Ideal S256x3840 .f32 :=
  View.canon (projPieces (iblk m c 0 t) (iblk m c 1 t) (iblk m c 2 t) (iblk m c 3 t))

/-- The point before. -/
abbrev before (t : Fin cfg0.N) : Fin cfg0.N := ⟨t.val - 1, Nat.lt_of_le_of_lt (Nat.sub_le _ _) t.isLt⟩

/-! ## The rows kept from a point to the next -/

theorem buf_even (c : Dev nD) (t : Fin cfg0.N) (h : t.val % 2 = 0) : (outsAt0 m c t.val t.isLt).2.2.2.2.2.2.1 = projOf m c t := by
  by_cases h0 : t.val % 65 = 0
  · rw [outsAt0_A m c t h0 h (by omega)]
    frame_out
    rfl
  · rw [outsAt0_C m c t h0 h (by omega)]
    frame_out
    rfl

theorem buf_odd (c : Dev nD) (t : Fin cfg0.N) (h : t.val % 2 = 1) : (outsAt0 m c t.val t.isLt).2.2.2.2.2.2.2 = projOf m c t := by
  rw [outsAt0_B m c t (by have : t.val < 65 := t.isLt; omega) (by omega) h]
  frame_out
  rfl

/-- What a point leaves in the outputs' blocks, when the rows kept from the point before are `y`. -/
abbrev outsOf (c : Dev nD) (t : Fin cfg0.N) (y : Vec Ideal S256x3840 .f32) : Prop :=
  (outsAt0 m c t.val t.isLt).1 = View.canon (qPieces (iblk m c 4 t) (iblk m c 5 t) (iblk m c 6 t) (iblk m c 7 t) y)
  ∧ (outsAt0 m c t.val t.isLt).2.1 = kVal (iblk m c 4 t) (iblk m c 5 t) (iblk m c 6 t) (iblk m c 8 t) y
  ∧ (outsAt0 m c t.val t.isLt).2.2.1 = vVal y
  ∧ (outsAt0 m c t.val t.isLt).2.2.2.1 = uVal y
  ∧ (outsAt0 m c t.val t.isLt).2.2.2.2.1 = View.canon (vnPieces (iblk m c 4 t) (iblk m c 9 t) (iblk m c 10 t) y)
  ∧ (outsAt0 m c t.val t.isLt).2.2.2.2.2.1 = View.canon (gatePieces y)

theorem outs_odd (c : Dev nD) (t : Fin cfg0.N) (h : t.val % 2 = 1) : outsOf m c t (projOf m c (before t)) := by
  have h65 : t.val < 65 := t.isLt
  unfold outsOf
  rw [outsAt0_B m c t (by omega) (by omega) h, buf_even m c (before t) (by show (t.val - 1) % 2 = 0; omega)]
  generalize projOf m c (before t) = y
  refine ⟨?_, ?_, ?_, ?_, ?_, ?_⟩
  all_goals
    frame_out
    simp only [read_unread_whole]
    rfl

theorem outs_even (c : Dev nD) (t : Fin cfg0.N) (h : t.val % 2 = 0) (ht : t.val ≠ 0) : outsOf m c t (projOf m c (before t)) := by
  have h65 : t.val < 65 := t.isLt
  unfold outsOf
  rw [outsAt0_C m c t (by omega) h (by omega), buf_odd m c (before t) (by show (t.val - 1) % 2 = 1; omega)]
  generalize projOf m c (before t) = y
  refine ⟨?_, ?_, ?_, ?_, ?_, ?_⟩
  all_goals
    frame_out
    simp only [read_unread_whole]
    rfl

theorem outs_eq (c : Dev nD) (t : Fin cfg0.N) (ht : t.val ≠ 0) : outsOf m c t (projOf m c (before t)) := by
  rcases Nat.mod_two_eq_zero_or_one t.val with h | h
  · exact outs_even m c t h ht
  · exact outs_odd m c t h

end Cert.Inproj

end
-- ==== Proof.InprojRef.lean ====
/- The projection reference's results, read at an index. -/
module

public import proofs.«01_k».proof.Proof.Gen.Reference3Ideal.Read
public import Idealize.ShloMosaic.Lib.Pipeline.ValueKit

@[expose] public section

set_option maxRecDepth 16384

noncomputable section

namespace Cert.Inproj

open Idealize.ShloMosaic Idealize.ShloMosaic.TcCoe

/-! ## The layer's rows -/

/-- A row by its root mean square, times the weights. -/
def norm (y g : Fin 1024 → EReal) (d : Fin 1024) : EReal :=
  y d * Ideal.rsqrt (Ideal.div (∑ x, y x * y x) (Ideal.ofBits FTy.f32 0x44800000#32) + Ideal.ofBits FTy.f32 0x358637BD#32) * g d

/-- The normed row times the projection's weights. -/
def proj (y g : Fin 1024 → EReal) (w : Fin 1024 → Fin 3840 → EReal) (j : Fin 3840) : EReal := ∑ d, norm y g d * w d j

/-- A head's row by its root mean square, times the weights. -/
def headNorm (v g : Fin 64 → EReal) (d : Fin 64) : EReal :=
  v d * Ideal.rsqrt (Ideal.div (∑ x, v x * v x) (Ideal.ofBits FTy.f32 0x42800000#32) + Ideal.ofBits FTy.f32 0x358637BD#32) * g d

/-- A head's row with its two halves rotated, the first by the row's angles and the second by the column's. -/
def rope (y : Fin 64 → EReal) (cr sr cc sc : Fin 16 → EReal) (d : Fin 64) : EReal :=
  if h : d.val < 32 then
    if h' : d.val < 16 then y d * cr ⟨d.val, h'⟩ - y ⟨16 + d.val, by omega⟩ * sr ⟨d.val, h'⟩
    else y ⟨16 + (d.val - 16), by omega⟩ * cr ⟨d.val - 16, by omega⟩ + y ⟨d.val - 16, by omega⟩ * sr ⟨d.val - 16, by omega⟩
  else
    if h' : d.val - 32 < 16 then
      y ⟨32 + (d.val - 32), by omega⟩ * cc ⟨d.val - 32, h'⟩ - y ⟨32 + (16 + (d.val - 32)), by omega⟩ * sc ⟨d.val - 32, h'⟩
    else
      y ⟨32 + (16 + (d.val - 32 - 16)), by omega⟩ * cc ⟨d.val - 32 - 16, by omega⟩
        + y ⟨32 + (d.val - 32 - 16), by omega⟩ * sc ⟨d.val - 32 - 16, by omega⟩

/-- The smooth rectifier. -/
def gelu (z : EReal) : EReal :=
  z * (Ideal.ofBits FTy.f32 0x3F000000#32 * (Ideal.ofBits FTy.f32 0x3F800000#32
    + Ideal.tanh (Ideal.ofBits FTy.f32 0x3F4C422A#32 * (z + Ideal.ofBits FTy.f32 0x3D372713#32 * (z * z * z)))))

/-- A group's mean. -/
def mean (v : Fin 64 → EReal) : EReal := Ideal.div (∑ x, v x) (Ideal.ofBits FTy.f32 0x42800000#32)

/-- A group by its mean and variance, times the weights and plus the offsets. -/
def layerNorm (v g b : Fin 64 → EReal) (d : Fin 64) : EReal :=
  (v d - mean v) * Ideal.rsqrt (mean (fun x => (v x - mean v) * (v x - mean v)) + Ideal.ofBits FTy.f32 0x358637BD#32) * g d + b d

/-! ## The reference's -/

open Cert.Reference3Ideal Cert.Reference3Ideal.Read

variable (x0 : FVec Ideal S2x8192x1024 .f32) (x1 : FVec Ideal S1x1024 .f32) (x2 : FVec Ideal S1x1024x3840 .f32)
  (x3 x4 : FVec Ideal S1x64 .f32) (x5 x6 : FVec Ideal S1x8x64 .f32) (x7 x8 x9 x10 : FVec Ideal S8192x16 .f32)

/-- The projected row `s` of batch entry `b`. -/
abbrev projAt (b : Fin 2) (s : Fin 8192) : Fin 3840 → EReal :=
  proj (fun d => x0 (ix3 b s d)) (fun d => x1 (ix2 0 d)) (fun d j => x2 (ix3 0 d j))

theorem ref_proj (b : Fin 2) (s : Fin 8192) (j : Fin 3840) :
    (val_main_v15 (F := Ideal) x0 x1 x2 (ix3 b s j) : EReal) = projAt x0 x1 x2 b s j := by
  pointwise [val_main_v15, val_main_v14, val_main_v13, val_main_v12, val_main_v11, val_main_v10, val_main_v9, val_main_v8, val_main_v7,
    val_main_v6, val_main_v5, val_main_v4, val_main_v3, val_main_v2, val_main_v1, val_main_v0, val_main_cst, val_main_cst_0,
    val_main_cst_1, projAt, proj, norm]

theorem ref_q (b : Fin 2) (s : Fin 8192) (h : Fin 8) (d : Fin 64) :
    (val_main_v35 (F := Ideal) x0 x1 x2 x3 (ix4 b s h d) : EReal)
      = headNorm (fun d => val_main_v15 (F := Ideal) x0 x1 x2 (ix3 b s ⟨h.val * 64 + d.val, by omega⟩)) (fun d => x3 (ix2 0 d)) d := by
  pointwise [val_main_v35, val_main_v34, val_main_v33, val_main_v32, val_main_v31, val_main_v30, val_main_v29, val_main_v28,
    val_main_v27, val_main_v26, val_main_v25, val_main_v24, val_main_v23, val_main_v22, val_main_v21, val_main_v16, val_main_cst_2, val_main_cst_3,
    val_main_cst_4, headNorm]

theorem ref_k (b : Fin 2) (s : Fin 8192) (h : Fin 2) (d : Fin 64) :
    (val_main_v50 (F := Ideal) x0 x1 x2 x4 (ix4 b s h d) : EReal)
      = headNorm (fun d => val_main_v15 (F := Ideal) x0 x1 x2 (ix3 b s ⟨512 + (h.val * 64 + d.val), by omega⟩)) (fun d => x4 (ix2 0 d)) d := by
  pointwise [val_main_v50, val_main_v49, val_main_v48, val_main_v47, val_main_v46, val_main_v45, val_main_v44, val_main_v43,
    val_main_v42, val_main_v41, val_main_v40, val_main_v39, val_main_v38, val_main_v37, val_main_v36, val_main_v17, val_main_cst_5, val_main_cst_6,
    val_main_cst_7, headNorm]

theorem ref_qrope (b : Fin 2) (s : Fin 8192) (h : Fin 8) (d : Fin 64) :
    (val_main_v83 (F := Ideal) x0 x1 x2 x3 x7 x8 x9 x10 (ix4 b s h d) : EReal)
      = rope (fun d => val_main_v35 (F := Ideal) x0 x1 x2 x3 (ix4 b s h d)) (fun d => x7 (ix2 s d)) (fun d => x8 (ix2 s d))
          (fun d => x9 (ix2 s d)) (fun d => x10 (ix2 s d)) d := by
  pointwise [rope, val_main_v83, val_main_v82, val_main_v81, val_main_v80, val_main_v79, val_main_v78, val_main_v77, val_main_v76,
    val_main_v75, val_main_v74, val_main_v73, val_main_v72, val_main_v71, val_main_v70, val_main_v69, val_main_v68, val_main_v67,
    val_main_v66, val_main_v65, val_main_v64, val_main_v63, val_main_v62, val_main_v61, val_main_v60, val_main_v59, val_main_v58,
    val_main_v57, val_main_v56, val_main_v55, val_main_v54, val_main_v53, val_main_v52, val_main_v51]

theorem ref_krope (b : Fin 2) (s : Fin 8192) (h : Fin 2) (d : Fin 64) :
    (val_main_v116 (F := Ideal) x0 x1 x2 x4 x7 x8 x9 x10 (ix4 b s h d) : EReal)
      = rope (fun d => val_main_v50 (F := Ideal) x0 x1 x2 x4 (ix4 b s h d)) (fun d => x7 (ix2 s d)) (fun d => x8 (ix2 s d))
          (fun d => x9 (ix2 s d)) (fun d => x10 (ix2 s d)) d := by
  pointwise [rope, val_main_v116, val_main_v115, val_main_v114, val_main_v113, val_main_v112, val_main_v111, val_main_v110, val_main_v109,
    val_main_v108, val_main_v107, val_main_v106, val_main_v105, val_main_v104, val_main_v103, val_main_v102, val_main_v101,
    val_main_v100, val_main_v99, val_main_v98, val_main_v97, val_main_v96, val_main_v95, val_main_v94, val_main_v93, val_main_v92,
    val_main_v91, val_main_v90, val_main_v89, val_main_v88, val_main_v87, val_main_v86, val_main_v85, val_main_v84]

theorem ref_uv (b : Fin 2) (s : Fin 8192) (j : Fin 1024) :
    (val_main_v129 (F := Ideal) x0 x1 x2 (ix3 b s j) : EReal)
      = gelu (val_main_v15 (F := Ideal) x0 x1 x2 (ix3 b s ⟨768 + j.val, by omega⟩)) := by
  pointwise [val_main_v129, val_main_v128, val_main_v127, val_main_v126, val_main_v125, val_main_v124, val_main_v123, val_main_v122,
    val_main_v121, val_main_v120, val_main_v119, val_main_v118, val_main_v117, val_main_v19, gelu, val_main_cst_8, val_main_cst_9,
    val_main_cst_10, val_main_cst_11]

theorem ref_vn (b : Fin 2) (s : Fin 8192) (h : Fin 8) (d : Fin 64) :
    (val_main_v158 (F := Ideal) x0 x1 x2 x5 x6 (ix4 b s h d) : EReal)
      = layerNorm (fun d => val_main_v129 (F := Ideal) x0 x1 x2 (ix3 b s ⟨512 + (h.val * 64 + d.val), by omega⟩)) (fun d => x5 (ix3 0 h d))
          (fun d => x6 (ix3 0 h d)) d := by
  pointwise [val_main_v158, val_main_v157, val_main_v156, val_main_v155, val_main_v154, val_main_v153, val_main_v152, val_main_v151,
    val_main_v150, val_main_v149, val_main_v148, val_main_v147, val_main_v146, val_main_v145, val_main_v144, val_main_v143,
    val_main_v142, val_main_v141, val_main_v140, val_main_v139, val_main_v138, val_main_v137, val_main_v136, val_main_v135,
    val_main_v134, val_main_v133, val_main_v132, val_main_v131, layerNorm, mean, val_main_cst_12, val_main_cst_13, val_main_cst_14,
    val_main_cst_15, val_main_cst_16]

/-- A query's entry, from the row of its head. -/
def qEntry (v : Fin 3840 → EReal) (g : Fin 64 → EReal) (cr sr cc sc : Fin 16 → EReal) (h : Fin 8) (d : Fin 64) : EReal :=
  rope (headNorm (fun d => v ⟨h.val * 64 + d.val, by omega⟩) g) cr sr cc sc d

/-- The queries' tile: a head's entries in the first lanes or in the last. -/
def qLane (v : Fin 3840 → EReal) (g : Fin 64 → EReal) (cr sr cc sc : Fin 16 → EReal) (h : Fin 8) (l : Fin 128) : EReal :=
  if hh : h.val < 4 then if hl : l.val < 64 then qEntry v g cr sr cc sc h ⟨l.val, hl⟩ else 0
  else if hl : l.val < 64 then 0 else qEntry v g cr sr cc sc h ⟨l.val - 64, by omega⟩

/-- A key's entry, from the row of its head. -/
def kEntry (v : Fin 3840 → EReal) (g : Fin 64 → EReal) (cr sr cc sc : Fin 16 → EReal) (h : Fin 2) (d : Fin 64) : EReal :=
  rope (headNorm (fun d => v ⟨512 + (h.val * 64 + d.val), by omega⟩) g) cr sr cc sc d

/-- A normed entry of the second branch, from the row of its group. -/
def vnEntry (v : Fin 3840 → EReal) (g b : Fin 64 → EReal) (h : Fin 8) (d : Fin 64) : EReal :=
  layerNorm (fun d => gelu (v ⟨768 + (512 + (h.val * 64 + d.val)), by omega⟩)) g b d

theorem ref_qlane (t : Fin 64) (h : Fin 8) (l : Fin 128) (p : Fin 256) :
    (val_main_v166 (F := Ideal) x0 x1 x2 x3 x7 x8 x9 x10 (ix4 t h l p) : EReal)
      = if hh : h.val < 4 then
          if hl : l.val < 64 then
            val_main_v83 (F := Ideal) x0 x1 x2 x3 x7 x8 x9 x10
              (ix4 ⟨t.val / 32, by omega⟩ ⟨t.val % 32 * 256 + p.val, by omega⟩ h ⟨l.val, hl⟩) else 0
        else if hl : l.val < 64 then 0 else
          val_main_v83 (F := Ideal) x0 x1 x2 x3 x7 x8 x9 x10
            (ix4 ⟨t.val / 32, by omega⟩ ⟨t.val % 32 * 256 + p.val, by omega⟩ ⟨4 + (h.val - 4), by omega⟩ ⟨l.val - 64, by omega⟩) := by
  pointwise [val_main_v166, val_main_v165, val_main_v164, val_main_v163, val_main_v162, val_main_v161, val_main_v160,
    val_main_v159, val_main_cst_17]

theorem ref_qt (t : Fin 64) (h : Fin 8) (l : Fin 128) (p : Fin 256) :
    (val_main_v166 (F := Ideal) x0 x1 x2 x3 x7 x8 x9 x10 (ix4 t h l p) : EReal)
      = qLane (projAt x0 x1 x2 ⟨t.val / 32, by omega⟩ ⟨t.val % 32 * 256 + p.val, by omega⟩) (fun d => x3 (ix2 0 d))
          (fun d => x7 (ix2 ⟨t.val % 32 * 256 + p.val, by omega⟩ d)) (fun d => x8 (ix2 ⟨t.val % 32 * 256 + p.val, by omega⟩ d))
          (fun d => x9 (ix2 ⟨t.val % 32 * 256 + p.val, by omega⟩ d)) (fun d => x10 (ix2 ⟨t.val % 32 * 256 + p.val, by omega⟩ d)) h l := by
  rw [ref_qlane x0 x1 x2 x3 x7 x8 x9 x10 t h l p]
  unfold qLane qEntry
  split_ifs with hh hl hl
  · rw [ref_qrope]
    simp only [ref_q, ref_proj]
  · rfl
  · rfl
  · have i : ∀ hb, (⟨4 + (h.val - 4), hb⟩ : Fin 8) = h := fun _ => Fin.ext (by show 4 + (h.val - 4) = h.val; omega)
    rw [i, ref_qrope]
    simp only [ref_q, ref_proj]

theorem ref_vt (t : Fin 64) (l : Fin 128) (p : Fin 256) :
    (val_main_v169 (F := Ideal) x0 x1 x2 (ix3 t l p) : EReal) = projAt x0 x1 x2 ⟨t.val / 32, by omega⟩ ⟨t.val % 32 * 256 + p.val, by omega⟩ ⟨640 + l.val, by omega⟩ := by
  pointwise [val_main_v169, val_main_v168, val_main_v167, val_main_v18]
  simp only [ref_proj]

theorem ref_kt (r : Fin 16384) (l : Fin 128) :
    (val_main_v171 (F := Ideal) x0 x1 x2 x4 x7 x8 x9 x10 (ix2 r l) : EReal)
      = kEntry (projAt x0 x1 x2 ⟨r.val / 8192, by omega⟩ ⟨r.val % 8192, by omega⟩) (fun d => x4 (ix2 0 d)) (fun d => x7 (ix2 ⟨r.val % 8192, by omega⟩ d)) (fun d => x8 (ix2 ⟨r.val % 8192, by omega⟩ d))
          (fun d => x9 (ix2 ⟨r.val % 8192, by omega⟩ d)) (fun d => x10 (ix2 ⟨r.val % 8192, by omega⟩ d)) ⟨l.val / 64, by omega⟩ ⟨l.val % 64, by omega⟩ := by
  pointwise [val_main_v171, val_main_v170]
  simp only [ref_krope, ref_k, ref_proj]
  rfl

theorem ref_u (r : Fin 16384) (j : Fin 512) :
    (val_main_v172 (F := Ideal) x0 x1 x2 (ix2 r j) : EReal) = gelu (projAt x0 x1 x2 ⟨r.val / 8192, by omega⟩ ⟨r.val % 8192, by omega⟩ ⟨768 + j.val, by omega⟩) := by
  pointwise [val_main_v172, val_main_v130]
  simp only [ref_uv, ref_proj]

theorem ref_vnt (r : Fin 16384) (j : Fin 512) :
    (val_main_v174 (F := Ideal) x0 x1 x2 x5 x6 (ix2 r j) : EReal)
      = vnEntry (projAt x0 x1 x2 ⟨r.val / 8192, by omega⟩ ⟨r.val % 8192, by omega⟩) (fun d => x5 (ix3 0 ⟨j.val / 64, by omega⟩ d)) (fun d => x6 (ix3 0 ⟨j.val / 64, by omega⟩ d))
          ⟨j.val / 64, by omega⟩ ⟨j.val % 64, by omega⟩ := by
  pointwise [val_main_v174, val_main_v173]
  simp only [ref_vn, ref_uv, ref_proj]
  rfl

theorem ref_gate (r : Fin 16384) (j : Fin 2048) :
    (val_main_v181 (F := Ideal) x0 x1 x2 (ix2 r j) : EReal) = Ideal.logistic (projAt x0 x1 x2 ⟨r.val / 8192, by omega⟩ ⟨r.val % 8192, by omega⟩ ⟨1792 + j.val, by omega⟩) := by
  pointwise [val_main_v181, val_main_v180, val_main_v179, val_main_v178, val_main_v177, val_main_v176, val_main_v175, val_main_v20,
    val_main_cst_18, val_main_cst_19]
  simp only [ref_proj]
  rfl

end Cert.Inproj

end
-- ==== Proof.InprojMath.lean ====
/- What the projection's identities need: real rows, group sums as products with the groups' matrix, and the rotation lane by lane. -/
module

public import proofs.«01_k».proof.Proof.InprojRef
public import Idealize.ShloMosaic.Lib.IdealHost

@[expose] public section

set_option maxRecDepth 16384

noncomputable section

namespace Cert.Inproj

open Idealize.ShloMosaic

/-- A value that is a real. -/
abbrev IsR (x : EReal) : Prop := ∃ r : ℝ, x = (r : EReal)

theorem IsR.add {x y : EReal} : IsR x → IsR y → IsR (x + y) := fun ⟨a, ha⟩ ⟨b, hb⟩ => ⟨a + b, by rw [ha, hb, EReal.coe_add]⟩

theorem IsR.sub {x y : EReal} : IsR x → IsR y → IsR (x - y) := fun ⟨a, ha⟩ ⟨b, hb⟩ => ⟨a - b, by rw [ha, hb, EReal.coe_sub]⟩

theorem IsR.mul {x y : EReal} : IsR x → IsR y → IsR (x * y) := fun ⟨a, ha⟩ ⟨b, hb⟩ => ⟨a * b, by rw [ha, hb, EReal.coe_mul]⟩

theorem IsR.tanh {x : EReal} : IsR x → IsR (Ideal.tanh x) := fun ⟨a, ha⟩ => ⟨Real.tanh a, by rw [ha]; rfl⟩

theorem IsR.sub_self {x : EReal} : IsR x → x - x = 0 := fun ⟨a, ha⟩ => by rw [ha, ← EReal.coe_sub, _root_.sub_self, EReal.coe_zero]

theorem IsR.sum {ι : Type} (S : Finset ι) (f : ι → EReal) (h : ∀ i, IsR (f i)) : IsR (∑ i ∈ S, f i) := by
  classical
  induction S using Finset.induction_on with
  | empty => exact ⟨0, by simp⟩
  | insert a S ha ih => rw [Finset.sum_insert ha]; exact (h a).add ih

/-! ## The constants -/

theorem const_half : IsR (Ideal.ofBits FTy.f32 0x3F000000#32) := by
  simp [Ideal.ofBits, Ideal.ieee, -EReal.coe_mul]

theorem const_outer : IsR (Ideal.ofBits FTy.f32 0x3F4C422A#32) := by
  simp [Ideal.ofBits, Ideal.ieee, -EReal.coe_mul]

theorem const_inner : IsR (Ideal.ofBits FTy.f32 0x3D372713#32) := by
  simp [Ideal.ofBits, Ideal.ieee, -EReal.coe_mul]

theorem const_one : Ideal.ofBits FTy.f32 0x3F800000#32 = 1 := Ideal.ofBits_one_f32

theorem const_eps : ∃ e : ℝ, 0 < e ∧ Ideal.ofBits FTy.f32 0x358637BD#32 = (e : EReal) := by
  refine ⟨_, ?_, by simp [Ideal.ofBits, Ideal.ieee, -EReal.coe_mul]; rfl⟩
  norm_num

theorem const_rows : Ideal.ofBits FTy.f32 0x44800000#32 = ((1024 : ℝ) : EReal) := by
  simp [Ideal.ofBits, Ideal.ieee, -EReal.coe_mul]; norm_num

theorem const_group : Ideal.ofBits FTy.f32 0x42800000#32 = ((64 : ℝ) : EReal) := by
  simp [Ideal.ofBits, Ideal.ieee, -EReal.coe_mul]; norm_num

theorem const_inv : Ideal.ofBits FTy.f32 0x3C800000#32 = (((1 : ℝ) / 64 : ℝ) : EReal) := by
  simp [Ideal.ofBits, Ideal.ieee, -EReal.coe_mul]; norm_num

/-- A quotient by a group's size is a product with its inverse. -/
theorem div_group (s : EReal) : Ideal.div s (Ideal.ofBits FTy.f32 0x42800000#32) = s * Ideal.ofBits FTy.f32 0x3C800000#32 := by
  rw [const_group, const_inv, Ideal.div_coe (by norm_num)]

/-! ## Real rows -/

theorem gelu_real {z : EReal} (h : IsR z) : IsR (gelu z) :=
  h.mul (const_half.mul (IsR.add ⟨1, by rw [const_one, EReal.coe_one]⟩ (const_outer.mul (h.add (const_inner.mul ((h.mul h).mul h)))).tanh))

theorem norm_real (y g : Fin 1024 → EReal) (hy : ∀ d, IsR (y d)) (hg : ∀ d, IsR (g d)) (d : Fin 1024) : IsR (norm y g d) := by
  refine ((hy d).mul ?_).mul (hg d)
  choose f hf using hy
  obtain ⟨e, he, hc⟩ := const_eps
  have hs : ∀ S : Finset (Fin 1024), ∑ x ∈ S, y x * y x = ((∑ x ∈ S, f x * f x : ℝ) : EReal) := fun S => by
    classical
    induction S using Finset.induction_on with
    | empty => simp
    | insert a S ha ih => rw [Finset.sum_insert ha, Finset.sum_insert ha, EReal.coe_add, ih, hf a, EReal.coe_mul]
  rw [hs, const_rows, Ideal.div_coe (by norm_num), hc, ← EReal.coe_mul, ← EReal.coe_add]
  have h0 : 0 < (∑ x, f x * f x) * (1 / 1024) + e :=
    add_pos_of_nonneg_of_pos (mul_nonneg (Finset.sum_nonneg fun x _ => mul_self_nonneg _) (by norm_num)) he
  refine ⟨(Real.sqrt ((∑ x, f x * f x) * (1 / 1024) + e))⁻¹, ?_⟩
  show (if _ then _ else if _ then _ else _) = _
  rw [if_neg h0.le.not_gt, if_neg h0.ne']

theorem proj_real (y g : Fin 1024 → EReal) (w : Fin 1024 → Fin 3840 → EReal) (hy : ∀ d, IsR (y d)) (hg : ∀ d, IsR (g d))
    (hw : ∀ d j, IsR (w d j)) (j : Fin 3840) : IsR (proj y g w j) :=
  IsR.sum _ _ fun d => (norm_real y g hy hg d).mul (hw d j)

/-! ## Group sums -/

/-- The groups' matrix: one where the lanes are of a group. -/
def group (k l : ℕ) : EReal := if k % 128 / 64 = l / 64 then 1 else 0

/-- A product with the groups' matrix sums the lane's group. -/
theorem group_sum (f : Fin 128 → EReal) (l : Fin 128) :
    ∑ x : Fin 128, f x * group x.val l.val = ∑ d : Fin 64, f ⟨l.val / 64 * 64 + d.val, by omega⟩ := by
  have hl := l.isLt
  refine (Fin.sum_univ_add (a := 64) (b := 64) fun x => f x * group x.val l.val).trans ?_
  by_cases h : l.val < 64
  · have h1 : ∀ d : Fin 64, f (Fin.castAdd 64 d) * group (Fin.castAdd 64 d).val l.val = f ⟨l.val / 64 * 64 + d.val, by omega⟩ := fun d => by
      have hg : group (Fin.castAdd 64 d).val l.val = 1 := if_pos (by show d.val % 128 / 64 = l.val / 64; omega)
      rw [hg, mul_one]
      exact congrArg f (Fin.ext (by show d.val = l.val / 64 * 64 + d.val; omega))
    have h2 : ∀ d : Fin 64, f (Fin.natAdd 64 d) * group (Fin.natAdd 64 d).val l.val = 0 := fun d => by
      have hg : group (Fin.natAdd 64 d).val l.val = 0 := if_neg (by show ¬ (64 + d.val) % 128 / 64 = l.val / 64; omega)
      rw [hg, mul_zero]
    rw [Finset.sum_congr rfl fun d _ => h1 d, Finset.sum_congr rfl fun d _ => h2 d, Finset.sum_const_zero, add_zero]
  · have h1 : ∀ d : Fin 64, f (Fin.castAdd 64 d) * group (Fin.castAdd 64 d).val l.val = 0 := fun d => by
      have hg : group (Fin.castAdd 64 d).val l.val = 0 := if_neg (by show ¬ d.val % 128 / 64 = l.val / 64; omega)
      rw [hg, mul_zero]
    have h2 : ∀ d : Fin 64, f (Fin.natAdd 64 d) * group (Fin.natAdd 64 d).val l.val = f ⟨l.val / 64 * 64 + d.val, by omega⟩ := fun d => by
      have hg : group (Fin.natAdd 64 d).val l.val = 1 := if_pos (by show (64 + d.val) % 128 / 64 = l.val / 64; omega)
      rw [hg, mul_one]
      exact congrArg f (Fin.ext (by show 64 + d.val = l.val / 64 * 64 + d.val; omega))
    rw [Finset.sum_congr rfl fun d _ => h1 d, Finset.sum_congr rfl fun d _ => h2 d, Finset.sum_const_zero, zero_add]

/-- … and so does the product of the two parts of a real row, the second nothing. -/
theorem split_sum (f : Fin 128 → EReal) (hf : ∀ x, IsR (f x)) (g : Fin 256 → EReal) (l : Fin 128) (hg : ∀ k, g k = group k.val l.val) :
    (∑ x : Fin 128, f x * g ⟨x.val, by omega⟩ + ∑ x : Fin 128, (f x - f x) * g ⟨128 + x.val, by omega⟩)
      = ∑ d : Fin 64, f ⟨l.val / 64 * 64 + d.val, by omega⟩ := by
  have h2 : ∀ x : Fin 128, (f x - f x) * g ⟨128 + x.val, by omega⟩ = 0 := fun x => by rw [(hf x).sub_self, zero_mul]
  rw [Finset.sum_congr rfl fun x _ => h2 x, Finset.sum_const_zero, add_zero]
  simp only [hg]
  exact group_sum f l

/-! ## The rotation -/

/-- A lane's cosine. -/
def cosLane (cr cc : Fin 16 → EReal) (l : ℕ) : EReal :=
  if h : l % 64 < 16 then cr ⟨l % 64, h⟩
  else if h : l % 64 - 16 < 16 then cr ⟨l % 64 - 16, h⟩
  else if h : l % 64 - 16 - 16 < 16 then cc ⟨l % 64 - 16 - 16, h⟩
  else cc ⟨l % 64 - 16 - 16 - 16, by omega⟩

/-- A lane's sine, negated in the first lanes of each half. -/
def sinLane (sr sc : Fin 16 → EReal) (l : ℕ) : EReal :=
  if h : l % 64 < 16 then -sr ⟨l % 64, h⟩
  else if h : l % 64 - 16 < 16 then sr ⟨l % 64 - 16, h⟩
  else if h : l % 64 - 16 - 16 < 16 then -sc ⟨l % 64 - 16 - 16, h⟩
  else sc ⟨l % 64 - 16 - 16 - 16, by omega⟩

theorem mask16 : ∀ l : Fin 128, IntOp.cmpi .eq (IntOp.andi (BitVec.ofNat 32 l.val) 16#32) 0#32 = if l.val % 32 < 16 then 1#1 else 0#1 := by
  decide +kernel

theorem mask64 : ∀ l : Fin 128, IntOp.cmpi .slt (BitVec.ofNat 32 l.val) 64#32 = if l.val < 64 then 1#1 else 0#1 := by
  decide +kernel

theorem select_one (a b : EReal) : Scalar.select 1#1 a b = a := if_pos rfl

theorem select_zero (a b : EReal) : Scalar.select 0#1 a b = b := if_neg (by decide)

/-- A lane times its cosine and its partner times its sine is the rotation. -/
theorem rope_lane (Y : Fin 128 → EReal) (H : Fin 64 → EReal) (cr sr cc sc : Fin 16 → EReal) (l : Fin 128)
    (hY : ∀ (x : Fin 128) (d : Fin 64), x.val = l.val / 64 * 64 + d.val → Y x = H d) :
    Y l * cosLane cr cc l.val + Scalar.select (IntOp.cmpi .eq (IntOp.andi (BitVec.ofNat 32 l.val) 16#32) 0#32)
        (Y ⟨(l.val + 128 - 112) % 128, Nat.mod_lt _ (by decide)⟩) (Y ⟨(l.val + 128 - 16) % 128, Nat.mod_lt _ (by decide)⟩) * sinLane sr sc l.val
      = rope H cr sr cc sc ⟨l.val % 64, Nat.mod_lt _ (by decide)⟩ := by
  have hl := l.isLt
  rw [mask16]
  unfold cosLane sinLane rope
  by_cases h1 : l.val % 64 < 16
  · rw [dif_pos h1, dif_pos h1, dif_pos (show l.val % 64 < 32 by omega), dif_pos h1, if_pos (by omega), select_one,
      hY l ⟨l.val % 64, by omega⟩ (by show l.val = l.val / 64 * 64 + l.val % 64; omega),
      hY ⟨(l.val + 128 - 112) % 128, _⟩ ⟨16 + l.val % 64, by omega⟩ (by show (l.val + 128 - 112) % 128 = l.val / 64 * 64 + (16 + l.val % 64); omega),
      mul_neg, sub_eq_add_neg]
  rw [dif_neg h1, dif_neg h1]
  by_cases h2 : l.val % 64 - 16 < 16
  · rw [dif_pos h2, dif_pos h2, dif_pos (show l.val % 64 < 32 by omega), dif_neg h1, if_neg (by omega), select_zero,
      hY l ⟨16 + (l.val % 64 - 16), by omega⟩ (by show l.val = l.val / 64 * 64 + (16 + (l.val % 64 - 16)); omega),
      hY ⟨(l.val + 128 - 16) % 128, _⟩ ⟨l.val % 64 - 16, by omega⟩ (by show (l.val + 128 - 16) % 128 = l.val / 64 * 64 + (l.val % 64 - 16); omega)]
  rw [dif_neg h2, dif_neg h2]
  have e1 : l.val % 64 - 16 - 16 = l.val % 64 - 32 := by omega
  by_cases h3 : l.val % 64 - 16 - 16 < 16
  · rw [dif_pos h3, dif_pos h3, dif_neg (show ¬ l.val % 64 < 32 by omega), dif_pos (show l.val % 64 - 32 < 16 by omega), if_pos (by omega),
      select_one, hY l ⟨32 + (l.val % 64 - 32), by omega⟩ (by show l.val = l.val / 64 * 64 + (32 + (l.val % 64 - 32)); omega),
      hY ⟨(l.val + 128 - 112) % 128, _⟩ ⟨32 + (16 + (l.val % 64 - 32)), by omega⟩
        (by show (l.val + 128 - 112) % 128 = l.val / 64 * 64 + (32 + (16 + (l.val % 64 - 32))); omega), mul_neg, sub_eq_add_neg]
    simp only [e1]
  · rw [dif_neg h3, dif_neg h3, dif_neg (show ¬ l.val % 64 < 32 by omega), dif_neg (show ¬ l.val % 64 - 32 < 16 by omega), if_neg (by omega),
      select_zero, hY l ⟨32 + (16 + (l.val % 64 - 32 - 16)), by omega⟩ (by show l.val = l.val / 64 * 64 + (32 + (16 + (l.val % 64 - 32 - 16))); omega),
      hY ⟨(l.val + 128 - 16) % 128, _⟩ ⟨32 + (l.val % 64 - 32 - 16), by omega⟩
        (by show (l.val + 128 - 16) % 128 = l.val / 64 * 64 + (32 + (l.val % 64 - 32 - 16)); omega)]
    simp only [e1]

end Cert.Inproj

end
-- ==== Proof.InprojAt.lean ====
/- The contents of the projection kernel's blocks, read at an index. -/
module

public import proofs.«01_k».proof.Proof.InprojBlocks
public import proofs.«01_k».proof.Proof.InprojMath

@[expose] public section

set_option maxRecDepth 16384

noncomputable section

namespace Cert.Inproj

open Idealize.ShloMosaic Idealize.ShloMosaic.TcCoe Cert.Kernel3Ideal Cert.Kernel3Ideal.Gen

/-- A load of a block of two axes. -/
theorem ld_block {m n s t : ℕ} {e : EltTy} (w : Vec Ideal ⟨2, ![m, n]⟩ e) (r c : ℕ) (inb) (p : Fin s) (q : Fin t) (i : Fin m) (j : Fin n)
    (hi : i.val = r + p.val) (hj : j.val = c + q.val) :
    View.ld w (Rect.unit ![r, c] ![s, t] inb) (ix2 p q) = w (ix2 i j) :=
  View.ld_unit_apply_of _ _ _ _ _ (ix2 i j) fun a => match a with
    | ⟨0, _⟩ => hi
    | ⟨1, _⟩ => hj

/-! ## The projected rows -/

/-- The weights' column that a column of the projected rows is of: the heads of the first half beside those of the second. -/
def col (c : Fin 3840) : Fin 3840 :=
  if h : c.val < 512 then ⟨(c.val / 64 % 2 * 4 + c.val / 128) * 64 + c.val % 64, by omega⟩ else c

theorem norm_at (y : Vec Ideal S256x1024 .f32) (g : Vec Ideal S1x1024 .f32) (r : Fin 256) (d : Fin 1024) :
    (k0_pay61 y g (ix2 r d) : EReal) = norm (fun d => y (ix2 r d)) (fun d => g (ix2 0 d)) d := by
  pointwise [k0_pay61, norm]

theorem proj_first (y : Vec Ideal S256x1024 .f32) (g : Vec Ideal S1x1024 .f32) (w : Vec Ideal S1024x512 .bf16) (p : Fin 256) (k : Fin 512) :
    (k0_pay62 y g w (ix2 p k) : EReal) = ∑ x, k0_pay61 y g (ix2 p x) * w (ix2 x k) := by
  pointwise [k0_pay62]

theorem proj_second (y : Vec Ideal S256x1024 .f32) (g : Vec Ideal S1x1024 .f32) (w : Vec Ideal S1024x256 .bf16) (p : Fin 256) (k : Fin 256) :
    (k0_pay64 (k0_pay63 y g w) (ix2 p k) : EReal) = ∑ x, k0_pay61 y g (ix2 p x) * w (ix2 x k) := by
  pointwise [k0_pay64, k0_pay63]

theorem proj_wide (h : FVec Ideal S256x1024 .bf16) (w : Vec Ideal S1024x1024 .bf16) (p : Fin 256) (k : Fin 1024) :
    (k0_pay101 h w (ix2 p k) : EReal) = ∑ x, h (ix2 p x) * w (ix2 x k) := by
  pointwise [k0_pay101]

theorem proj_half (h : FVec Ideal S256x1024 .bf16) (w : Vec Ideal S1024x512 .bf16) (p : Fin 256) (k : Fin 512) :
    (k0_pay112 h w (ix2 p k) : EReal) = ∑ x, h (ix2 p x) * w (ix2 x k) := by
  pointwise [k0_pay112]

theorem proj_block {n : ℕ} (x0 : Vec Ideal S256x1024 .f32) (x1 : Vec Ideal S1x1024 .f32) (x3 : Vec Ideal S1024x3840 .bf16)
    (w : Fin 1024 → Fin 3840 → EReal) (h3 : ∀ d j, (x3 (ix2 d j) : EReal) = w d j) (o : ℕ) (inb) (p : Fin 256) (k : Fin n) (c : Fin 3840)
    (hc : c.val = o + k.val) (ho : 512 ≤ o) :
    ∑ x, (k0_pay61 x0 x1 (ix2 p x) : EReal) * (View.ld x3 (Rect.unit ![0, o] ![1024, n] inb) (ix2 x k) : EReal)
      = proj (fun d => x0 (ix2 p d)) (fun d => x1 (ix2 0 d)) w (col c) := by
  have e : col c = c := dif_neg (by omega)
  rw [e]
  unfold proj
  refine Finset.sum_congr rfl fun x _ => ?_
  rw [norm_at, ld_block x3 0 o inb x k x c (by omega) hc, h3]

theorem proj_cover (x0 : Vec Ideal S256x1024 .f32) (x1 : Vec Ideal S1x1024 .f32) (x2 : Vec Ideal S1024x512 .bf16) (x3 : Vec Ideal S1024x3840 .bf16)
    (p : Fin 256) (c : Fin 3840) : ∃ q ∈ projPieces x0 x1 x2 x3, ix2 p c ∈ q.1.set := by
  have hc := c.isLt
  have hp := p.isLt
  have key : ∀ o n : ℕ, o ≤ c.val → c.val < o + n → ∀ a : Fin 2, (![0, o] : Fin 2 → ℕ) a ≤ (ix2 p c : S256x3840.Idx) a
      ∧ ((ix2 p c : S256x3840.Idx) a : ℕ) < (![0, o] : Fin 2 → ℕ) a + (![256, n] : Fin 2 → ℕ) a := fun o n h1 h2 a => by
    match a with
    | ⟨0, _⟩ => exact ⟨Nat.zero_le _, by show p.val < 0 + 256; omega⟩
    | ⟨1, _⟩ => exact ⟨h1, h2⟩
  by_cases h1 : c.val < 512
  · refine ⟨_, .tail _ (.tail _ (.tail _ (.tail _ (.tail _ (.head _))))), ?_⟩
    exact (Rect.mem_set_unit (inb := inb_S256x3840_S256x512_0_0)).mpr (key 0 512 (Nat.zero_le _) (by omega))
  by_cases h2 : c.val < 768
  · refine ⟨_, .tail _ (.tail _ (.tail _ (.tail _ (.head _)))), ?_⟩
    exact (Rect.mem_set_unit (inb := inb_S256x3840_S256x256_0_512)).mpr (key 512 256 (by omega) (by omega))
  by_cases h3 : c.val < 1792
  · refine ⟨_, .tail _ (.tail _ (.tail _ (.head _))), ?_⟩
    exact (Rect.mem_set_unit (inb := inb_S256x3840_S256x1024_0_768)).mpr (key 768 1024 (by omega) (by omega))
  by_cases h4 : c.val < 2816
  · refine ⟨_, .tail _ (.tail _ (.head _)), ?_⟩
    exact (Rect.mem_set_unit (inb := inb_S256x3840_S256x1024_0_1792)).mpr (key 1792 1024 (by omega) (by omega))
  by_cases h5 : c.val < 3328
  · refine ⟨_, .tail _ (.head _), ?_⟩
    exact (Rect.mem_set_unit (inb := inb_S256x3840_S256x512_0_2816)).mpr (key 2816 512 (by omega) (by omega))
  · refine ⟨_, .head _, ?_⟩
    exact (Rect.mem_set_unit (inb := inb_S256x3840_S256x512_0_3328)).mpr (key 3328 512 (by omega) (by omega))

theorem proj_at (x0 : Vec Ideal S256x1024 .f32) (x1 : Vec Ideal S1x1024 .f32) (x2 : Vec Ideal S1024x512 .bf16) (x3 : Vec Ideal S1024x3840 .bf16)
    (w : Fin 1024 → Fin 3840 → EReal)
    (h2 : ∀ (d : Fin 1024) (j : Fin 512), (x2 (ix2 d j) : EReal) = w d ⟨(j.val / 64 % 2 * 4 + j.val / 128) * 64 + j.val % 64, by omega⟩)
    (h3 : ∀ d j, (x3 (ix2 d j) : EReal) = w d j) (p : Fin 256) (c : Fin 3840) :
    (View.canon (projPieces x0 x1 x2 x3) (ix2 p c) : EReal) = proj (fun d => x0 (ix2 p d)) (fun d => x1 (ix2 0 d)) w (col c) := by
  have hc := proj_cover x0 x1 x2 x3 p c
  unfold projPieces at hc ⊢
  canon_tiles z h using hc
  all_goals
    clear hc
    idx_vars z
    obtain rfl := Fin.ext h0
  · exact (proj_half _ _ _ _).trans (proj_block x0 x1 x3 w h3 3328 _ _ _ c h1 (by decide))
  · exact (proj_half _ _ _ _).trans (proj_block x0 x1 x3 w h3 2816 _ _ _ c h1 (by decide))
  · exact (proj_wide _ _ _ _).trans (proj_block x0 x1 x3 w h3 1792 _ _ _ c h1 (by decide))
  · exact (proj_wide _ _ _ _).trans (proj_block x0 x1 x3 w h3 768 _ _ _ c h1 (by decide))
  · exact (proj_second _ _ _ _ _).trans (proj_block x0 x1 x3 w h3 512 _ _ _ c h1 (by decide))
  · refine (proj_first _ _ _ _ _).trans ?_
    have hz := z1.isLt
    have e : col c = ⟨(z1.val / 64 % 2 * 4 + z1.val / 128) * 64 + z1.val % 64, by omega⟩ :=
      (dif_pos (show c.val < 512 by omega)).trans (Fin.ext (by
        show (c.val / 64 % 2 * 4 + c.val / 128) * 64 + c.val % 64 = (z1.val / 64 % 2 * 4 + z1.val / 128) * 64 + z1.val % 64; omega))
    rw [e]
    unfold proj
    refine Finset.sum_congr rfl fun x _ => ?_
    rw [norm_at, h2]

/-! ## The queries and keys -/

theorem sq_at (x4 : Vec Ideal S256x128 .bf16) (v : Vec Ideal S256x128 .f32) (p : Fin 256) (l : Fin 128)
    (h4 : ∀ k l, (x4 (ix2 k l) : EReal) = group k.val l.val) (hv : ∀ x, IsR (v (ix2 p x))) :
    (k0_pay66 x4 v (ix2 p l) : EReal)
      = ∑ d : Fin 64, (v (ix2 p ⟨l.val / 64 * 64 + d.val, by omega⟩) : EReal) * v (ix2 p ⟨l.val / 64 * 64 + d.val, by omega⟩) := by
  pointwise [k0_pay66]
  exact split_sum (fun x => (v (ix2 p x) : EReal) * v (ix2 p x)) (fun x => (hv x).mul (hv x)) (fun k => x4 (ix2 k l)) l (fun k => h4 k l)

/-- A lane of two normed heads. -/
def headLane (v s : Vec Ideal S256x128 .f32) (x7 : Vec Ideal S1x128 .f32) (p : Fin 256) (l : Fin 128) : EReal :=
  v (ix2 p l) * Ideal.rsqrt (s (ix2 p l) * Ideal.ofBits FTy.f32 0x3C800000#32 + Ideal.ofBits FTy.f32 0x358637BD#32) * x7 (ix2 0 l)

/-- A lane of two rotated heads. -/
def ropeLane (v s : Vec Ideal S256x128 .f32) (x7 : Vec Ideal S1x128 .f32) (x5 x6 : Vec Ideal S256x128 .f32) (p : Fin 256) (l : Fin 128) : EReal :=
  headLane v s x7 p l * x5 (ix2 p l) + Scalar.select (IntOp.cmpi .eq (IntOp.andi (BitVec.ofNat 32 l.val) 16#32) 0#32)
        (headLane v s x7 p ⟨(l.val + 128 - 112) % 128, Nat.mod_lt _ (by decide)⟩)
        (headLane v s x7 p ⟨(l.val + 128 - 16) % 128, Nat.mod_lt _ (by decide)⟩) * x6 (ix2 p l)

theorem pay74_at (v s : Vec Ideal S256x128 .f32) (x7 : Vec Ideal S1x128 .f32) (x5 x6 : Vec Ideal S256x128 .f32) (p : Fin 256) (l : Fin 128) :
    (k0_pay74 lane v s x7 x5 x6 (ix2 l p) : EReal) = ropeLane v s x7 x5 x6 p l := by
  pointwise [k0_pay74, ropeLane, headLane]

theorem pay92_at (v s : Vec Ideal S256x128 .f32) (x7 : Vec Ideal S1x128 .f32) (x5 x6 : Vec Ideal S256x128 .f32) (p : Fin 256) (l : Fin 128) :
    (k0_pay92 lane v s x7 x5 x6 (ix2 p l) : EReal) = ropeLane v s x7 x5 x6 p l := by
  pointwise [k0_pay92, ropeLane, headLane]

theorem lo_at (v s : Vec Ideal S256x128 .f32) (x7 : Vec Ideal S1x128 .f32) (x5 x6 : Vec Ideal S256x128 .f32) (p : Fin 256) (l : Fin 128) :
    (k0_pay76 lane v s x7 x5 x6 (ix4 0 0 l p) : EReal) = if l.val < 64 then ropeLane v s x7 x5 x6 p l else 0 := by
  pointwise [k0_pay76, k0_pay73, k0_pay75]
  rw [mask64, pay74_at]
  split_ifs
  · exact select_one _ _
  · exact (select_zero _ _)

theorem hi_at (v s : Vec Ideal S256x128 .f32) (x7 : Vec Ideal S1x128 .f32) (x5 x6 : Vec Ideal S256x128 .f32) (p : Fin 256) (l : Fin 128) :
    (k0_pay78 (k0_pay77 lane v s x7 x5 x6) (ix4 0 0 l p) : EReal) = if l.val < 64 then 0 else ropeLane v s x7 x5 x6 p l := by
  pointwise [k0_pay78, k0_pay77, k0_pay73, k0_pay75]
  rw [mask64, pay74_at]
  split_ifs
  · exact (select_one _ _)
  · exact select_zero _ _

/-- A rotated lane of two heads, from the heads' rows. -/
theorem rope_at (x4 : Vec Ideal S256x128 .bf16) (x5 x6 : Vec Ideal S256x128 .f32) (x7 : Vec Ideal S1x128 .f32) (v : Vec Ideal S256x128 .f32)
    (p : Fin 256) (l : Fin 128) (H : Fin 64 → EReal) (g : Fin 64 → EReal) (cr sr cc sc : Fin 16 → EReal)
    (h4 : ∀ k l, (x4 (ix2 k l) : EReal) = group k.val l.val) (h5 : (x5 (ix2 p l) : EReal) = cosLane cr cc l.val)
    (h6 : (x6 (ix2 p l) : EReal) = sinLane sr sc l.val)
    (h7 : ∀ l : Fin 128, (x7 (ix2 0 l) : EReal) = g ⟨l.val % 64, Nat.mod_lt _ (by decide)⟩)
    (hv : ∀ x, IsR (v (ix2 p x))) (hH : ∀ d : Fin 64, (v (ix2 p ⟨l.val / 64 * 64 + d.val, by omega⟩) : EReal) = H d) :
    ropeLane v (k0_pay66 x4 v) x7 x5 x6 p l = rope (headNorm H g) cr sr cc sc ⟨l.val % 64, Nat.mod_lt _ (by decide)⟩ := by
  unfold ropeLane
  rw [h5, h6]
  refine rope_lane (headLane v (k0_pay66 x4 v) x7 p) (headNorm H g) cr sr cc sc l fun x d hx => ?_
  have hl := l.isLt
  have hd := d.isLt
  unfold headLane headNorm
  have e : x.val / 64 * 64 = l.val / 64 * 64 := by omega
  rw [sq_at x4 v p x h4 hv, h7, div_group]
  simp only [e, hH]
  have e1 : (v (ix2 p x) : EReal) = H d := by
    rw [← hH]
    exact congrArg (fun n => (v (ix2 p n) : EReal)) (Fin.ext hx)
  have e2 : (⟨x.val % 64, Nat.mod_lt _ (by decide)⟩ : Fin 64) = d := Fin.ext (by show x.val % 64 = d.val; omega)
  rw [e1, e2]

section Row

variable (x4 : Vec Ideal S256x128 .bf16) (x5 x6 : Vec Ideal S256x128 .f32) (x7 x8 : Vec Ideal S1x128 .f32) (x9 x10 : Vec Ideal S1x512 .f32)
  (y : Vec Ideal S256x3840 .f32) (p : Fin 256) (Y : Fin 3840 → EReal) (g : Fin 64 → EReal) (cr sr cc sc : Fin 16 → EReal)

theorem cols_at (c : ℕ) (h) (l : Fin 128) (j : Fin 3840) (hj : j.val = c + l.val) : (cols y c h (ix2 p l) : EReal) = y (ix2 p j) :=
  ld_block y 0 c h p l p j (by omega) hj

variable (h4 : ∀ k l, (x4 (ix2 k l) : EReal) = group k.val l.val) (h5 : ∀ l, (x5 (ix2 p l) : EReal) = cosLane cr cc l.val)
  (h6 : ∀ l, (x6 (ix2 p l) : EReal) = sinLane sr sc l.val)
  (h7 : ∀ l : Fin 128, (x7 (ix2 0 l) : EReal) = g ⟨l.val % 64, Nat.mod_lt _ (by decide)⟩)
  (hy : ∀ c, (y (ix2 p c) : EReal) = Y (col c)) (hr : ∀ c, IsR (Y c))

include hy hr in
theorem cols_real (c : ℕ) (h) (l : Fin 128) : IsR (cols y c h (ix2 p l)) := by
  have hc : c + l.val < 3840 := by
    have := h 1
    have e : (![0, c] : Fin 2 → ℕ) 1 + S256x128.size 1 ≤ S256x3840.size 1 := h 1
    have e' : c + 128 ≤ 3840 := e
    omega
  rw [cols_at y p c h l ⟨c + l.val, hc⟩ rfl, hy]
  exact hr _

include h4 h5 h6 h7 hy hr in
/-- The tile of head `j`. -/
theorem tileLo_at (j o : ℕ) (hj : j < 4) (ho : o = 128 * j) (inb) (n : Fin 8) (hn : n.val = j) (l : Fin 128) :
    (tileLo x4 x5 x6 x7 (cols y o inb) (ix4 0 0 l p) : EReal) = qLane Y g cr sr cc sc n l := by
  unfold tileLo qLane
  rw [lo_at, dif_pos (show n.val < 4 by omega)]
  by_cases hl : l.val < 64
  · rw [if_pos hl, dif_pos hl]
    unfold qEntry
    refine (rope_at x4 x5 x6 x7 _ p l (fun d => Y ⟨n.val * 64 + d.val, by omega⟩) g cr sr cc sc h4 (h5 l) (h6 l) h7
      (cols_real y p Y hy hr o inb) fun d => ?_).trans ?_
    · rw [cols_at y p o inb _ ⟨o + (l.val / 64 * 64 + d.val), by omega⟩ rfl, hy]
      refine congrArg Y ((dif_pos (show o + (l.val / 64 * 64 + d.val) < 512 by omega)).trans (Fin.ext ?_))
      show ((o + (l.val / 64 * 64 + d.val)) / 64 % 2 * 4 + (o + (l.val / 64 * 64 + d.val)) / 128) * 64 + (o + (l.val / 64 * 64 + d.val)) % 64
        = n.val * 64 + d.val
      omega
    · exact congrArg _ (Fin.ext (by show l.val % 64 = l.val; omega))
  · rw [if_neg hl, dif_neg hl]

include h4 h5 h6 h7 hy hr in
/-- The tile of head `4 + j`. -/
theorem tileHi_at (j o : ℕ) (hj : j < 4) (ho : o = 128 * j) (inb) (n : Fin 8) (hn : n.val = 4 + j) (l : Fin 128) :
    (tileHi x4 x5 x6 x7 (cols y o inb) (ix4 0 0 l p) : EReal) = qLane Y g cr sr cc sc n l := by
  unfold tileHi qLane
  rw [hi_at, dif_neg (show ¬ n.val < 4 by omega)]
  by_cases hl : l.val < 64
  · rw [if_pos hl, dif_pos hl]
  · rw [if_neg hl, dif_neg hl]
    unfold qEntry
    refine (rope_at x4 x5 x6 x7 _ p l (fun d => Y ⟨n.val * 64 + d.val, by omega⟩) g cr sr cc sc h4 (h5 l) (h6 l) h7
      (cols_real y p Y hy hr o inb) fun d => ?_).trans ?_
    · rw [cols_at y p o inb _ ⟨o + (l.val / 64 * 64 + d.val), by omega⟩ rfl, hy]
      refine congrArg Y ((dif_pos (show o + (l.val / 64 * 64 + d.val) < 512 by omega)).trans (Fin.ext ?_))
      show ((o + (l.val / 64 * 64 + d.val)) / 64 % 2 * 4 + (o + (l.val / 64 * 64 + d.val)) / 128) * 64 + (o + (l.val / 64 * 64 + d.val)) % 64
        = n.val * 64 + d.val
      omega
    · exact congrArg _ (Fin.ext (by show l.val % 64 = l.val - 64; omega))

include h4 h5 h6 h7 hy hr in
theorem q_at (n : Fin 8) (l : Fin 128) :
    (View.canon (qPieces x4 x5 x6 x7 y) (ix4 0 n l p) : EReal) = qLane Y g cr sr cc sc n l := by
  unfold qPieces
  canon_tiles z h
  all_goals
    idx_vars z
    obtain rfl := Fin.ext h2
    obtain rfl := Fin.ext h3
    rw [Subsingleton.elim z0 0, Subsingleton.elim z1 0]
  · exact tileHi_at x4 x5 x6 x7 y _ Y g cr sr cc sc h4 h5 h6 h7 hy hr 3 384 (by decide) rfl _ n (by omega) _
  · exact tileLo_at x4 x5 x6 x7 y _ Y g cr sr cc sc h4 h5 h6 h7 hy hr 3 384 (by decide) rfl _ n (by omega) _
  · exact tileHi_at x4 x5 x6 x7 y _ Y g cr sr cc sc h4 h5 h6 h7 hy hr 2 256 (by decide) rfl _ n (by omega) _
  · exact tileLo_at x4 x5 x6 x7 y _ Y g cr sr cc sc h4 h5 h6 h7 hy hr 2 256 (by decide) rfl _ n (by omega) _
  · exact tileHi_at x4 x5 x6 x7 y _ Y g cr sr cc sc h4 h5 h6 h7 hy hr 1 128 (by decide) rfl _ n (by omega) _
  · exact tileLo_at x4 x5 x6 x7 y _ Y g cr sr cc sc h4 h5 h6 h7 hy hr 1 128 (by decide) rfl _ n (by omega) _
  · exact tileHi_at x4 x5 x6 x7 y _ Y g cr sr cc sc h4 h5 h6 h7 hy hr 0 0 (by decide) rfl _ n (by omega) _
  · exact tileLo_at x4 x5 x6 x7 y _ Y g cr sr cc sc h4 h5 h6 h7 hy hr 0 0 (by decide) rfl _ n (by omega) _

include h4 h5 h6 h7 hy hr in
theorem k_at (l : Fin 128) :
    (kVal x4 x5 x6 x7 y (ix2 p l) : EReal)
      = kEntry Y g cr sr cc sc ⟨l.val / 64, by omega⟩ ⟨l.val % 64, by omega⟩ := by
  unfold kVal kEntry
  rw [pay92_at]
  refine rope_at x4 x5 x6 x7 _ p l _ g cr sr cc sc h4 (h5 l) (h6 l) h7 (cols_real y p Y hy hr 512 _) fun d => ?_
  rw [cols_at y p 512 _ _ ⟨512 + (l.val / 64 * 64 + d.val), by omega⟩ rfl, hy]
  exact congrArg Y (dif_neg (show ¬ 512 + (l.val / 64 * 64 + d.val) < 512 by omega))

/-! ## The values, the branches and the gates -/

include hy in
theorem v_at (l : Fin 128) : (vVal y (ix3 0 l p) : EReal) = Y ⟨640 + l.val, by omega⟩ := by
  unfold vVal
  have e : (k0_pay93 (cols y 640 inb_S256x3840_S256x128_0_640) (ix3 0 l p) : EReal) = cols y 640 inb_S256x3840_S256x128_0_640 (ix2 p l) := by
    pointwise [k0_pay93]
  rw [e, cols_at y p 640 _ _ ⟨640 + l.val, by omega⟩ rfl, hy]
  exact congrArg Y (dif_neg (show ¬ 640 + l.val < 512 by omega))

/-- The kernel's smooth rectifier associates its cube the other way. -/
theorem gelu_eq (z : EReal) : z * (Ideal.ofBits FTy.f32 0x3F000000#32 * (1 + Ideal.tanh (Ideal.ofBits FTy.f32 0x3F4C422A#32
    * (z + Ideal.ofBits FTy.f32 0x3D372713#32 * (z * (z * z)))))) = gelu z := by
  rw [gelu, const_one, mul_assoc z z z]

theorem pay95_at (v : Vec Ideal S256x512 .f32) (j : Fin 512) : (k0_pay95 v (ix2 p j) : EReal) = gelu (v (ix2 p j)) := by
  rw [← gelu_eq]
  pointwise [k0_pay95]

theorem pay96_at (v : Vec Ideal S256x128 .f32) (j : Fin 128) : (k0_pay96 v (ix2 p j) : EReal) = gelu (v (ix2 p j)) := by
  rw [← gelu_eq]
  pointwise [k0_pay96]

include hy in
theorem u_at (j : Fin 512) : (uVal y (ix2 p j) : EReal) = gelu (Y ⟨768 + j.val, by omega⟩) := by
  unfold uVal
  rw [pay95_at, ld_block y 0 768 _ p j p ⟨768 + j.val, by omega⟩ (by omega) rfl, hy]
  exact congrArg (fun n => gelu (Y n)) (dif_neg (show ¬ 768 + j.val < 512 by omega))

include hy in
theorem gate_at (j : Fin 2048) : (View.canon (gatePieces y) (ix2 p j) : EReal) = Ideal.logistic (Y ⟨1792 + j.val, by omega⟩) := by
  have key : ∀ (o : ℕ) (inb) (d : Fin 1024) (i : Fin 3840), i.val = o + d.val → 512 ≤ o →
      (k0_pay65 (View.ld y (Rect.unit ![0, o] S256x1024.size inb)) (ix2 p d) : EReal) = Ideal.logistic (Y i) := fun o inb d i hi ho => by
    have e : (k0_pay65 (View.ld y (Rect.unit ![0, o] S256x1024.size inb)) (ix2 p d) : EReal)
        = Ideal.logistic (View.ld y (Rect.unit ![0, o] S256x1024.size inb) (ix2 p d)) := by
      pointwise [k0_pay65]
    rw [e, ld_block y 0 o _ p d p i (by omega) hi, hy]
    exact congrArg (fun n => Ideal.logistic (Y n)) (dif_neg (by omega))
  unfold gatePieces
  canon_tiles z h
  all_goals
    idx_vars z
    obtain rfl := Fin.ext h0
  · exact key 2816 _ _ _ (by show 1792 + j.val = _; omega) (by decide)
  · exact key 1792 _ _ _ (by show 1792 + j.val = _; omega) (by decide)

/-! ## The normed groups -/

include h4 in
theorem dev_at (v : Vec Ideal S256x128 .f32) (G : Fin 64 → EReal) (l : Fin 128) (hv : ∀ x, IsR (v (ix2 p x)))
    (hG : ∀ d : Fin 64, gelu (v (ix2 p ⟨l.val / 64 * 64 + d.val, by omega⟩)) = G d) :
    (dev x4 v (ix2 p l) : EReal) = gelu (v (ix2 p l)) - mean G := by
  have e : (dev x4 v (ix2 p l) : EReal) = k0_pay96 v (ix2 p l)
      - (∑ x : Fin 128, (k0_pay96 v (ix2 p x) : EReal) * x4 (ix2 ⟨x.val, by omega⟩ l)
        + ∑ x : Fin 128, ((k0_pay96 v (ix2 p x) : EReal) - k0_pay96 v (ix2 p x)) * x4 (ix2 ⟨128 + x.val, by omega⟩ l))
        * Ideal.ofBits FTy.f32 0x3C800000#32 := by
    unfold dev
    generalize k0_pay96 v = w
    pointwise [k0_pay105]
  rw [e]
  simp only [pay96_at]
  rw [split_sum (fun x => gelu (v (ix2 p x))) (fun x => gelu_real (hv x)) (fun k => x4 (ix2 k l)) l (fun k => h4 k l), ← div_group]
  simp only [hG]
  rfl

include h4 in
theorem vnTile_at (v : Vec Ideal S256x128 .f32) (a b : Vec Ideal S1x128 .f32) (G A B : Fin 64 → EReal) (l : Fin 128) (d : Fin 64)
    (hd : l.val = l.val / 64 * 64 + d.val) (hv : ∀ x, IsR (v (ix2 p x)))
    (hG : ∀ d : Fin 64, gelu (v (ix2 p ⟨l.val / 64 * 64 + d.val, by omega⟩)) = G d) (ha : (a (ix2 0 l) : EReal) = A d)
    (hb : (b (ix2 0 l) : EReal) = B d) :
    (vnTile x4 a b v (ix2 p l) : EReal) = layerNorm G A B d := by
  have hl := l.isLt
  have hdev : ∀ x : Fin 128, x.val / 64 = l.val / 64 → (dev x4 v (ix2 p x) : EReal) = gelu (v (ix2 p x)) - mean G := fun x hx =>
    dev_at x4 p h4 v G x hv fun d => by
      rw [← hG]
      exact congrArg (fun n => gelu (v (ix2 p n))) (Fin.ext (by show x.val / 64 * 64 + d.val = l.val / 64 * 64 + d.val; omega))
  have hreal : ∀ x : Fin 128, IsR (dev x4 v (ix2 p x)) := fun x => by
    rw [dev_at x4 p h4 v _ x hv fun d => rfl]
    refine (gelu_real (hv x)).sub ?_
    unfold mean
    rw [div_group]
    exact (IsR.sum _ _ fun d => gelu_real (hv _)).mul ⟨_, const_inv⟩
  have e : (vnTile x4 a b v (ix2 p l) : EReal) = dev x4 v (ix2 p l)
      * Ideal.rsqrt ((∑ x : Fin 128, ((dev x4 v (ix2 p x) : EReal) * dev x4 v (ix2 p x)) * x4 (ix2 ⟨x.val, by omega⟩ l)
        + ∑ x : Fin 128, ((dev x4 v (ix2 p x) : EReal) * dev x4 v (ix2 p x) - (dev x4 v (ix2 p x) : EReal) * dev x4 v (ix2 p x))
          * x4 (ix2 ⟨128 + x.val, by omega⟩ l)) * Ideal.ofBits FTy.f32 0x3C800000#32 + Ideal.ofBits FTy.f32 0x358637BD#32)
      * a (ix2 0 l) + b (ix2 0 l) := by
    unfold vnTile
    generalize dev x4 v = w
    pointwise [k0_pay115, k0_pay109]
  have hg : ∀ d : Fin 64, (dev x4 v (ix2 p ⟨l.val / 64 * 64 + d.val, by omega⟩) : EReal) = G d - mean G := fun d => by
    rw [hdev _ (by show (l.val / 64 * 64 + d.val) / 64 = l.val / 64; omega), hG]
  have hgl : (dev x4 v (ix2 p l) : EReal) = G d - mean G := by
    rw [← hg d]
    exact congrArg (fun n => (dev x4 v (ix2 p n) : EReal)) (Fin.ext hd)
  rw [e, split_sum (fun x => (dev x4 v (ix2 p x) : EReal) * dev x4 v (ix2 p x)) (fun x => (hreal x).mul (hreal x)) (fun k => x4 (ix2 k l)) l
    (fun k => h4 k l), ← div_group]
  simp only [hg, hgl, ha, hb]
  rfl

include h4 hy hr in
theorem vn_at (A B : Fin 8 → Fin 64 → EReal)
    (h9 : ∀ j : Fin 512, (x9 (ix2 0 j) : EReal) = A ⟨j.val / 64, by omega⟩ ⟨j.val % 64, by omega⟩)
    (h10 : ∀ j : Fin 512, (x10 (ix2 0 j) : EReal) = B ⟨j.val / 64, by omega⟩ ⟨j.val % 64, by omega⟩) (j : Fin 512) :
    (View.canon (vnPieces x4 x9 x10 y) (ix2 p j) : EReal)
      = vnEntry Y (A ⟨j.val / 64, by omega⟩) (B ⟨j.val / 64, by omega⟩) ⟨j.val / 64, by omega⟩ ⟨j.val % 64, by omega⟩ := by
  have key : ∀ (o o' : ℕ) (inb inb' inb'') (l : Fin 128), j.val = o + l.val → o' = 1280 + o → o % 128 = 0 →
      (vnTile x4 (View.ld x9 (Rect.unit ![0, o] S1x128.size inb)) (View.ld x10 (Rect.unit ![0, o] S1x128.size inb')) (cols y o' inb'') (ix2 p l) : EReal)
        = vnEntry Y (A ⟨j.val / 64, by omega⟩) (B ⟨j.val / 64, by omega⟩) ⟨j.val / 64, by omega⟩ ⟨j.val % 64, by omega⟩ :=
    fun o o' inb inb' inb'' l hj ho h128 => by
      have hl := l.isLt
      have hjl := j.isLt
      unfold vnEntry
      refine vnTile_at x4 p h4 _ _ _ _ _ _ l _ (by show l.val = l.val / 64 * 64 + j.val % 64; omega) (cols_real y p Y hy hr o' inb'') (fun d => ?_) ?_ ?_
      · rw [cols_at y p o' inb'' _ ⟨o' + (l.val / 64 * 64 + d.val), by omega⟩ rfl, hy]
        refine congrArg (fun n => gelu (Y n)) ((dif_neg (show ¬ o' + (l.val / 64 * 64 + d.val) < 512 by omega)).trans (Fin.ext ?_))
        show o' + (l.val / 64 * 64 + d.val) = 768 + (512 + (j.val / 64 * 64 + d.val))
        omega
      · rw [ld_block x9 0 o inb 0 l 0 j rfl hj, h9]
      · rw [ld_block x10 0 o inb' 0 l 0 j rfl hj, h10]
  unfold vnPieces
  canon_tiles z h
  all_goals
    idx_vars z
    obtain rfl := Fin.ext h0
  · exact key 384 1664 _ _ _ _ h1 rfl rfl
  · exact key 256 1536 _ _ _ _ h1 rfl rfl
  · exact key 128 1408 _ _ _ _ h1 rfl rfl
  · exact key 0 1280 _ _ _ _ (by omega) rfl rfl

end Row

end Cert.Inproj

end
-- ==== Proof.InprojVal.lean ====
/- The projection kernel's results are the reference's. -/
module

public import proofs.«01_k».proof.Defs
public import proofs.«01_k».proof.Proof.Gen.Kernel3Ideal.Value
public import proofs.«01_k».proof.Proof.Gen.Pre_finite_rows
public import proofs.«01_k».proof.Proof.InprojHost
public import proofs.«01_k».proof.Proof.InprojAt

@[expose] public section

set_option maxRecDepth 16384

noncomputable section

namespace Cert.Inproj

open Idealize.ShloMosaic Idealize.ShloMosaic.TcCoe Cert.Kernel3Ideal Cert.Kernel3Ideal.Gen

/-! ## The precondition -/

theorem isR_of_abs_lt {x : EReal} (h : Ideal.cmp .olt (max x (-x)) (Ideal.ofBits .f32 0x7F800000#32) = 1#1) : IsR x := by
  rw [show Ideal.ofBits .f32 0x7F800000#32 = (⊤ : EReal) by simp [Ideal.ofBits, Ideal.ieee]] at h
  induction x using EReal.rec with
  | bot => simp [Ideal.cmp] at h
  | top => simp [Ideal.cmp] at h
  | coe r => exact ⟨r, rfl⟩

variable (m : (ℓ : Loc nD τ sig) → Buf (Elt Ideal) ℓ)

/-- The projected row `s` of batch entry `b`, from the arguments. -/
abbrev rowAt (c : Dev nD) (b : Fin 2) (s : Fin 8192) : Fin 3840 → EReal :=
  projAt (m ((c : Thread nD τ).loc main_arg0)) (m ((c : Thread nD τ).loc main_arg1)) (m ((c : Thread nD τ).loc main_arg2)) b s

theorem row_real (h : Cert.Pre_Kernel3Ideal_finite_rows m) (c : Dev nD) (b : Fin 2) (s : Fin 8192) (n : Fin 3840) : IsR (rowAt m c b s n) := by
  obtain ⟨h0, h1, h2⟩ := h c
  refine proj_real _ _ _ (fun d => ?_) (fun d => ?_) (fun d j => ?_) n
  · exact isR_of_abs_lt (congrFun h0 _)
  · exact isR_of_abs_lt (congrFun h1 _)
  · exact isR_of_abs_lt (congrFun h2 _)

/-! ## A point's blocks -/

theorem projOf_at (c : Dev nD) (t : Fin cfg0.N) (h : t.val < 64) (p : Fin 256) (n : Fin 3840) (b : Fin 2) (s : Fin 8192)
    (e : 256 * t.val + p.val = 8192 * b.val + s.val) : (projOf m c t (ix2 p n) : EReal) = rowAt m c b s (col n) := by
  have hs := s.isLt
  have i1 : ∀ hb, (⟨(256 * t.val + p.val) / 8192, hb⟩ : Fin 2) = b := fun _ => Fin.ext (by show (256 * t.val + p.val) / 8192 = b.val; omega)
  have i2 : ∀ hb, (⟨(256 * t.val + p.val) % 8192, hb⟩ : Fin 8192) = s := fun _ =>
    Fin.ext (by show (256 * t.val + p.val) % 8192 = s.val; omega)
  refine (proj_at _ _ _ _ (fun d j => m ((c : Thread nD τ).loc main_arg2) (ix3 0 d j)) (fun d j => b2_at m c t d j)
    (fun d j => b3_at m c t d j) p n).trans ?_
  simp only [b0_at m c t h, b1_at, i1, i2]

theorem kept_at (c : Dev nD) (t : Fin cfg0.N) (ht : t.val ≠ 0) (p : Fin 256) (b : Fin 2) (s : Fin 8192)
    (e : 256 * (t.val - 1) + p.val = 8192 * b.val + s.val) (n : Fin 3840) :
    (projOf m c (before t) (ix2 p n) : EReal) = rowAt m c b s (col n) := by
  have h65 : t.val < 65 := t.isLt
  exact projOf_at m c (before t) (by show t.val - 1 < 64; omega) p n b s e

theorem cos_at (c : Dev nD) (t : Fin cfg0.N) (p : Fin 256) (b : Fin 2) (s : Fin 8192)
    (e : 256 * (t.val - 1) + p.val = 8192 * b.val + s.val) (l : Fin 128) :
    (iblk m c 5 t (ix2 p l) : EReal) = cosLane (fun d => m ((c : Thread nD τ).loc main_arg7) (ix2 s d)) (fun d => m ((c : Thread nD τ).loc main_arg9) (ix2 s d)) l.val := by
  have i : ∀ hb, (⟨(t.val - 1) % 32 * 256 + p.val, hb⟩ : Fin 8192) = s := fun _ =>
    Fin.ext (by have := s.isLt; show (t.val - 1) % 32 * 256 + p.val = s.val; omega)
  rw [b5_at, i, v9_at]
  rfl

theorem sin_at (c : Dev nD) (t : Fin cfg0.N) (p : Fin 256) (b : Fin 2) (s : Fin 8192)
    (e : 256 * (t.val - 1) + p.val = 8192 * b.val + s.val) (l : Fin 128) :
    (iblk m c 6 t (ix2 p l) : EReal) = sinLane (fun d => m ((c : Thread nD τ).loc main_arg8) (ix2 s d)) (fun d => m ((c : Thread nD τ).loc main_arg10) (ix2 s d)) l.val := by
  have i : ∀ hb, (⟨(t.val - 1) % 32 * 256 + p.val, hb⟩ : Fin 8192) = s := fun _ =>
    Fin.ext (by have := s.isLt; show (t.val - 1) % 32 * 256 + p.val = s.val; omega)
  rw [b6_at, i, v15_at]
  rfl

theorem q_out (h : Cert.Pre_Kernel3Ideal_finite_rows m) (c : Dev nD) (t : Fin cfg0.N) (ht : t.val ≠ 0) (p : Fin 256) (b : Fin 2) (s : Fin 8192)
    (e : 256 * (t.val - 1) + p.val = 8192 * b.val + s.val) (n : Fin 8) (l : Fin 128) :
    ((outsAt0 m c t.val t.isLt).1 (ix4 0 n l p) : EReal)
      = qLane (rowAt m c b s) (fun d => m ((c : Thread nD τ).loc main_arg3) (ix2 0 d))
          (fun d => m ((c : Thread nD τ).loc main_arg7) (ix2 s d)) (fun d => m ((c : Thread nD τ).loc main_arg8) (ix2 s d)) (fun d => m ((c : Thread nD τ).loc main_arg9) (ix2 s d)) (fun d => m ((c : Thread nD τ).loc main_arg10) (ix2 s d)) n l := by
  rw [(outs_eq m c t ht).1]
  exact q_at _ _ _ _ _ p _ _ _ _ _ _ (fun k l => b4_at m c t k l) (cos_at m c t p b s e) (sin_at m c t p b s e)
    (fun l => b7_at m c t l) (kept_at m c t ht p b s e) (row_real m h c b s) n l

theorem k_out (h : Cert.Pre_Kernel3Ideal_finite_rows m) (c : Dev nD) (t : Fin cfg0.N) (ht : t.val ≠ 0) (p : Fin 256) (b : Fin 2) (s : Fin 8192)
    (e : 256 * (t.val - 1) + p.val = 8192 * b.val + s.val) (l : Fin 128) :
    ((outsAt0 m c t.val t.isLt).2.1 (ix2 p l) : EReal)
      = kEntry (rowAt m c b s) (fun d => m ((c : Thread nD τ).loc main_arg4) (ix2 0 d))
          (fun d => m ((c : Thread nD τ).loc main_arg7) (ix2 s d)) (fun d => m ((c : Thread nD τ).loc main_arg8) (ix2 s d)) (fun d => m ((c : Thread nD τ).loc main_arg9) (ix2 s d)) (fun d => m ((c : Thread nD τ).loc main_arg10) (ix2 s d)) ⟨l.val / 64, by omega⟩ ⟨l.val % 64, by omega⟩ := by
  rw [(outs_eq m c t ht).2.1]
  exact k_at _ _ _ _ _ p _ _ _ _ _ _ (fun k l => b4_at m c t k l) (cos_at m c t p b s e) (sin_at m c t p b s e)
    (fun l => b8_at m c t l) (kept_at m c t ht p b s e) (row_real m h c b s) l

theorem v_out (c : Dev nD) (t : Fin cfg0.N) (ht : t.val ≠ 0) (p : Fin 256) (b : Fin 2) (s : Fin 8192)
    (e : 256 * (t.val - 1) + p.val = 8192 * b.val + s.val) (l : Fin 128) :
    ((outsAt0 m c t.val t.isLt).2.2.1 (ix3 0 l p) : EReal) = rowAt m c b s ⟨640 + l.val, by omega⟩ := by
  rw [(outs_eq m c t ht).2.2.1]
  exact v_at _ p _ (kept_at m c t ht p b s e) l

theorem u_out (c : Dev nD) (t : Fin cfg0.N) (ht : t.val ≠ 0) (p : Fin 256) (b : Fin 2) (s : Fin 8192)
    (e : 256 * (t.val - 1) + p.val = 8192 * b.val + s.val) (j : Fin 512) :
    ((outsAt0 m c t.val t.isLt).2.2.2.1 (ix2 p j) : EReal) = gelu (rowAt m c b s ⟨768 + j.val, by omega⟩) := by
  rw [(outs_eq m c t ht).2.2.2.1]
  exact u_at _ p _ (kept_at m c t ht p b s e) j

theorem vn_out (h : Cert.Pre_Kernel3Ideal_finite_rows m) (c : Dev nD) (t : Fin cfg0.N) (ht : t.val ≠ 0) (p : Fin 256) (b : Fin 2) (s : Fin 8192)
    (e : 256 * (t.val - 1) + p.val = 8192 * b.val + s.val) (j : Fin 512) :
    ((outsAt0 m c t.val t.isLt).2.2.2.2.1 (ix2 p j) : EReal)
      = vnEntry (rowAt m c b s) (fun d => m ((c : Thread nD τ).loc main_arg5) (ix3 0 ⟨j.val / 64, by omega⟩ d))
          (fun d => m ((c : Thread nD τ).loc main_arg6) (ix3 0 ⟨j.val / 64, by omega⟩ d)) ⟨j.val / 64, by omega⟩ ⟨j.val % 64, by omega⟩ := by
  rw [(outs_eq m c t ht).2.2.2.2.1]
  exact vn_at _ _ _ _ p _ (fun k l => b4_at m c t k l) (kept_at m c t ht p b s e) (row_real m h c b s)
    (fun n d => m ((c : Thread nD τ).loc main_arg5) (ix3 0 n d)) (fun n d => m ((c : Thread nD τ).loc main_arg6) (ix3 0 n d))
    (fun j => b9_at m c t j) (fun j => b10_at m c t j) j

theorem gate_out (c : Dev nD) (t : Fin cfg0.N) (ht : t.val ≠ 0) (p : Fin 256) (b : Fin 2) (s : Fin 8192)
    (e : 256 * (t.val - 1) + p.val = 8192 * b.val + s.val) (j : Fin 2048) :
    ((outsAt0 m c t.val t.isLt).2.2.2.2.2.1 (ix2 p j) : EReal) = Ideal.logistic (rowAt m c b s ⟨1792 + j.val, by omega⟩) := by
  rw [(outs_eq m c t ht).2.2.2.2.2]
  exact gate_at _ p _ (kept_at m c t ht p b s e) j

/-! ## The results -/

theorem flush_pos : ∀ t : Fin cfg0.N, ((cfg0.win 11).flush t = true → t.val ≠ 0) ∧ ((cfg0.win 12).flush t = true → t.val ≠ 0)
    ∧ ((cfg0.win 13).flush t = true → t.val ≠ 0) ∧ ((cfg0.win 14).flush t = true → t.val ≠ 0) ∧ ((cfg0.win 15).flush t = true → t.val ≠ 0)
    ∧ ((cfg0.win 16).flush t = true → t.val ≠ 0) := (by decide +kernel : ∀ t : Fin grid0.N, _)

theorem q_eq (h : Cert.Pre_Kernel3Ideal_finite_rows m) (c : Dev nD) :
    (dats m 0 c).arrAt 11 cfg0.N = Cert.Reference3Ideal.Read.val_main_v166 (F := Ideal) (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (m ((c : Thread nD τ).loc main_arg9)) (m ((c : Thread nD τ).loc main_arg10)) := by
  refine (dats m 0 c).arrAt_eq_of_covers 11 _ (by decide +kernel) fun t hf y => ?_
  have ht := (flush_pos t).1 hf
  have h65 : t.val < 65 := t.isLt
  blk_simp [idxs t]
  rw [after0_11]
  idx_vars y
  have hd : (win0_11.blk t).view.emb (ix4 y0 y1 y2 y3) = ix4 ⟨t.val - 1, by omega⟩ y1 y2 y3 := by
    blk_ext [idxs t]
  rw [hd]
  obtain rfl : y0 = 0 := Fin.ext (by have : y0.val < 1 := y0.isLt; show y0.val = 0; omega)
  refine (q_out m h c t ht y3 ⟨(t.val - 1) / 32, by omega⟩ ⟨(t.val - 1) % 32 * 256 + y3.val, by omega⟩ ?_ y1 y2).trans (ref_qt _ _ _ _ _ _ _ _ ⟨t.val - 1, by omega⟩ y1 y2 y3).symm
  show 256 * (t.val - 1) + y3.val = 8192 * ((t.val - 1) / 32) + ((t.val - 1) % 32 * 256 + y3.val)
  omega

theorem k_eq (h : Cert.Pre_Kernel3Ideal_finite_rows m) (c : Dev nD) :
    (dats m 0 c).arrAt 12 cfg0.N = Cert.Reference3Ideal.Read.val_main_v171 (F := Ideal) (m ((c : Thread nD τ).loc main_arg0)) (m ((c : Thread nD τ).loc main_arg1)) (m ((c : Thread nD τ).loc main_arg2)) (m ((c : Thread nD τ).loc main_arg4)) (m ((c : Thread nD τ).loc main_arg7)) (m ((c : Thread nD τ).loc main_arg8)) (m ((c : Thread nD τ).loc main_arg9)) (m ((c : Thread nD τ).loc main_arg10)) := by
  refine (dats m 0 c).arrAt_eq_of_covers 12 _ (by decide +kernel) fun t hf y => ?_
  have ht := (flush_pos t).2.1 hf
  have h65 : t.val < 65 := t.isLt
  blk_simp [idxs t]
  rw [after0_12]
  idx_vars y
  have hd : (win0_12.blk t).view.emb (ix2 y0 y1) = ix2 ⟨256 * (t.val - 1) + y0.val, by omega⟩ y1 := by
    blk_ext [idxs t]
  rw [hd]
  refine (k_out m h c t ht y0 ⟨(256 * (t.val - 1) + y0.val) / 8192, by omega⟩ ⟨(256 * (t.val - 1) + y0.val) % 8192, by omega⟩ ?_ y1).trans (ref_kt _ _ _ _ _ _ _ _ ⟨256 * (t.val - 1) + y0.val, by omega⟩ y1).symm
  show 256 * (t.val - 1) + y0.val = 8192 * ((256 * (t.val - 1) + y0.val) / 8192) + (256 * (t.val - 1) + y0.val) % 8192
  omega

theorem v_eq (c : Dev nD) :
    (dats m 0 c).arrAt 13 cfg0.N = Cert.Reference3Ideal.Read.val_main_v169 (F := Ideal) (m ((c : Thread nD τ).loc main_arg0)) (m ((c : Thread nD τ).loc main_arg1)) (m ((c : Thread nD τ).loc main_arg2)) := by
  refine (dats m 0 c).arrAt_eq_of_covers 13 _ (by decide +kernel) fun t hf y => ?_
  have ht := (flush_pos t).2.2.1 hf
  have h65 : t.val < 65 := t.isLt
  blk_simp [idxs t]
  rw [after0_13]
  idx_vars y
  have hd : (win0_13.blk t).view.emb (ix3 y0 y1 y2) = ix3 ⟨t.val - 1, by omega⟩ y1 y2 := by
    blk_ext [idxs t]
  rw [hd]
  obtain rfl : y0 = 0 := Fin.ext (by have : y0.val < 1 := y0.isLt; show y0.val = 0; omega)
  refine (v_out m c t ht y2 ⟨(t.val - 1) / 32, by omega⟩ ⟨(t.val - 1) % 32 * 256 + y2.val, by omega⟩ ?_ y1).trans (ref_vt _ _ _ ⟨t.val - 1, by omega⟩ y1 y2).symm
  show 256 * (t.val - 1) + y2.val = 8192 * ((t.val - 1) / 32) + ((t.val - 1) % 32 * 256 + y2.val)
  omega

theorem u_eq (c : Dev nD) :
    (dats m 0 c).arrAt 14 cfg0.N = Cert.Reference3Ideal.Read.val_main_v172 (F := Ideal) (m ((c : Thread nD τ).loc main_arg0)) (m ((c : Thread nD τ).loc main_arg1)) (m ((c : Thread nD τ).loc main_arg2)) := by
  refine (dats m 0 c).arrAt_eq_of_covers 14 _ (by decide +kernel) fun t hf y => ?_
  have ht := (flush_pos t).2.2.2.1 hf
  have h65 : t.val < 65 := t.isLt
  blk_simp [idxs t]
  rw [after0_14]
  idx_vars y
  have hd : (win0_14.blk t).view.emb (ix2 y0 y1) = ix2 ⟨256 * (t.val - 1) + y0.val, by omega⟩ y1 := by
    blk_ext [idxs t]
  rw [hd]
  refine (u_out m c t ht y0 ⟨(256 * (t.val - 1) + y0.val) / 8192, by omega⟩ ⟨(256 * (t.val - 1) + y0.val) % 8192, by omega⟩ ?_ y1).trans (ref_u _ _ _ ⟨256 * (t.val - 1) + y0.val, by omega⟩ y1).symm
  show 256 * (t.val - 1) + y0.val = 8192 * ((256 * (t.val - 1) + y0.val) / 8192) + (256 * (t.val - 1) + y0.val) % 8192
  omega

theorem vn_eq (h : Cert.Pre_Kernel3Ideal_finite_rows m) (c : Dev nD) :
    (dats m 0 c).arrAt 15 cfg0.N = Cert.Reference3Ideal.Read.val_main_v174 (F := Ideal) (m ((c : Thread nD τ).loc main_arg0)) (m ((c : Thread nD τ).loc main_arg1)) (m ((c : Thread nD τ).loc main_arg2)) (m ((c : Thread nD τ).loc main_arg5)) (m ((c : Thread nD τ).loc main_arg6)) := by
  refine (dats m 0 c).arrAt_eq_of_covers 15 _ (by decide +kernel) fun t hf y => ?_
  have ht := (flush_pos t).2.2.2.2.1 hf
  have h65 : t.val < 65 := t.isLt
  blk_simp [idxs t]
  rw [after0_15]
  idx_vars y
  have hd : (win0_15.blk t).view.emb (ix2 y0 y1) = ix2 ⟨256 * (t.val - 1) + y0.val, by omega⟩ y1 := by
    blk_ext [idxs t]
  rw [hd]
  refine (vn_out m h c t ht y0 ⟨(256 * (t.val - 1) + y0.val) / 8192, by omega⟩ ⟨(256 * (t.val - 1) + y0.val) % 8192, by omega⟩ ?_ y1).trans (ref_vnt _ _ _ _ _ ⟨256 * (t.val - 1) + y0.val, by omega⟩ y1).symm
  show 256 * (t.val - 1) + y0.val = 8192 * ((256 * (t.val - 1) + y0.val) / 8192) + (256 * (t.val - 1) + y0.val) % 8192
  omega

theorem gate_eq (c : Dev nD) :
    (dats m 0 c).arrAt 16 cfg0.N = Cert.Reference3Ideal.Read.val_main_v181 (F := Ideal) (m ((c : Thread nD τ).loc main_arg0)) (m ((c : Thread nD τ).loc main_arg1)) (m ((c : Thread nD τ).loc main_arg2)) := by
  refine (dats m 0 c).arrAt_eq_of_covers 16 _ (by decide +kernel) fun t hf y => ?_
  have ht := (flush_pos t).2.2.2.2.2 hf
  have h65 : t.val < 65 := t.isLt
  blk_simp [idxs t]
  rw [after0_16]
  idx_vars y
  have hd : (win0_16.blk t).view.emb (ix2 y0 y1) = ix2 ⟨256 * (t.val - 1) + y0.val, by omega⟩ y1 := by
    blk_ext [idxs t]
  rw [hd]
  refine (gate_out m c t ht y0 ⟨(256 * (t.val - 1) + y0.val) / 8192, by omega⟩ ⟨(256 * (t.val - 1) + y0.val) % 8192, by omega⟩ ?_ y1).trans (ref_gate _ _ _ ⟨256 * (t.val - 1) + y0.val, by omega⟩ y1).symm
  show 256 * (t.val - 1) + y0.val = 8192 * ((256 * (t.val - 1) + y0.val) / 8192) + (256 * (t.val - 1) + y0.val) % 8192
  omega

end Cert.Inproj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite_rows
public import proofs.«01_k».proof.Proof.Attention
public import proofs.«01_k».proof.Proof.MergeVal
public import proofs.«01_k».proof.Proof.MergeText
public import proofs.«01_k».proof.Proof.InprojVal
public import Idealize.ShloMosaic.Adequacy
public import Idealize.ShloMosaic.Init

@[expose] public section

noncomputable section

namespace Cert.Proof

open Idealize.ShloMosaic Idealize.SL.Sem

theorem frame_kernel : Cert.quiescent_Kernel := fun m g _ => Cert.Kernel.Gen.frame m g

theorem frame_kernelIdeal : Cert.quiescent_KernelIdeal := fun m g _ => Cert.KernelIdeal.Gen.frame m g

theorem frame_referenceIdeal : Cert.quiescent_ReferenceIdeal := by
  intro m g _
  refine (θ_run _ _ _).mono (fun r h => ⟨fun c => (h c).2, ?_⟩) (Cert.ReferenceIdeal.Value.run (F := Ideal) m g)
  exact sem_eq_zero_of_no_sems rfl r.2

theorem preserves : Cert.preserves_Kernel_KernelIdeal :=
  IdealRules.named_const.statement Cert.KernelIdeal.κ "qk_scale_log2" .f32 0x3E38AA3B#32
    (((Real.log 2)⁻¹ * (Real.sqrt 64)⁻¹ : ℝ) : EReal) rfl

theorem algebraic : Cert.algebraic_KernelIdeal_ReferenceIdeal_pre_finite_scores := by
  intro m g m' g' hpre hargs
  refine ⟨fun c => (Cert.KernelIdeal.Gen.dats m 0 c).arrAt 4 Cert.KernelIdeal.cfg0.N, Cert.KernelIdeal.Value.run_blocks m g,
    (θ_run _ _ _).mono (fun r h c => ⟨(h c).1.trans ?_, (h c).2⟩) (Cert.ReferenceIdeal.Value.run m' g')⟩
  obtain ⟨h0, h1, h2, -, -⟩ := hargs c
  rw [h0, h1, h2]
  exact (Cert.ReferenceIdeal.Read.val_main_v21_eq _ _ _).trans (Cert.Attn.result_eq m hpre c).symm

theorem frame_kernel2 : Cert.quiescent_Kernel2 := Cert.Merge.frame_bits

theorem frame_kernel2Ideal : Cert.quiescent_Kernel2Ideal := fun m g _ => Cert.Merge.frame_any (F := Ideal) m g

theorem frame_reference2Ideal : Cert.quiescent_Reference2Ideal := by
  intro m g _
  refine (θ_run _ _ _).mono (fun r h => ⟨fun c => (h c).2, ?_⟩) (Cert.Reference2Ideal.Value.run (F := Ideal) m g)
  exact sem_eq_zero_of_no_sems rfl r.2

theorem preserves2 : Cert.preserves_Kernel2_Kernel2Ideal := trivial

theorem algebraic2 : Cert.algebraic_Kernel2Ideal_Reference2Ideal := by
  intro m g m' g' _ hargs
  refine ⟨fun c => (Cert.Merge.dats m 0 c).arrAt 14 Cert.Kernel2Ideal.cfg0.N,
    (θ_run _ _ _).mono (fun r h c => ⟨h.1.out_eq c 14, h.2 c⟩)
      (θ_run_and (Cert.Merge.run_main (F := Ideal) m g) (Cert.Merge.args_kept (F := Ideal) m g)),
    (θ_run _ _ _).mono (fun r h c => ⟨(h c).1.trans ?_, (h c).2⟩) (Cert.Reference2Ideal.Value.run m' g')⟩
  obtain ⟨h0, h1, h2, h3, h4, h5, h6, h7, h8, h9, h10, h11, h12, h13⟩ := hargs c
  refine (Cert.Reference2Ideal.Read.val_main_v59_eq m' c).trans ?_
  rw [h0, h1, h2, h3, h4, h5, h6, h7, h8, h9, h10, h11, h12, h13]
  exact Cert.Merge.result_eq m c

theorem frame_kernel3 : Cert.quiescent_Kernel3 := fun m g _ => Cert.Kernel3.Gen.frame m g

theorem frame_kernel3Ideal : Cert.quiescent_Kernel3Ideal := fun m g _ => Cert.Kernel3Ideal.Gen.frame m g

theorem frame_reference3Ideal : Cert.quiescent_Reference3Ideal := by
  intro m g _
  refine (θ_run _ _ _).mono (fun r h => ⟨fun c => (h c).2.2.2.2.2.2, ?_⟩) (Cert.Reference3Ideal.Value.run (F := Ideal) m g)
  exact sem_eq_zero_of_no_sems rfl r.2

theorem preserves3 : Cert.preserves_Kernel3_Kernel3Ideal := trivial

set_option maxHeartbeats 2000000 in
theorem algebraic3 : Cert.algebraic_Kernel3Ideal_Reference3Ideal_pre_finite_rows := by
  intro m g m' g' hpre hargs
  refine ⟨fun c => (Cert.Kernel3Ideal.Gen.dats m 0 c).arrAt 11 Cert.Kernel3Ideal.cfg0.N,
    fun c => (Cert.Kernel3Ideal.Gen.dats m 0 c).arrAt 12 Cert.Kernel3Ideal.cfg0.N,
    fun c => (Cert.Kernel3Ideal.Gen.dats m 0 c).arrAt 13 Cert.Kernel3Ideal.cfg0.N,
    fun c => (Cert.Kernel3Ideal.Gen.dats m 0 c).arrAt 14 Cert.Kernel3Ideal.cfg0.N,
    fun c => (Cert.Kernel3Ideal.Gen.dats m 0 c).arrAt 15 Cert.Kernel3Ideal.cfg0.N,
    fun c => (Cert.Kernel3Ideal.Gen.dats m 0 c).arrAt 16 Cert.Kernel3Ideal.cfg0.N, Cert.Kernel3Ideal.Value.run_blocks m g,
    (θ_run _ _ _).mono (fun r h c => ?_) (Cert.Reference3Ideal.Value.run m' g')⟩
  obtain ⟨h0, h1, h2, h3, h4, h5, h6, h7, h8, h9, h10⟩ := hargs c
  obtain ⟨r0, r1, r2, r3, r4, r5, kept⟩ := h c
  refine ⟨r0.trans ?_, r1.trans ?_, r2.trans ?_, r3.trans ?_, r4.trans ?_, r5.trans ?_, kept⟩
  · refine Eq.trans (b := Cert.Reference3Ideal.Read.val_main_v166 (F := Ideal)
        (m' ((c.tc : Thread Cert.Reference3Ideal.nD Cert.Reference3Ideal.τ).loc Cert.Reference3Ideal.main_arg0))
        (m' ((c.tc : Thread Cert.Reference3Ideal.nD Cert.Reference3Ideal.τ).loc Cert.Reference3Ideal.main_arg1))
        (m' ((c.tc : Thread Cert.Reference3Ideal.nD Cert.Reference3Ideal.τ).loc Cert.Reference3Ideal.main_arg2))
        (m' ((c.tc : Thread Cert.Reference3Ideal.nD Cert.Reference3Ideal.τ).loc Cert.Reference3Ideal.main_arg3))
        (m' ((c.tc : Thread Cert.Reference3Ideal.nD Cert.Reference3Ideal.τ).loc Cert.Reference3Ideal.main_arg7))
        (m' ((c.tc : Thread Cert.Reference3Ideal.nD Cert.Reference3Ideal.τ).loc Cert.Reference3Ideal.main_arg8))
        (m' ((c.tc : Thread Cert.Reference3Ideal.nD Cert.Reference3Ideal.τ).loc Cert.Reference3Ideal.main_arg9))
        (m' ((c.tc : Thread Cert.Reference3Ideal.nD Cert.Reference3Ideal.τ).loc Cert.Reference3Ideal.main_arg10)))
      (Cert.Reference3Ideal.Read.val_main_v166_eq _) ?_
    rw [h0, h1, h2, h3, h7, h8, h9, h10]
    exact (Cert.Inproj.q_eq m hpre c).symm
  · refine Eq.trans (b := Cert.Reference3Ideal.Read.val_main_v171 (F := Ideal)
        (m' ((c.tc : Thread Cert.Reference3Ideal.nD Cert.Reference3Ideal.τ).loc Cert.Reference3Ideal.main_arg0))
        (m' ((c.tc : Thread Cert.Reference3Ideal.nD Cert.Reference3Ideal.τ).loc Cert.Reference3Ideal.main_arg1))
        (m' ((c.tc : Thread Cert.Reference3Ideal.nD Cert.Reference3Ideal.τ).loc Cert.Reference3Ideal.main_arg2))
        (m' ((c.tc : Thread Cert.Reference3Ideal.nD Cert.Reference3Ideal.τ).loc Cert.Reference3Ideal.main_arg4))
        (m' ((c.tc : Thread Cert.Reference3Ideal.nD Cert.Reference3Ideal.τ).loc Cert.Reference3Ideal.main_arg7))
        (m' ((c.tc : Thread Cert.Reference3Ideal.nD Cert.Reference3Ideal.τ).loc Cert.Reference3Ideal.main_arg8))
        (m' ((c.tc : Thread Cert.Reference3Ideal.nD Cert.Reference3Ideal.τ).loc Cert.Reference3Ideal.main_arg9))
        (m' ((c.tc : Thread Cert.Reference3Ideal.nD Cert.Reference3Ideal.τ).loc Cert.Reference3Ideal.main_arg10)))
      (Cert.Reference3Ideal.Read.val_main_v171_eq _) ?_
    rw [h0, h1, h2, h4, h7, h8, h9, h10]
    exact (Cert.Inproj.k_eq m hpre c).symm
  · refine Eq.trans (b := Cert.Reference3Ideal.Read.val_main_v169 (F := Ideal)
        (m' ((c.tc : Thread Cert.Reference3Ideal.nD Cert.Reference3Ideal.τ).loc Cert.Reference3Ideal.main_arg0))
        (m' ((c.tc : Thread Cert.Reference3Ideal.nD Cert.Reference3Ideal.τ).loc Cert.Reference3Ideal.main_arg1))
        (m' ((c.tc : Thread Cert.Reference3Ideal.nD Cert.Reference3Ideal.τ).loc Cert.Reference3Ideal.main_arg2)))
      (Cert.Reference3Ideal.Read.val_main_v169_eq _) ?_
    rw [h0, h1, h2]
    exact (Cert.Inproj.v_eq m c).symm
  · refine Eq.trans (b := Cert.Reference3Ideal.Read.val_main_v172 (F := Ideal)
        (m' ((c.tc : Thread Cert.Reference3Ideal.nD Cert.Reference3Ideal.τ).loc Cert.Reference3Ideal.main_arg0))
        (m' ((c.tc : Thread Cert.Reference3Ideal.nD Cert.Reference3Ideal.τ).loc Cert.Reference3Ideal.main_arg1))
        (m' ((c.tc : Thread Cert.Reference3Ideal.nD Cert.Reference3Ideal.τ).loc Cert.Reference3Ideal.main_arg2)))
      (Cert.Reference3Ideal.Read.val_main_v172_eq _) ?_
    rw [h0, h1, h2]
    exact (Cert.Inproj.u_eq m c).symm
  · refine Eq.trans (b := Cert.Reference3Ideal.Read.val_main_v174 (F := Ideal)
        (m' ((c.tc : Thread Cert.Reference3Ideal.nD Cert.Reference3Ideal.τ).loc Cert.Reference3Ideal.main_arg0))
        (m' ((c.tc : Thread Cert.Reference3Ideal.nD Cert.Reference3Ideal.τ).loc Cert.Reference3Ideal.main_arg1))
        (m' ((c.tc : Thread Cert.Reference3Ideal.nD Cert.Reference3Ideal.τ).loc Cert.Reference3Ideal.main_arg2))
        (m' ((c.tc : Thread Cert.Reference3Ideal.nD Cert.Reference3Ideal.τ).loc Cert.Reference3Ideal.main_arg5))
        (m' ((c.tc : Thread Cert.Reference3Ideal.nD Cert.Reference3Ideal.τ).loc Cert.Reference3Ideal.main_arg6)))
      (Cert.Reference3Ideal.Read.val_main_v174_eq _) ?_
    rw [h0, h1, h2, h5, h6]
    exact (Cert.Inproj.vn_eq m hpre c).symm
  · refine Eq.trans (b := Cert.Reference3Ideal.Read.val_main_v181 (F := Ideal)
        (m' ((c.tc : Thread Cert.Reference3Ideal.nD Cert.Reference3Ideal.τ).loc Cert.Reference3Ideal.main_arg0))
        (m' ((c.tc : Thread Cert.Reference3Ideal.nD Cert.Reference3Ideal.τ).loc Cert.Reference3Ideal.main_arg1))
        (m' ((c.tc : Thread Cert.Reference3Ideal.nD Cert.Reference3Ideal.τ).loc Cert.Reference3Ideal.main_arg2)))
      (Cert.Reference3Ideal.Read.val_main_v181_eq _) ?_
    rw [h0, h1, h2]
    exact (Cert.Inproj.gate_eq m c).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Attn.preFacts, Cert.Pre_finite_rows.Gen.facts,
  frame_kernel, frame_kernelIdeal, fun m g _ => frame_kernelIdeal m g trivial,
  frame_referenceIdeal, fun m g _ => frame_referenceIdeal m g trivial, frame_kernel2, frame_kernel2Ideal, frame_reference2Ideal,
  frame_kernel3, frame_kernel3Ideal, fun m g _ => frame_kernel3Ideal m g trivial,
  frame_reference3Ideal, fun m g _ => frame_reference3Ideal m g trivial,
  preserves, algebraic, preserves2, algebraic2, preserves3, algebraic3⟩

end Cert.Proof

end
